-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args_KernelIdeal [hPre_finite_args_KernelIdeal : Cert.Pre_finite_args_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_args_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_args_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args_ReferenceIdeal [hPre_finite_args_ReferenceIdeal : Cert.Pre_finite_args_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_args_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_args_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args_KernelIdeal [hKernelIdeal : Cert.KernelIdeal.Facts] [hPre_finite_args_KernelIdeal : Cert.Pre_finite_args_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args_ReferenceIdeal [hReferenceIdeal : Cert.ReferenceIdeal.Facts] [hPre_finite_args_ReferenceIdeal : Cert.Pre_finite_args_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_args_KernelIdeal [hKernelIdeal : Cert.KernelIdeal.Facts] [hReferenceIdeal : Cert.ReferenceIdeal.Facts] [hPre_finite_args_KernelIdeal : Cert.Pre_finite_args_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_args_KernelIdeal : Cert.Pre_finite_args_KernelIdeal.Facts) (hPre_finite_args_ReferenceIdeal : Cert.Pre_finite_args_ReferenceIdeal.Facts),
    quiescent_Kernel (hKernel := hKernel)
    ∧ quiescent_KernelIdeal (hKernelIdeal := hKernelIdeal)
    ∧ quiescent_KernelIdeal_pre_finite_args_KernelIdeal (hKernelIdeal := hKernelIdeal) (hPre_finite_args_KernelIdeal := hPre_finite_args_KernelIdeal)
    ∧ quiescent_ReferenceIdeal (hReferenceIdeal := hReferenceIdeal)
    ∧ quiescent_ReferenceIdeal_pre_finite_args_ReferenceIdeal (hReferenceIdeal := hReferenceIdeal) (hPre_finite_args_ReferenceIdeal := hPre_finite_args_ReferenceIdeal)
    ∧ preserves_Kernel_KernelIdeal
    ∧ algebraic_KernelIdeal_ReferenceIdeal_pre_finite_args_KernelIdeal (hKernelIdeal := hKernelIdeal) (hReferenceIdeal := hReferenceIdeal) (hPre_finite_args_KernelIdeal := hPre_finite_args_KernelIdeal)
-- ==== Pre_finite_args_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .bf16) (main_arg1 : FVec F S768x512 .bf16) (main_arg2 : FVec F S2x512x64x64 .bf16) (main_arg3 : FVec F S2x512x64x64 .bf16) (main_arg4 : FVec F S512x768 .bf16) : IVec S2x512x768 1 × IVec S768x512 1 × IVec S2x512x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x64x64 .f32 := (extf .f32 · bitsLt_bf16_f32) main_arg2
  let main_v9 : FVec F S2x512x64x64 .f32 := Host.absf main_v8
  let main_cst_1 : FVec F S_ .f32 := constant S_ .f32 0x7F800000#32
  let main_v10 : FVec F S2x512x64x64 .f32 := broadcastInDim S2x512x64x64 ![] bcast_S_S2x512x64x64 main_cst_1
  let main_v11 : IVec S2x512x64x64 1 := cmpf .olt main_v9 main_v10
  (main_v3, main_v7, main_v11)
-- ==== Pre_finite_args_ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x4096x64x64 : S_.BroadcastsInDim S2x4096x64x64 (![] : Fin 0 → Fin S2x4096x64x64.rank)

variable [Facts]

def fn {F : FTy → Type} [FloatOps F] (main_arg0 : FVec F S2x512x768 .bf16) (main_arg1 : FVec F S768x4096 .bf16) (main_arg2 : FVec F S2x4096x64x64 .bf16) (main_arg3 : FVec F S2x4096x64x64 .bf16) (main_arg4 : FVec F S4096x768 .bf16) : IVec S2x512x768 1 × IVec S768x4096 1 × IVec S2x4096x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x4096 .f32 := (extf .f32 · bitsLt_bf16_f32) main_arg1
  let main_v5 : FVec F S768x4096 .f32 := Host.absf main_v4
  let main_cst_0 : FVec F S_ .f32 := constant S_ .f32 0x7F800000#32
  let main_v6 : FVec F S768x4096 .f32 := broadcastInDim S768x4096 ![] bcast_S_S768x4096 main_cst_0
  let main_v7 : IVec S768x4096 1 := cmpf .olt main_v5 main_v6
  let main_v8 : FVec F S2x4096x64x64 .f32 := (extf .f32 · bitsLt_bf16_f32) main_arg2
  let main_v9 : FVec F S2x4096x64x64 .f32 := Host.absf main_v8
  let main_cst_1 : FVec F S_ .f32 := constant S_ .f32 0x7F800000#32
  let main_v10 : FVec F S2x4096x64x64 .f32 := broadcastInDim S2x4096x64x64 ![] bcast_S_S2x4096x64x64 main_cst_1
  let main_v11 : IVec S2x4096x64x64 1 := cmpf .olt main_v9 main_v10
  (main_v3, main_v7, main_v11)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S2x512x4096 : Shape := ⟨3, ![2, 512, 4096]⟩
abbrev S2x640x512 : Shape := ⟨3, ![2, 640, 512]⟩
abbrev S2x448x768 : Shape := ⟨3, ![2, 448, 768]⟩
abbrev S2x256x768 : Shape := ⟨3, ![2, 256, 768]⟩
abbrev S2x8 : Shape := ⟨2, ![2, 8]⟩
abbrev S2x2 : Shape := ⟨2, ![2, 2]⟩
abbrev S3 : Shape := ⟨1, ![3]⟩
abbrev S_ : Shape := ⟨0, ![]⟩
abbrev S1x1 : Shape := ⟨2, ![1, 1]⟩
abbrev S2x512x512 : Shape := ⟨3, ![2, 512, 512]⟩
abbrev S2x128x512 : Shape := ⟨3, ![2, 128, 512]⟩
abbrev S512x640 : Shape := ⟨2, ![512, 640]⟩
abbrev S1x512x768 : Shape := ⟨3, ![1, 512, 768]⟩
abbrev S512x512 : Shape := ⟨2, ![512, 512]⟩
abbrev S512x64 : Shape := ⟨2, ![512, 64]⟩
abbrev S1x640x64 : Shape := ⟨3, ![1, 640, 64]⟩
abbrev S640x64 : Shape := ⟨2, ![640, 64]⟩
abbrev S512 : Shape := ⟨1, ![512]⟩
abbrev S512x1 : Shape := ⟨2, ![512, 1]⟩
abbrev S1 : Shape := ⟨1, ![1]⟩
abbrev S2x128x768 : Shape := ⟨3, ![2, 128, 768]⟩
abbrev S2x64x768 : Shape := ⟨3, ![2, 64, 768]⟩

abbrev nBuf : Space → Nat
  | .hbm => 8
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S2x512x4096, .bf16⟩
  | .hbm, ⟨6, _⟩ => ⟨S2x512x4096, .bf16⟩
  | .hbm, ⟨7, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x4096, .bf16⟩
  | .local _ .vmem, ⟨3, _⟩ => ⟨S2x512x4096, .bf16⟩
  | .local _ .vmem, ⟨4, _⟩ => ⟨S512x768, .bf16⟩
  | .local _ .vmem, ⟨5, _⟩ => ⟨S2x512x768, .f32⟩
  | .local _ .vmem, ⟨6, _⟩ => ⟨S2x640x512, .bf16⟩
  | .local _ .vmem, ⟨7, _⟩ => ⟨S2x640x512, .bf16⟩
  | .local _ .vmem, ⟨8, _⟩ => ⟨S2x448x768, .bf16⟩
  | .local _ .vmem, ⟨9, _⟩ => ⟨S2x256x768, .bf16⟩
  | .local _ .vmem, ⟨10, _⟩ => ⟨S2x512x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v32 : BitVec 1 := Scalar.cmpi .eq v2 c0_i32_29
  let v33 : BitVec 32 := Scalar.extui v32
  let c0_i32_30 : BitVec 32 := 0#32
  let v34 : BitVec 1 := Scalar.cmpi .ne v33 c0_i32_30
  v34

def k0_dev8 : Nat :=
  let c0_i32_486 : BitVec 32 := 0#32
  let c1_i32_484 : BitVec 32 := 1#32
  let c1_i32_485 : BitVec 32 := 1#32
  let v651 : BitVec 32 := Scalar.muli c1_i32_484 c1_i32_485
  let v652 : BitVec 32 := Scalar.addi c0_i32_486 v651
  v652.toNat
def k0_dev9 : Nat :=
  let c0_i32_498 : BitVec 32 := 0#32
  let c2_i32_496 : BitVec 32 := 2#32
  let c1_i32_497 : BitVec 32 := 1#32
  let v659 : BitVec 32 := Scalar.muli c2_i32_496 c1_i32_497
  let v660 : BitVec 32 := Scalar.addi c0_i32_498 v659
  v660.toNat
def k0_dev10 : Nat :=
  let c0_i32_510 : BitVec 32 := 0#32
  let c3_i32_508 : BitVec 32 := 3#32
  let c1_i32_509 : BitVec 32 := 1#32
  let v667 : BitVec 32 := Scalar.muli c3_i32_508 c1_i32_509
  let v668 : BitVec 32 := Scalar.addi c0_i32_510 v667
  v668.toNat
def k0_dev11 : Nat :=
  let c0_i32_522 : BitVec 32 := 0#32
  let c4_i32_520 : BitVec 32 := 4#32
  let c1_i32_521 : BitVec 32 := 1#32
  let v675 : BitVec 32 := Scalar.muli c4_i32_520 c1_i32_521
  let v676 : BitVec 32 := Scalar.addi c0_i32_522 v675
  v676.toNat
def k0_dev12 : Nat :=
  let c0_i32_534 : BitVec 32 := 0#32
  let c5_i32_532 : BitVec 32 := 5#32
  let c1_i32_533 : BitVec 32 := 1#32
  let v683 : BitVec 32 := Scalar.muli c5_i32_532 c1_i32_533
  let v684 : BitVec 32 := Scalar.addi c0_i32_534 v683
  v684.toNat
def k0_dev13 : Nat :=
  let c0_i32_546 : BitVec 32 := 0#32
  let c6_i32_544 : BitVec 32 := 6#32
  let c1_i32_545 : BitVec 32 := 1#32
  let v691 : BitVec 32 := Scalar.muli c6_i32_544 c1_i32_545
  let v692 : BitVec 32 := Scalar.addi c0_i32_546 v691
  v692.toNat
def k0_dev14 : Nat :=
  let c0_i32_558 : BitVec 32 := 0#32
  let c7_i32_556 : BitVec 32 := 7#32
  let c1_i32_557 : BitVec 32 := 1#32
  let v699 : BitVec 32 := Scalar.muli c7_i32_556 c1_i32_557
  let v700 : BitVec 32 := Scalar.addi c0_i32_558 v699
  v700.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v35 : BitVec 1 := Scalar.cmpi .eq v2 c1_i32_31
  let v36 : BitVec 32 := Scalar.extui v35
  let c0_i32_32 : BitVec 32 := 0#32
  let v37 : BitVec 1 := Scalar.cmpi .ne v36 c0_i32_32
  v37

def k0_dev15 : Nat :=
  let c0_i32_486 : BitVec 32 := 0#32
  let c0_i32_484 : BitVec 32 := 0#32
  let c1_i32_485 : BitVec 32 := 1#32
  let v651 : BitVec 32 := Scalar.muli c0_i32_484 c1_i32_485
  let v652 : BitVec 32 := Scalar.addi c0_i32_486 v651
  v652.toNat
def k0_dev16 : Nat :=
  let c0_i32_498 : BitVec 32 := 0#32
  let c2_i32_496 : BitVec 32 := 2#32
  let c1_i32_497 : BitVec 32 := 1#32
  let v659 : BitVec 32 := Scalar.muli c2_i32_496 c1_i32_497
  let v660 : BitVec 32 := Scalar.addi c0_i32_498 v659
  v660.toNat
def k0_dev17 : Nat :=
  let c0_i32_510 : BitVec 32 := 0#32
  let c3_i32_508 : BitVec 32 := 3#32
  let c1_i32_509 : BitVec 32 := 1#32
  let v667 : BitVec 32 := Scalar.muli c3_i32_508 c1_i32_509
  let v668 : BitVec 32 := Scalar.addi c0_i32_510 v667
  v668.toNat
def k0_dev18 : Nat :=
  let c0_i32_522 : BitVec 32 := 0#32
  let c4_i32_520 : BitVec 32 := 4#32
  let c1_i32_521 : BitVec 32 := 1#32
  let v675 : BitVec 32 := Scalar.muli c4_i32_520 c1_i32_521
  let v676 : BitVec 32 := Scalar.addi c0_i32_522 v675
  v676.toNat
def k0_dev19 : Nat :=
  let c0_i32_534 : BitVec 32 := 0#32
  let c5_i32_532 : BitVec 32 := 5#32
  let c1_i32_533 : BitVec 32 := 1#32
  let v683 : BitVec 32 := Scalar.muli c5_i32_532 c1_i32_533
  let v684 : BitVec 32 := Scalar.addi c0_i32_534 v683
  v684.toNat
def k0_dev20 : Nat :=
  let c0_i32_546 : BitVec 32 := 0#32
  let c6_i32_544 : BitVec 32 := 6#32
  let c1_i32_545 : BitVec 32 := 1#32
  let v691 : BitVec 32 := Scalar.muli c6_i32_544 c1_i32_545
  let v692 : BitVec 32 := Scalar.addi c0_i32_546 v691
  v692.toNat
def k0_dev21 : Nat :=
  let c0_i32_558 : BitVec 32 := 0#32
  let c7_i32_556 : BitVec 32 := 7#32
  let c1_i32_557 : BitVec 32 := 1#32
  let v699 : BitVec 32 := Scalar.muli c7_i32_556 c1_i32_557
  let v700 : BitVec 32 := Scalar.addi c0_i32_558 v699
  v700.toNat
def k0_dev22 : Nat :=
  let c0_i32_570 : BitVec 32 := 0#32
  let c0_i32_568 : BitVec 32 := 0#32
  let c1_i32_569 : BitVec 32 := 1#32
  let v707 : BitVec 32 := Scalar.muli c0_i32_568 c1_i32_569
  let v708 : BitVec 32 := Scalar.addi c0_i32_570 v707
  v708.toNat
def k0_dev23 : Nat :=
  let c0_i32_583 : BitVec 32 := 0#32
  let c2_i32_581 : BitVec 32 := 2#32
  let c1_i32_582 : BitVec 32 := 1#32
  let v715 : BitVec 32 := Scalar.muli c2_i32_581 c1_i32_582
  let v716 : BitVec 32 := Scalar.addi c0_i32_583 v715
  v716.toNat
def k0_dev24 : Nat :=
  let c0_i32_596 : BitVec 32 := 0#32
  let c3_i32_594 : BitVec 32 := 3#32
  let c1_i32_595 : BitVec 32 := 1#32
  let v723 : BitVec 32 := Scalar.muli c3_i32_594 c1_i32_595
  let v724 : BitVec 32 := Scalar.addi c0_i32_596 v723
  v724.toNat
def k0_dev25 : Nat :=
  let c0_i32_609 : BitVec 32 := 0#32
  let c4_i32_607 : BitVec 32 := 4#32
  let c1_i32_608 : BitVec 32 := 1#32
  let v731 : BitVec 32 := Scalar.muli c4_i32_607 c1_i32_608
  let v732 : BitVec 32 := Scalar.addi c0_i32_609 v731
  v732.toNat
def k0_dev26 : Nat :=
  let c0_i32_622 : BitVec 32 := 0#32
  let c5_i32_620 : BitVec 32 := 5#32
  let c1_i32_621 : BitVec 32 := 1#32
  let v739 : BitVec 32 := Scalar.muli c5_i32_620 c1_i32_621
  let v740 : BitVec 32 := Scalar.addi c0_i32_622 v739
  v740.toNat
def k0_dev27 : Nat :=
  let c0_i32_635 : BitVec 32 := 0#32
  let c6_i32_633 : BitVec 32 := 6#32
  let c1_i32_634 : BitVec 32 := 1#32
  let v747 : BitVec 32 := Scalar.muli c6_i32_633 c1_i32_634
  let v748 : BitVec 32 := Scalar.addi c0_i32_635 v747
  v748.toNat
def k0_dev28 : Nat :=
  let c0_i32_648 : BitVec 32 := 0#32
  let c7_i32_646 : BitVec 32 := 7#32
  let c1_i32_647 : BitVec 32 := 1#32
  let v755 : BitVec 32 := Scalar.muli c7_i32_646 c1_i32_647
  let v756 : BitVec 32 := Scalar.addi c0_i32_648 v755
  v756.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_44 : BitVec 32 := 0#32
  let v59 : BitVec 1 := Scalar.cmpi .eq v2 c0_i32_44
  let v60 : BitVec 32 := Scalar.extui v59
  let c0_i32_45 : BitVec 32 := 0#32
  let v61 : BitVec 1 := Scalar.cmpi .ne v60 c0_i32_45
  v61

def k0_dev29 : Nat :=
  let c0_i32_563 : BitVec 32 := 0#32
  let c1_i32_561 : BitVec 32 := 1#32
  let c1_i32_562 : BitVec 32 := 1#32
  let v679 : BitVec 32 := Scalar.muli c1_i32_561 c1_i32_562
  let v680 : BitVec 32 := Scalar.addi c0_i32_563 v679
  v680.toNat
def k0_dev30 : Nat :=
  let c0_i32_576 : BitVec 32 := 0#32
  let c2_i32_574 : BitVec 32 := 2#32
  let c1_i32_575 : BitVec 32 := 1#32
  let v687 : BitVec 32 := Scalar.muli c2_i32_574 c1_i32_575
  let v688 : BitVec 32 := Scalar.addi c0_i32_576 v687
  v688.toNat
def k0_dev31 : Nat :=
  let c0_i32_589 : BitVec 32 := 0#32
  let c3_i32_587 : BitVec 32 := 3#32
  let c1_i32_588 : BitVec 32 := 1#32
  let v695 : BitVec 32 := Scalar.muli c3_i32_587 c1_i32_588
  let v696 : BitVec 32 := Scalar.addi c0_i32_589 v695
  v696.toNat
def k0_dev32 : Nat :=
  let c0_i32_602 : BitVec 32 := 0#32
  let c4_i32_600 : BitVec 32 := 4#32
  let c1_i32_601 : BitVec 32 := 1#32
  let v703 : BitVec 32 := Scalar.muli c4_i32_600 c1_i32_601
  let v704 : BitVec 32 := Scalar.addi c0_i32_602 v703
  v704.toNat
def k0_dev33 : Nat :=
  let c0_i32_615 : BitVec 32 := 0#32
  let c5_i32_613 : BitVec 32 := 5#32
  let c1_i32_614 : BitVec 32 := 1#32
  let v711 : BitVec 32 := Scalar.muli c5_i32_613 c1_i32_614
  let v712 : BitVec 32 := Scalar.addi c0_i32_615 v711
  v712.toNat
def k0_dev34 : Nat :=
  let c0_i32_628 : BitVec 32 := 0#32
  let c6_i32_626 : BitVec 32 := 6#32
  let c1_i32_627 : BitVec 32 := 1#32
  let v719 : BitVec 32 := Scalar.muli c6_i32_626 c1_i32_627
  let v720 : BitVec 32 := Scalar.addi c0_i32_628 v719
  v720.toNat
def k0_dev35 : Nat :=
  let c0_i32_641 : BitVec 32 := 0#32
  let c7_i32_639 : BitVec 32 := 7#32
  let c1_i32_640 : BitVec 32 := 1#32
  let v727 : BitVec 32 := Scalar.muli c7_i32_639 c1_i32_640
  let v728 : BitVec 32 := Scalar.addi c0_i32_641 v727
  v728.toNat
def k0_off1 (d0 : Dev nD) : Fin 3 → Nat :=
  let c0_246 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_244 : BitVec 32 := 1#32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let v436 : BitVec 32 := Scalar.subi c1_i32_244 v435
  let c256_i32 : BitVec 32 := 256#32
  let v437 : BitVec 32 := Scalar.muli v436 c256_i32
  let v438 : BitVec 32 := Scalar.addi v433 v437
  let v441 : Index := Scalar.indexCast v438
  let c0_247 : Index := 0#32
  ![0, v441.toNat, 0]
def k0_dev36 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c4_i32_251 : BitVec 32 := 4#32
  let v448 : BitVec 32 := Scalar.xori v432 c4_i32_251
  let c1_i32_252 : BitVec 32 := 1#32
  let v449 : BitVec 32 := Scalar.shrsi v448 c1_i32_252
  let c1_i32_253 : BitVec 32 := 1#32
  let v450 : BitVec 32 := Scalar.andi v449 c1_i32_253
  let v451 : BitVec 32 := Scalar.xori v448 v450
  let c1_i32_256 : BitVec 32 := 1#32
  let v452 : BitVec 32 := Scalar.muli v451 c1_i32_256
  let v453 : BitVec 32 := Scalar.addi c0_i32_257 v452
  v453.toNat
def k0_off2 (d0 : Dev nD) : Fin 3 → Nat :=
  let c0_283 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let v470 : Index := Scalar.indexCast v440
  let c0_284 : Index := 0#32
  ![0, v470.toNat, 0]
def k0_off3 (d0 : Dev nD) : Fin 3 → Nat :=
  let c0_295 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_292 : BitVec 32 := 1#32
  let c1_i32_290 : BitVec 32 := 1#32
  let v478 : BitVec 32 := Scalar.shrsi v432 c1_i32_290
  let c1_i32_291 : BitVec 32 := 1#32
  let v479 : BitVec 32 := Scalar.andi v478 c1_i32_291
  let v480 : BitVec 32 := Scalar.subi c1_i32_292 v479
  let c128_i32_293 : BitVec 32 := 128#32
  let v481 : BitVec 32 := Scalar.muli v480 c128_i32_293
  let v482 : BitVec 32 := Scalar.addi v440 v481
  let v485 : Index := Scalar.indexCast v482
  let c0_296 : Index := 0#32
  ![0, v485.toNat, 0]
def k0_dev37 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_300 : BitVec 32 := 2#32
  let v492 : BitVec 32 := Scalar.xori v432 c2_i32_300
  let c1_i32_301 : BitVec 32 := 1#32
  let v493 : BitVec 32 := Scalar.shrsi v492 c1_i32_301
  let c1_i32_302 : BitVec 32 := 1#32
  let v494 : BitVec 32 := Scalar.andi v493 c1_i32_302
  let v495 : BitVec 32 := Scalar.xori v492 v494
  let c1_i32_305 : BitVec 32 := 1#32
  let v496 : BitVec 32 := Scalar.muli v495 c1_i32_305
  let v497 : BitVec 32 := Scalar.addi c0_i32_306 v496
  v497.toNat
def k0_off4 (d0 : Dev nD) : Fin 3 → Nat :=
  let c0_332 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_290 : BitVec 32 := 1#32
  let v478 : BitVec 32 := Scalar.shrsi v432 c1_i32_290
  let c1_i32_291 : BitVec 32 := 1#32
  let v479 : BitVec 32 := Scalar.andi v478 c1_i32_291
  let c128_i32_294 : BitVec 32 := 128#32
  let v483 : BitVec 32 := Scalar.muli v479 c128_i32_294
  let v484 : BitVec 32 := Scalar.addi v440 v483
  let v514 : Index := Scalar.indexCast v484
  let c0_333 : Index := 0#32
  ![0, v514.toNat, 0]
def k0_off5 (d0 : Dev nD) : Fin 3 → Nat :=
  let c0_343 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_290 : BitVec 32 := 1#32
  let v478 : BitVec 32 := Scalar.shrsi v432 c1_i32_290
  let c1_i32_291 : BitVec 32 := 1#32
  let v479 : BitVec 32 := Scalar.andi v478 c1_i32_291
  let c128_i32_294 : BitVec 32 := 128#32
  let v483 : BitVec 32 := Scalar.muli v479 c128_i32_294
  let v484 : BitVec 32 := Scalar.addi v440 v483
  let c1_i32_341 : BitVec 32 := 1#32
  let c0_i32_339 : BitVec 32 := 0#32
  let v522 : BitVec 32 := Scalar.shrsi v432 c0_i32_339
  let c1_i32_340 : BitVec 32 := 1#32
  let v523 : BitVec 32 := Scalar.andi v522 c1_i32_340
  let v524 : BitVec 32 := Scalar.subi c1_i32_341 v523
  let c64_i32 : BitVec 32 := 64#32
  let v525 : BitVec 32 := Scalar.muli v524 c64_i32
  let v526 : BitVec 32 := Scalar.addi v484 v525
  let v529 : Index := Scalar.indexCast v526
  let c0_344 : Index := 0#32
  ![0, v529.toNat, 0]
def k0_dev38 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c1_i32_348 : BitVec 32 := 1#32
  let v536 : BitVec 32 := Scalar.xori v432 c1_i32_348
  let c1_i32_349 : BitVec 32 := 1#32
  let v537 : BitVec 32 := Scalar.shrsi v536 c1_i32_349
  let c1_i32_350 : BitVec 32 := 1#32
  let v538 : BitVec 32 := Scalar.andi v537 c1_i32_350
  let v539 : BitVec 32 := Scalar.xori v536 v538
  let c1_i32_353 : BitVec 32 := 1#32
  let v540 : BitVec 32 := Scalar.muli v539 c1_i32_353
  let v541 : BitVec 32 := Scalar.addi c0_i32_354 v540
  v541.toNat
def k0_off6 (d0 : Dev nD) : Fin 3 → Nat :=
  let c0_379 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_290 : BitVec 32 := 1#32
  let v478 : BitVec 32 := Scalar.shrsi v432 c1_i32_290
  let c1_i32_291 : BitVec 32 := 1#32
  let v479 : BitVec 32 := Scalar.andi v478 c1_i32_291
  let c128_i32_294 : BitVec 32 := 128#32
  let v483 : BitVec 32 := Scalar.muli v479 c128_i32_294
  let v484 : BitVec 32 := Scalar.addi v440 v483
  let c0_i32_339 : BitVec 32 := 0#32
  let v522 : BitVec 32 := Scalar.shrsi v432 c0_i32_339
  let c1_i32_340 : BitVec 32 := 1#32
  let v523 : BitVec 32 := Scalar.andi v522 c1_i32_340
  let c64_i32_342 : BitVec 32 := 64#32
  let v527 : BitVec 32 := Scalar.muli v523 c64_i32_342
  let v528 : BitVec 32 := Scalar.addi v484 v527
  let v558 : Index := Scalar.indexCast v528
  let c0_380 : Index := 0#32
  ![0, v558.toNat, 0]
def k0_off7 (d0 : Dev nD) : Fin 3 → Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_290 : BitVec 32 := 1#32
  let v478 : BitVec 32 := Scalar.shrsi v432 c1_i32_290
  let c1_i32_291 : BitVec 32 := 1#32
  let v479 : BitVec 32 := Scalar.andi v478 c1_i32_291
  let c128_i32_294 : BitVec 32 := 128#32
  let v483 : BitVec 32 := Scalar.muli v479 c128_i32_294
  let v484 : BitVec 32 := Scalar.addi v440 v483
  let c0_i32_339 : BitVec 32 := 0#32
  let v522 : BitVec 32 := Scalar.shrsi v432 c0_i32_339
  let c1_i32_340 : BitVec 32 := 1#32
  let v523 : BitVec 32 := Scalar.andi v522 c1_i32_340
  let c64_i32_342 : BitVec 32 := 64#32
  let v527 : BitVec 32 := Scalar.muli v523 c64_i32_342
  let v528 : BitVec 32 := Scalar.addi v484 v527
  let c0_i32_398 : BitVec 32 := 0#32
  ![0, v528.toNat, 0]
def k0_dev39 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c1_i32_390 : BitVec 32 := 1#32
  let v574 : BitVec 32 := Scalar.xori v432 c1_i32_390
  let c1_i32_391 : BitVec 32 := 1#32
  let v575 : BitVec 32 := Scalar.shrsi v574 c1_i32_391
  let c1_i32_392 : BitVec 32 := 1#32
  let v576 : BitVec 32 := Scalar.andi v575 c1_i32_392
  let v577 : BitVec 32 := Scalar.xori v574 v576
  let c1_i32_395 : BitVec 32 := 1#32
  let v578 : BitVec 32 := Scalar.muli v577 c1_i32_395
  let v579 : BitVec 32 := Scalar.addi c0_i32_396 v578
  v579.toNat
def k0_off8 (d0 : Dev nD) : Fin 3 → Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_290 : BitVec 32 := 1#32
  let v478 : BitVec 32 := Scalar.shrsi v432 c1_i32_290
  let c1_i32_291 : BitVec 32 := 1#32
  let v479 : BitVec 32 := Scalar.andi v478 c1_i32_291
  let c128_i32_294 : BitVec 32 := 128#32
  let v483 : BitVec 32 := Scalar.muli v479 c128_i32_294
  let v484 : BitVec 32 := Scalar.addi v440 v483
  let c0_i32_339 : BitVec 32 := 0#32
  let v522 : BitVec 32 := Scalar.shrsi v432 c0_i32_339
  let c1_i32_340 : BitVec 32 := 1#32
  let v523 : BitVec 32 := Scalar.andi v522 c1_i32_340
  let c64_i32_342 : BitVec 32 := 64#32
  let v527 : BitVec 32 := Scalar.muli v523 c64_i32_342
  let v528 : BitVec 32 := Scalar.addi v484 v527
  let c0_i32_416 : BitVec 32 := 0#32
  let v596 : BitVec 32 := Scalar.shrsi v432 c0_i32_416
  let c1_i32_417 : BitVec 32 := 1#32
  let v597 : BitVec 32 := Scalar.andi v596 c1_i32_417
  let c64_i32_418 : BitVec 32 := 64#32
  let v598 : BitVec 32 := Scalar.muli v597 c64_i32_418
  let v599 : BitVec 32 := Scalar.subi v528 v598
  let c0_i32_427 : BitVec 32 := 0#32
  ![0, v599.toNat, 0]
def k0_dev40 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_419 : BitVec 32 := 2#32
  let v600 : BitVec 32 := Scalar.xori v432 c2_i32_419
  let c1_i32_420 : BitVec 32 := 1#32
  let v601 : BitVec 32 := Scalar.shrsi v600 c1_i32_420
  let c1_i32_421 : BitVec 32 := 1#32
  let v602 : BitVec 32 := Scalar.andi v601 c1_i32_421
  let v603 : BitVec 32 := Scalar.xori v600 v602
  let c1_i32_424 : BitVec 32 := 1#32
  let v604 : BitVec 32 := Scalar.muli v603 c1_i32_424
  let v605 : BitVec 32 := Scalar.addi c0_i32_425 v604
  v605.toNat
def k0_off9 (d0 : Dev nD) : Fin 3 → Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_241 : BitVec 32 := 0#32
  let v433 : BitVec 32 := Scalar.muli v2 c0_i32_241
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c2_i32_242 : BitVec 32 := 2#32
  let v434 : BitVec 32 := Scalar.shrsi v432 c2_i32_242
  let c1_i32_243 : BitVec 32 := 1#32
  let v435 : BitVec 32 := Scalar.andi v434 c1_i32_243
  let c256_i32_245 : BitVec 32 := 256#32
  let v439 : BitVec 32 := Scalar.muli v435 c256_i32_245
  let v440 : BitVec 32 := Scalar.addi v433 v439
  let c1_i32_290 : BitVec 32 := 1#32
  let v478 : BitVec 32 := Scalar.shrsi v432 c1_i32_290
  let c1_i32_291 : BitVec 32 := 1#32
  let v479 : BitVec 32 := Scalar.andi v478 c1_i32_291
  let c128_i32_294 : BitVec 32 := 128#32
  let v483 : BitVec 32 := Scalar.muli v479 c128_i32_294
  let v484 : BitVec 32 := Scalar.addi v440 v483
  let c0_i32_339 : BitVec 32 := 0#32
  let v522 : BitVec 32 := Scalar.shrsi v432 c0_i32_339
  let c1_i32_340 : BitVec 32 := 1#32
  let v523 : BitVec 32 := Scalar.andi v522 c1_i32_340
  let c64_i32_342 : BitVec 32 := 64#32
  let v527 : BitVec 32 := Scalar.muli v523 c64_i32_342
  let v528 : BitVec 32 := Scalar.addi v484 v527
  let c0_i32_416 : BitVec 32 := 0#32
  let v596 : BitVec 32 := Scalar.shrsi v432 c0_i32_416
  let c1_i32_417 : BitVec 32 := 1#32
  let v597 : BitVec 32 := Scalar.andi v596 c1_i32_417
  let c64_i32_418 : BitVec 32 := 64#32
  let v598 : BitVec 32 := Scalar.muli v597 c64_i32_418
  let v599 : BitVec 32 := Scalar.subi v528 v598
  let c1_i32_445 : BitVec 32 := 1#32
  let v622 : BitVec 32 := Scalar.shrsi v432 c1_i32_445
  let c1_i32_446 : BitVec 32 := 1#32
  let v623 : BitVec 32 := Scalar.andi v622 c1_i32_446
  let c128_i32_447 : BitVec 32 := 128#32
  let v624 : BitVec 32 := Scalar.muli v623 c128_i32_447
  let v625 : BitVec 32 := Scalar.subi v599 v624
  let c0_i32_456 : BitVec 32 := 0#32
  ![0, v625.toNat, 0]
def k0_dev41 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v430 : BitVec 32 := Scalar.shrsi v2 c1_i32_239
  let c1_i32_240 : BitVec 32 := 1#32
  let v431 : BitVec 32 := Scalar.andi v430 c1_i32_240
  let v432 : BitVec 32 := Scalar.xori v2 v431
  let c4_i32_448 : BitVec 32 := 4#32
  let v626 : BitVec 32 := Scalar.xori v432 c4_i32_448
  let c1_i32_449 : BitVec 32 := 1#32
  let v627 : BitVec 32 := Scalar.shrsi v626 c1_i32_449
  let c1_i32_450 : BitVec 32 := 1#32
  let v628 : BitVec 32 := Scalar.andi v627 c1_i32_450
  let v629 : BitVec 32 := Scalar.xori v626 v628
  let c1_i32_453 : BitVec 32 := 1#32
  let v630 : BitVec 32 := Scalar.muli v629 c1_i32_453
  let v631 : BitVec 32 := Scalar.addi c0_i32_454 v630
  v631.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S2x512x4096 : Shape := ⟨3, ![2, 512, 4096]⟩
abbrev S2x512x64x64 : Shape := ⟨4, ![2, 512, 64, 64]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S_ : Shape := ⟨0, ![]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x4096x64x64, .bf16⟩
  | .hbm, ⟨3, _⟩ => ⟨S2x4096x64x64, .bf16⟩
  | .hbm, ⟨4, _⟩ => ⟨S4096x768, .bf16⟩
  | .hbm, ⟨5, _⟩ => ⟨S2x512x4096, .f32⟩
  | .hbm, ⟨6, _⟩ => ⟨S2x512x4096, .bf16⟩
  | .hbm, ⟨7, _⟩ => ⟨S2x512x64x64, .bf16⟩
  | .hbm, ⟨8, _⟩ => ⟨S512, .i32⟩
  | .hbm, ⟨9, _⟩ => ⟨S512x1, .i32⟩
  | .hbm, ⟨10, _⟩ => ⟨S4096, .i32⟩
  | .hbm, ⟨11, _⟩ => ⟨S1x4096, .i32⟩
  | .hbm, ⟨12, _⟩ => ⟨S512x4096, .i32⟩
  | .hbm, ⟨13, _⟩ => ⟨S512x4096, .i32⟩
  | .hbm, ⟨14, _⟩ => ⟨S512x4096, .i32⟩
  | .hbm, ⟨15, _⟩ => ⟨S512x4096, .i32⟩
  | .hbm, ⟨16, _⟩ => ⟨S_, .i32⟩
  | .hbm, ⟨17, _⟩ => ⟨S512x4096, .i32⟩
  | .hbm, ⟨18, _⟩ => ⟨S512x4096, .i1⟩
  | .hbm, ⟨19, _⟩ => ⟨S2x64x512x4096, .f32⟩
  | .hbm, ⟨20, _⟩ => ⟨S_, .f32⟩
  | .hbm, ⟨21, _⟩ => ⟨S2x64x512x4096, .f32⟩
  | .hbm, ⟨22, _⟩ => ⟨S2x64x512x4096, .f32⟩
  | .hbm, ⟨23, _⟩ => ⟨S1x1x512x4096, .i1⟩
  | .hbm, ⟨24, _⟩ => ⟨S_, .f32⟩
  | .hbm, ⟨25, _⟩ => ⟨S_, .f32⟩
  | .hbm, ⟨26, _⟩ => ⟨S2x64x512x4096, .i1⟩
  | .hbm, ⟨27, _⟩ => ⟨S2x64x512x4096, .f32⟩
  | .hbm, ⟨28, _⟩ => ⟨S2x64x512x4096, .f32⟩
  | .hbm, ⟨29, _⟩ => ⟨S_, .f32⟩
  | .hbm, ⟨30, _⟩ => ⟨S2x64x512, .f32⟩
  | .hbm, ⟨31, _⟩ => ⟨S2x64x512x1, .f32⟩
  | .hbm, ⟨32, _⟩ => ⟨S2x64x512x4096, .f32⟩
  | .hbm, ⟨33, _⟩ => ⟨S2x64x512x4096, .f32⟩
  | .hbm, ⟨34, _⟩ => ⟨S2x64x512x4096, .f32⟩
  | .hbm, ⟨35, _⟩ => ⟨S_, .i1⟩
  | .hbm, ⟨36, _⟩ => ⟨S512, .i1⟩
  | .hbm, ⟨37, _⟩ => ⟨S1x1x512x1, .i1⟩
  | .hbm, ⟨38, _⟩ => ⟨S_, .f32⟩
  | .hbm, ⟨39, _⟩ => ⟨S2x64x512, .f32⟩
  | .hbm, ⟨40, _⟩ => ⟨S2x64x512x1, .f32⟩
  | .hbm, ⟨41, _⟩ => ⟨S_, .f32⟩
  | .hbm, ⟨42, _⟩ => ⟨S_, .f32⟩
  | .hbm, ⟨43, _⟩ => ⟨S2x64x512x1, .i1⟩
  | .hbm, ⟨44, _⟩ => ⟨S2x64x512x1, .f32⟩
  | .hbm, ⟨45, _⟩ => ⟨S2x64x512x1, .f32⟩
  | .hbm, ⟨46, _⟩ => ⟨S2x64x512x4096, .f32⟩
  | .hbm, ⟨47, _⟩ => ⟨S2x64x512x4096, .f32⟩
  | .hbm, ⟨48, _⟩ => ⟨S1x1x512x1, .i1⟩
  | .hbm, ⟨49, _⟩ => ⟨S_, .f32⟩
  | .hbm, ⟨50, _⟩ => ⟨S_, .f32⟩
  | .hbm, ⟨51, _⟩ => ⟨S2x64x512x4096, .i1⟩
  | .hbm, ⟨52, _⟩ => ⟨S2x64x512x4096, .f32⟩
  | .hbm, ⟨53, _⟩ => ⟨S2x64x512x4096, .f32⟩
  | .hbm, ⟨54, _⟩ => ⟨S2x4096x64x64, .f32⟩
  | .hbm, ⟨55, _⟩ => ⟨S2x64x64x512, .f32⟩
  | .hbm, ⟨56, _⟩ => ⟨S2x512x64x64, .f32⟩
  | .hbm, ⟨57, _⟩ => ⟨S2x512x4096, .f32⟩
  | .hbm, ⟨58, _⟩ => ⟨S4096x768, .f32⟩
  | .hbm, ⟨59, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.KernelIdeal.Contents.lean ====
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
@[expose] public section

/-!
# What the buffers of one device hold

Every device works on its own copies of the buffers. This module names what each of them holds at each stage
of the kernel, as functions of the launch memory: the key and value columns that devices 0 and 1 hand out, the
sixteen heads' weights, the device's partial product, the three halvings of the reduce-scatter and the gathered
result.
-/

set_option maxRecDepth 16384

noncomputable section

namespace Cert.KernelIdeal.Proto

open Cert.KernelIdeal
open Cert.KernelIdeal.Gen
open Idealize Idealize.ShloMosaic
open Idealize.ShloMosaic.TcCoe

variable {F : FTy → Type} [FloatOps F] [Named F]

/-! ## Buffers -/

abbrev aX : Memref sig .tc .vmem S2x512x768 .bf16 := Memref.whole cc0_stg0_0
abbrev aQ : Memref sig .tc .vmem S768x512 .bf16 := Memref.whole cc0_stg1_0
abbrev aK : Memref sig .tc .vmem S2x512x4096 .bf16 := Memref.whole cc0_stg2_0
abbrev aV : Memref sig .tc .vmem S2x512x4096 .bf16 := Memref.whole cc0_stg3_0
abbrev aW : Memref sig .tc .vmem S512x768 .bf16 := Memref.whole cc0_stg4_0
abbrev aO : Memref sig .tc .vmem S2x512x768 .f32 := Memref.whole cc0_stg5_0
abbrev bK : Memref sig .tc .vmem S2x640x512 .bf16 := Memref.whole cc0_scratch0
abbrev bV : Memref sig .tc .vmem S2x640x512 .bf16 := Memref.whole cc0_scratch1
abbrev bR : Memref sig .tc .vmem S2x448x768 .bf16 := Memref.whole cc0_scratch2
abbrev bS : Memref sig .tc .vmem S2x256x768 .bf16 := Memref.whole cc0_scratch3
abbrev bA : Memref sig .tc .vmem S2x512x768 .bf16 := Memref.whole cc0_scratch4

/-- What a buffer holds. -/
abbrev Cn (F : FTy → Type) (b : Ref sig .tc) : Type := b.ty.Contents (Elt F)

theorem inbK0 (t : Fin 8) : ∀ a, (![0, 0, 512 * t.val] : Fin 3 → ℕ) a + S2x512x512.size a ≤ S2x512x4096.size a := by
  revert t; decide
theorem inbK1 (t : Fin 8) : ∀ a, (![0, 0, 512 * t.val] : Fin 3 → ℕ) a + S2x128x512.size a ≤ S2x512x4096.size a := by
  revert t; decide

/-- Column block `t` of a staged key or value block, all 512 rows: what device 0 hands to device `t`. -/
abbrev col0 (a : Memref sig .tc .vmem S2x512x4096 .bf16) (t : Fin 8) : Memref sig .tc .vmem S2x512x512 .bf16 :=
  a.slice (Rect.unit (s := S2x512x4096) ![0, 0, 512 * t.val] S2x512x512.size (inbK0 t)) (fun _ => rfl)
/-- Column block `t`, the first 128 rows: what device 1 hands to device `t`. -/
abbrev col1 (a : Memref sig .tc .vmem S2x512x4096 .bf16) (t : Fin 8) : Memref sig .tc .vmem S2x128x512 .bf16 :=
  a.slice (Rect.unit (s := S2x512x4096) ![0, 0, 512 * t.val] S2x128x512.size (inbK1 t)) (fun _ => rfl)
/-- The first 512 rows of a key or value window: device 0's part. -/
abbrev row0 (a : Memref sig .tc .vmem S2x640x512 .bf16) : Memref sig .tc .vmem S2x512x512 .bf16 :=
  a.slice (Rect.unit (s := S2x640x512) ![0, 0, 0] S2x512x512.size inb_S2x640x512_S2x512x512_0_0_0) (fun _ => rfl)
/-- The last 128 rows: device 1's part. -/
abbrev row1 (a : Memref sig .tc .vmem S2x640x512 .bf16) : Memref sig .tc .vmem S2x128x512 .bf16 :=
  a.slice (Rect.unit (s := S2x640x512) ![0, 512, 0] S2x128x512.size inb_S2x640x512_S2x128x512_0_512_0) (fun _ => rfl)

/-! ## Partners -/

/-- The device's place along the exchange: the third bit's copy is folded into the second. An involution. -/
def lin (n : ℕ) : ℕ := n ^^^ ((n >>> 1) &&& 1)

set_option backward.proofsInPublic true in
/-- The partner of device `c` in the exchange of `2 ^ s` neighbours. -/
def q (s : Fin 3) (c : Dev nD) : Dev nD := ⟨lin (lin c.val ^^^ (1 <<< s.val)) % 8, Nat.mod_lt _ (by decide)⟩

theorem q_q (s : Fin 3) (c : Dev nD) : q s (q s c) = c := by revert s c; decide
theorem q_ne (s : Fin 3) (c : Dev nD) : q s c ≠ c := by revert s c; decide
theorem dev36_eq (c : Dev nD) : (⟨k0_dev36 c, k0_dev36_lt c⟩ : Dev nD) = q 2 c := by revert c; decide +kernel
theorem dev37_eq (c : Dev nD) : (⟨k0_dev37 c, k0_dev37_lt c⟩ : Dev nD) = q 1 c := by revert c; decide +kernel
theorem dev38_eq (c : Dev nD) : (⟨k0_dev38 c, k0_dev38_lt c⟩ : Dev nD) = q 0 c := by revert c; decide +kernel
theorem dev39_eq (c : Dev nD) : (⟨k0_dev39 c, k0_dev39_lt c⟩ : Dev nD) = q 0 c := by revert c; decide +kernel
theorem dev40_eq (c : Dev nD) : (⟨k0_dev40 c, k0_dev40_lt c⟩ : Dev nD) = q 1 c := by revert c; decide +kernel
theorem dev41_eq (c : Dev nD) : (⟨k0_dev41 c, k0_dev41_lt c⟩ : Dev nD) = q 2 c := by revert c; decide +kernel

theorem off1_eq (c : Dev nD) : k0_off1 c = ![0, 256 * (1 - lin c.val / 4), 0] := by revert c; decide +kernel
theorem off2_eq (c : Dev nD) : k0_off2 c = ![0, 256 * (lin c.val / 4), 0] := by revert c; decide +kernel
theorem off3_eq (c : Dev nD) : k0_off3 c = ![0, 256 * (lin c.val / 4) + 128 * (1 - lin c.val / 2 % 2), 0] := by revert c; decide +kernel
theorem off4_eq (c : Dev nD) : k0_off4 c = ![0, 128 * (lin c.val / 2), 0] := by revert c; decide +kernel
theorem off5_eq (c : Dev nD) : k0_off5 c = ![0, 128 * (lin c.val / 2) + 64 * (1 - lin c.val % 2), 0] := by revert c; decide +kernel
theorem off6_eq (c : Dev nD) : k0_off6 c = ![0, 64 * lin c.val, 0] := by revert c; decide +kernel
theorem off7_eq (c : Dev nD) : k0_off7 c = ![0, 64 * lin c.val, 0] := by revert c; decide +kernel
theorem off8_eq (c : Dev nD) : k0_off8 c = ![0, 128 * (lin c.val / 2), 0] := by revert c; decide +kernel
theorem off9_eq (c : Dev nD) : k0_off9 c = ![0, 256 * (lin c.val / 4), 0] := by revert c; decide +kernel

/-- The three landing segments of the reduce-scatter. -/
abbrev seg0 : Memref sig .tc .vmem S2x256x768 .bf16 :=
  bR.slice (Rect.unit (s := S2x448x768) ![0, 0, 0] S2x256x768.size inb_S2x448x768_S2x256x768_0_0_0) (fun _ => rfl)
abbrev seg1 : Memref sig .tc .vmem S2x128x768 .bf16 :=
  bR.slice (Rect.unit (s := S2x448x768) ![0, 256, 0] S2x128x768.size inb_S2x448x768_S2x128x768_0_256_0) (fun _ => rfl)
abbrev seg2 : Memref sig .tc .vmem S2x64x768 .bf16 :=
  bR.slice (Rect.unit (s := S2x448x768) ![0, 384, 0] S2x64x768.size inb_S2x448x768_S2x64x768_0_384_0) (fun _ => rfl)
/-- The three starts of the sending buffer. -/
abbrev snd0 : Memref sig .tc .vmem S2x256x768 .bf16 :=
  bS.slice (Rect.unit (s := S2x256x768) ![0, 0, 0] S2x256x768.size inb_S2x256x768_S2x256x768_0_0_0) (fun _ => rfl)
abbrev snd1 : Memref sig .tc .vmem S2x128x768 .bf16 :=
  bS.slice (Rect.unit (s := S2x256x768) ![0, 0, 0] S2x128x768.size inb_S2x256x768_S2x128x768_0_0_0) (fun _ => rfl)
abbrev snd2 : Memref sig .tc .vmem S2x64x768 .bf16 :=
  bS.slice (Rect.unit (s := S2x256x768) ![0, 0, 0] S2x64x768.size inb_S2x256x768_S2x64x768_0_0_0) (fun _ => rfl)
/-- The rows of the gathering buffer that device `c` hands on at each of the three stages. -/
abbrev gat0 (c : Dev nD) : Memref sig .tc .vmem S2x64x768 .bf16 :=
  bA.slice (Rect.unit (s := S2x512x768) (k0_off7 c) S2x64x768.size (k0_off7_inb c)) (fun _ => rfl)
abbrev gat1 (c : Dev nD) : Memref sig .tc .vmem S2x128x768 .bf16 :=
  bA.slice (Rect.unit (s := S2x512x768) (k0_off8 c) S2x128x768.size (k0_off8_inb c)) (fun _ => rfl)
abbrev gat2 (c : Dev nD) : Memref sig .tc .vmem S2x256x768 .bf16 :=
  bA.slice (Rect.unit (s := S2x512x768) (k0_off9 c) S2x256x768.size (k0_off9_inb c)) (fun _ => rfl)

/-! ## Contents -/

variable (m : (ℓ : Loc nD τ sig) → Buf (Elt F) ℓ)

/-- The blocks that the region stages on device `c`: tokens, query weights, keys, values, output weights. -/
def xC (c : Dev nD) : Cn F cc0_stg0_0 := iblk m c 0 t0_0
def qC (c : Dev nD) : Cn F cc0_stg1_0 := iblk m c 1 t0_0
def kC (c : Dev nD) : Cn F cc0_stg2_0 := iblk m c 2 t0_0
def vC (c : Dev nD) : Cn F cc0_stg3_0 := iblk m c 3 t0_0
def wC (c : Dev nD) : Cn F cc0_stg4_0 := iblk m c 4 t0_0

/-- Device `t`'s key window once both parts have arrived. -/
def KB (t : Dev nD) : Cn F cc0_scratch0 :=
  (row0 bK).view.write (Elt F) ((row1 bK).view.write (Elt F) (m (bK.view.loc (t : Thread nD τ)))
    ((col1 aK t).view.read (Elt F) (kC m 1)) Finset.univ) ((col0 aK t).view.read (Elt F) (kC m 0)) Finset.univ
/-- Device `t`'s value window once both parts have arrived. -/
def VB (t : Dev nD) : Cn F cc0_scratch1 :=
  (row0 bV).view.write (Elt F) ((row1 bV).view.write (Elt F) (m (bV.view.loc (t : Thread nD τ)))
    ((col1 aV t).view.read (Elt F) (vC m 1)) Finset.univ) ((col0 aV t).view.read (Elt F) (vC m 0)) Finset.univ

theorem inbH (b : Fin 2) (h : Fin 8) : ∀ a, (![b.val, 0, 64 * h.val] : Fin 3 → ℕ) a + S1x640x64.size a ≤ S2x640x512.size a := by
  revert b h; decide
/-- Head `h` of batch `b` of the key window, as the kernel loads it. -/
def kH (c : Dev nD) (b : Fin 2) (h : Fin 8) : Vec F S1x640x64 .bf16 :=
  bK.view.readAt (Elt F) (Rect.unit (s := S2x640x512) ![b.val, 0, 64 * h.val] S1x640x64.size (inbH b h)).toLoadRect (KB m c)
/-- Head `h` of batch `b` of the value window. -/
def vH (c : Dev nD) (b : Fin 2) (h : Fin 8) : Vec F S1x640x64 .bf16 :=
  bV.view.readAt (Elt F) (Rect.unit (s := S2x640x512) ![b.val, 0, 64 * h.val] S1x640x64.size (inbH b h)).toLoadRect (VB m c)

/-- The two batches of the token block, the query weights, the output weights, as loaded. -/
def x0 (c : Dev nD) : Vec F S1x512x768 .bf16 :=
  aX.view.readAt (Elt F) (Rect.unit (s := S2x512x768) ![0, 0, 0] S1x512x768.size inb_S2x512x768_S1x512x768_0_0_0).toLoadRect (xC m c)
def x1 (c : Dev nD) : Vec F S1x512x768 .bf16 :=
  aX.view.readAt (Elt F) (Rect.unit (s := S2x512x768) ![1, 0, 0] S1x512x768.size inb_S2x512x768_S1x512x768_1_0_0).toLoadRect (xC m c)
def wq (c : Dev nD) : Vec F S768x512 .bf16 :=
  aQ.view.readAt (Elt F) (Rect.unit (s := S768x512) ![0, 0] S768x512.size inb_S768x512_S768x512_0_0).toLoadRect (qC m c)
def wo (c : Dev nD) : Vec F S512x768 .bf16 :=
  aW.view.readAt (Elt F) (Rect.unit (s := S512x768) ![0, 0] S512x768.size inb_S512x768_S512x768_0_0).toLoadRect (wC m c)

/-- The queries of the two batches. -/
def q0 (c : Dev nD) : FVec F S512x512 .bf16 := k0_pay5 (x0 m c) (wq m c)
def q1 (c : Dev nD) : FVec F S512x512 .bf16 := k0_pay6 (x1 m c) (wq m c)

/-- The weights of the eight heads of batch 0 and the eight of batch 1. -/
def p00 (c : Dev nD) : FVec F S512x640 .bf16 := k0_pay8 (k0_pay4 (F := F)) (q0 m c) (kH m c 0 0)
def p01 (c : Dev nD) : FVec F S512x640 .bf16 := k0_pay11 (k0_pay4 (F := F)) (k0_pay9 (q0 m c) (kH m c 0 1)) (k0_pay10 (F := F))
def p02 (c : Dev nD) : FVec F S512x640 .bf16 := k0_pay12 (k0_pay4 (F := F)) (q0 m c) (kH m c 0 2)
def p03 (c : Dev nD) : FVec F S512x640 .bf16 :=
  k0_pay15 (k0_pay13 (k0_pay4 (F := F)) (q0 m c) (kH m c 0 3)) (k0_pay14 (k0_pay4 (F := F)) (q0 m c) (kH m c 0 3))
def p04 (c : Dev nD) : FVec F S512x640 .bf16 := k0_pay16 (k0_pay4 (F := F)) (q0 m c) (kH m c 0 4)
def p05 (c : Dev nD) : FVec F S512x640 .bf16 := k0_pay17 (k0_pay4 (F := F)) (q0 m c) (kH m c 0 5)
def p06 (c : Dev nD) : FVec F S512x640 .bf16 := k0_pay20 (k0_pay4 (F := F)) (k0_pay18 (q0 m c) (kH m c 0 6)) (k0_pay19 (F := F))
def p07 (c : Dev nD) : FVec F S512x640 .bf16 := k0_pay21 (k0_pay4 (F := F)) (q0 m c) (kH m c 0 7)
def p10 (c : Dev nD) : FVec F S512x640 .bf16 :=
  k0_pay24 (k0_pay22 (k0_pay4 (F := F)) (q1 m c) (kH m c 1 0)) (k0_pay23 (k0_pay4 (F := F)) (q1 m c) (kH m c 1 0))
def p11 (c : Dev nD) : FVec F S512x640 .bf16 := k0_pay25 (k0_pay4 (F := F)) (q1 m c) (kH m c 1 1)
def p12 (c : Dev nD) : FVec F S512x640 .bf16 := k0_pay26 (k0_pay4 (F := F)) (q1 m c) (kH m c 1 2)
def p13 (c : Dev nD) : FVec F S512x640 .bf16 := k0_pay29 (k0_pay4 (F := F)) (k0_pay27 (q1 m c) (kH m c 1 3)) (k0_pay28 (F := F))
def p14 (c : Dev nD) : FVec F S512x640 .bf16 := k0_pay30 (k0_pay4 (F := F)) (q1 m c) (kH m c 1 4)
def p15 (c : Dev nD) : FVec F S512x640 .bf16 :=
  k0_pay33 (k0_pay31 (k0_pay4 (F := F)) (q1 m c) (kH m c 1 5)) (k0_pay32 (k0_pay4 (F := F)) (q1 m c) (kH m c 1 5))
def p16 (c : Dev nD) : FVec F S512x640 .bf16 := k0_pay34 (k0_pay4 (F := F)) (q1 m c) (kH m c 1 6)
def p17 (c : Dev nD) : FVec F S512x640 .bf16 := k0_pay35 (k0_pay4 (F := F)) (q1 m c) (kH m c 1 7)

/-- Batch 0 of the device's partial product. -/
def s0 (c : Dev nD) : FVec F S1x512x768 .f32 :=
  k0_pay42 (p05 m c) (p06 m c) (p07 m c) (k0_pay36 (p00 m c) (vH m c 0 0)) (k0_pay37 (p01 m c) (vH m c 0 1))
    (k0_pay38 (p02 m c) (vH m c 0 2)) (k0_pay39 (p03 m c) (vH m c 0 3)) (k0_pay40 (p04 m c) (vH m c 0 4))
    (k0_pay41 (vH m c 0 5)) (constant S512x64 .f32 0x00000000#32) (vH m c 0 6) (vH m c 0 7) (wo m c)
/-- Batch 1 of the device's partial product. -/
def s1 (c : Dev nD) : FVec F S1x512x768 .f32 :=
  k0_pay46 (p13 m c) (p14 m c) (p15 m c) (p16 m c) (p17 m c) (k0_pay43 (p10 m c) (vH m c 1 0))
    (k0_pay44 (p11 m c) (vH m c 1 1)) (k0_pay45 (p12 m c) (vH m c 1 2)) (vH m c 1 3) (vH m c 1 4) (vH m c 1 5)
    (vH m c 1 6) (vH m c 1 7) (wo m c)

abbrev rO0 : Rect S2x512x768 := Rect.unit (s := S2x512x768) ![0, 0, 0] S1x512x768.size inb_S2x512x768_S1x512x768_0_0_0
abbrev rO1 : Rect S2x512x768 := Rect.unit (s := S2x512x768) ![1, 0, 0] S1x512x768.size inb_S2x512x768_S1x512x768_1_0_0

/-- The output buffer holding the device's partial product. -/
def A0 (c : Dev nD) : Cn F cc0_stg5_0 :=
  (aO.access rO1).write (Elt F) ((aO.access rO0).write (Elt F) (m (aO.view.loc (c : Thread nD τ))) (s0 m c) Finset.univ)
    (s1 m c) Finset.univ

abbrev r1 (c : Dev nD) : Rect S2x512x768 := Rect.unit (s := S2x512x768) (k0_off1 c) S2x256x768.size (k0_off1_inb c)
abbrev r2 (c : Dev nD) : Rect S2x512x768 := Rect.unit (s := S2x512x768) (k0_off2 c) S2x256x768.size (k0_off2_inb c)
abbrev r3 (c : Dev nD) : Rect S2x512x768 := Rect.unit (s := S2x512x768) (k0_off3 c) S2x128x768.size (k0_off3_inb c)
abbrev r4 (c : Dev nD) : Rect S2x512x768 := Rect.unit (s := S2x512x768) (k0_off4 c) S2x128x768.size (k0_off4_inb c)
abbrev r5 (c : Dev nD) : Rect S2x512x768 := Rect.unit (s := S2x512x768) (k0_off5 c) S2x64x768.size (k0_off5_inb c)
abbrev r6 (c : Dev nD) : Rect S2x512x768 := Rect.unit (s := S2x512x768) (k0_off6 c) S2x64x768.size (k0_off6_inb c)

/-- What device `c` hands to its partner at the first halving, and its half once the partner's has been added; then
the second and the third halving. -/
def v0 (c : Dev nD) : FVec F S2x256x768 .bf16 := k0_pay47 (aO.view.readAt (Elt F) (r1 c).toLoadRect (A0 m c))
def A1 (c : Dev nD) : Cn F cc0_stg5_0 :=
  (aO.access (r2 c)).write (Elt F) (A0 m c)
    (k0_pay48 (aO.view.readAt (Elt F) (r2 c).toLoadRect (A0 m c)) (v0 m (q 2 c))) Finset.univ
def v1 (c : Dev nD) : FVec F S2x128x768 .bf16 := k0_pay49 (aO.view.readAt (Elt F) (r3 c).toLoadRect (A1 m c))
def A2 (c : Dev nD) : Cn F cc0_stg5_0 :=
  (aO.access (r4 c)).write (Elt F) (A1 m c)
    (k0_pay50 (aO.view.readAt (Elt F) (r4 c).toLoadRect (A1 m c)) (v1 m (q 1 c))) Finset.univ
def v2 (c : Dev nD) : FVec F S2x64x768 .bf16 := k0_pay51 (aO.view.readAt (Elt F) (r5 c).toLoadRect (A2 m c))
def A3 (c : Dev nD) : Cn F cc0_stg5_0 :=
  (aO.access (r6 c)).write (Elt F) (A2 m c)
    (k0_pay52 (aO.view.readAt (Elt F) (r6 c).toLoadRect (A2 m c)) (v2 m (q 0 c))) Finset.univ
/-- The rows of the sum that device `c` ends up with. -/
def v3 (c : Dev nD) : FVec F S2x64x768 .bf16 :=
  k0_pay54 (k0_pay53 (aO.view.readAt (Elt F) (r6 c).toLoadRect (A3 m c)))

/-- The landing segments once the partner's rows have arrived. -/
def R0 (c : Dev nD) : Cn F cc0_scratch2 := seg0.view.write (Elt F) (m (bR.view.loc (c : Thread nD τ))) (v0 m (q 2 c)) Finset.univ
def R1 (c : Dev nD) : Cn F cc0_scratch2 := seg1.view.write (Elt F) (m (bR.view.loc (c : Thread nD τ))) (v1 m (q 1 c)) Finset.univ
def R2 (c : Dev nD) : Cn F cc0_scratch2 := seg2.view.write (Elt F) (m (bR.view.loc (c : Thread nD τ))) (v2 m (q 0 c)) Finset.univ

set_option backward.proofsInPublic true in
/-- The device that gathers row `n` of the sum. -/
def own (n : ℕ) : Dev nD := ⟨lin (n / 64) % 8, Nat.mod_lt _ (by decide)⟩

/-- The gathered sum, the same on every device: each row as its owner put it there. -/
def AG : Cn F cc0_scratch4 := fun i =>
  (bA.access (r6 (own (i 1).val))).write (Elt F) (m (bA.view.loc (own (i 1).val : Thread nD τ))) (v3 m (own (i 1).val)) Finset.univ i

/-- What device `c` leaves in the output buffer. -/
def OUT : Cn F cc0_stg5_0 :=
  k0_pay55 (bA.view.readAt (Elt F) (Rect.unit (s := S2x512x768) ![0, 0, 0] S2x512x768.size inb_S2x512x768_S2x512x768_0_0_0).toLoadRect (AG m))

end Cert.KernelIdeal.Proto
-- ==== Proof.KernelIdeal.Protocol.lean ====
module
public import proofs.«01_k».proof.Proof.KernelIdeal.Contents
public import Idealize.ShloMosaic.Lib.Pipeline.Launch
public import Idealize.ShloMosaic.Lib.Pipeline.Kit
public import Idealize.ShloMosaic.Lib.Tactic
@[expose] public section

/-!
# The exchange protocol

Each device has one barrier cell (the handshake at entry) and a family of transfer cells: one for each copy it sends,
one for each kind of copy it receives. Every cell has one round. This module lists the cells, says who pays each of them
and with what, the order in which a device pays, and the levels that make every wait lawful.

* The barrier cell of device `c` is paid by each other device `d`, one unit each; with it `d` hands over the parts of
  its scratch buffers that `c` will write: key and value rows if `c` is 0 or 1, and, if `d` is a partner of `c`, a
  landing segment and the rows of the gathering buffer that `c` fills. It also passes on that its own cells are open.
* A send cell gives the source of the copy back, a receive cell gives the destination with its contents.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Cells -/

/-- The cells of one device beside its barrier cell: `ks ci t` for the key (`ci = 0`) or value (`ci = 1`) copy it sends
to device `t`; `kr r ci` for the copy it receives from device `r`; `rss`, `rsr`, `ags`, `agr` for the three sends and
receives of the reduce-scatter and of the all-gather. -/
inductive Own where
  | ks (ci : Fin 2) (t : Fin 8)
  | kr (r ci : Fin 2)
  | rss (s : Fin 3)
  | rsr (s : Fin 3)
  | ags (s : Fin 3)
  | agr (s : Fin 3)
deriving DecidableEq, Fintype

/-- The number of a cell's semaphore. -/
def num : Own → ℕ
  | .ks ci t => 6 + 8 * ci.val + t.val
  | .kr r ci => 22 + 2 * r.val + ci.val
  | .rss s => 26 + s.val
  | .rsr s => 29 + s.val
  | .ags s => 32 + s.val
  | .agr s => 35 + s.val

theorem num_lt (k : Own) : num k < sig.nDmaSem := by revert k; decide
theorem num_inj : Function.Injective num := by decide

abbrev barS : Sem sig := (SemArray.scalar (sig.barrier 0 rfl) : Sems sig S_).sem
abbrev osem (k : Own) : SemLoc sig := .dma ⟨num k, num_lt k⟩
def csem : Option Own → SemLoc sig
  | none => .reg barS
  | some k => osem k
theorem csem_inj : Function.Injective csem := by
  intro a b h
  cases a <;> cases b
  · rfl
  · cases h
  · cases h
  · simp only [csem, osem, SemLoc.dma.injEq, Fin.mk.injEq] at h
    rw [num_inj h]

abbrev kcell (p : Dev nD × Option Own) : GSem nD τ sig := ((p.1 : Thread nD τ), csem p.2)

theorem kcell_inj : Function.Injective kcell := by
  rintro ⟨a, k⟩ ⟨b, k'⟩ h
  have h2 : csem k = csem k' := congrArg Prod.snd h
  have h1 : (a : Thread nD τ) = (b : Thread nD τ) := congrArg Prod.fst h
  rw [csem_inj h2, show a = b from congrArg Prod.fst h1]

open Classical in
/-- The cell kind behind a semaphore. -/
def kd (s : SemLoc sig) : Option (Option Own) := if h : ∃ k, s = csem k then some h.choose else none

theorem kd_csem (k : Option Own) : kd (csem k) = some k := by
  have h : ∃ k', csem k = csem k' := ⟨k, rfl⟩
  unfold kd
  rw [dif_pos h]
  exact congrArg some (csem_inj h.choose_spec).symm

/-- Which of its cells a device uses: only devices 0 and 1 send key and value columns, and not to themselves. -/
def used (c : Dev nD) : Own → Bool
  | .ks _ t => (c.val == 0 && t.val != 0) || (c.val == 1 && t.val != 1)
  | .kr r _ => c.val != r.val
  | _ => true

/-- What one payment of a cell amounts to. -/
def amt (c : Dev nD) : Option Own → ℕ
  | none => 1
  | some (.ks ci _) => if c = 0 then (if ci = 0 then (row0 bK).view.dmaCredit else (row0 bV).view.dmaCredit)
      else (if ci = 0 then (row1 bK).view.dmaCredit else (row1 bV).view.dmaCredit)
  | some (.kr r ci) => if r = 0 then (if ci = 0 then (row0 bK).view.dmaCredit else (row0 bV).view.dmaCredit)
      else (if ci = 0 then (row1 bK).view.dmaCredit else (row1 bV).view.dmaCredit)
  | some (.rss s) => if s = 0 then seg0.view.dmaCredit else if s = 1 then seg1.view.dmaCredit else seg2.view.dmaCredit
  | some (.rsr s) => if s = 0 then seg0.view.dmaCredit else if s = 1 then seg1.view.dmaCredit else seg2.view.dmaCredit
  | some (.ags s) => if s = 0 then (gat0 c).view.dmaCredit else if s = 1 then (gat1 c).view.dmaCredit else (gat2 c).view.dmaCredit
  | some (.agr s) => if s = 0 then (gat0 c).view.dmaCredit else if s = 1 then (gat1 c).view.dmaCredit else (gat2 c).view.dmaCredit

theorem amt_pos (c : Dev nD) (k : Option Own) : 0 < amt c k := by
  unfold amt
  split <;> (repeat' split) <;> first | exact Nat.one_pos | exact View.dmaCredit_pos _ (by decide)

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Payloads -/

/-- Part of a buffer of device `c`, holding `f`. -/
abbrev part {sp : Space} {s : Shape} {e : EltTy} (a : Memref sig .tc sp s e) (c : Dev nD) (f : Buf (Elt F) (a.view.loc (c : Thread nD τ))) : sProp 𝕄 :=
  iprop(a.view.loc (c : Thread nD τ) ↦[a.view.set]{fullShare} f)
/-- Part of a buffer of device `c`, contents not said. -/
def anyp {sp : Space} {s : Shape} {e : EltTy} (a : Memref sig .tc sp s e) (c : Dev nD) : sProp 𝕄 :=
  iprop(∃ f : Buf (Elt F) (a.view.loc (c : Thread nD τ)), part a c f)

instance anyp_storable {sp : Space} {s : Shape} {e : EltTy} (a : Memref sig .tc sp s e) (c : Dev nD) :
    BI.Storable (upEmb : UEmb _ 𝕄) (anyp (F := F) a c) := by
  unfold anyp; infer_instance

/-- All of device `d`'s cells are open. -/
def opened (d : Dev nD) : sProp 𝕄 := bigSep Finset.univ fun k : Own => reached ER (kcell (d, some k)) 0

/-- The parts that a signal from `d` to `c` hands over. -/
def gK0 (d c : Dev nD) : sProp 𝕄 := if c = 0 then iprop(anyp (row0 bK) d ∗ anyp (row0 bV) d) else iprop(emp)
def gK1 (d c : Dev nD) : sProp 𝕄 := if c = 1 then iprop(anyp (row1 bK) d ∗ anyp (row1 bV) d) else iprop(emp)
def gS0 (d c : Dev nD) : sProp 𝕄 := if d = q 2 c then iprop(anyp seg0 d ∗ anyp (gat2 c) d) else iprop(emp)
def gS1 (d c : Dev nD) : sProp 𝕄 := if d = q 1 c then iprop(anyp seg1 d ∗ anyp (gat1 c) d) else iprop(emp)
def gS2 (d c : Dev nD) : sProp 𝕄 := if d = q 0 c then iprop(anyp seg2 d ∗ anyp (gat0 c) d) else iprop(emp)
def barPay (d c : Dev nD) : sProp 𝕄 :=
  iprop(gK0 d c ∗ gK1 d c ∗ gS0 d c ∗ gS1 d c ∗ gS2 d c ∗ opened d)

/-- What a transfer cell of `c` yields. -/
def pay (c : Dev nD) : Own → sProp 𝕄
  | .ks ci t => if c = 0 then (if ci = 0 then part (col0 aK t) c (kC m c) else part (col0 aV t) c (vC m c))
      else (if ci = 0 then part (col1 aK t) c (kC m c) else part (col1 aV t) c (vC m c))
  | .kr r ci => if r = 0 then (if ci = 0 then part (row0 bK) c (KB m c) else part (row0 bV) c (VB m c))
      else (if ci = 0 then part (row1 bK) c (KB m c) else part (row1 bV) c (VB m c))
  | .rss s => if s = 0 then anyp snd0 c else if s = 1 then anyp snd1 c else anyp snd2 c
  | .rsr s => if s = 0 then part seg0 c (R0 m c) else if s = 1 then part seg1 c (R1 m c) else part seg2 c (R2 m c)
  | .ags s => if s = 0 then part (gat0 c) c (AG m) else if s = 1 then part (gat1 c) c (AG m) else part (gat2 c) c (AG m)
  | .agr s => if s = 0 then part (gat0 (q 0 c)) c (AG m) else if s = 1 then part (gat1 (q 1 c)) c (AG m) else part (gat2 (q 2 c)) c (AG m)

instance gK0_storable (d c : Dev nD) : BI.Storable (upEmb : UEmb _ 𝕄) (gK0 (F := F) d c) := by
  unfold gK0; split <;> infer_instance
instance gK1_storable (d c : Dev nD) : BI.Storable (upEmb : UEmb _ 𝕄) (gK1 (F := F) d c) := by
  unfold gK1; split <;> infer_instance
instance gS0_storable (d c : Dev nD) : BI.Storable (upEmb : UEmb _ 𝕄) (gS0 (F := F) d c) := by
  unfold gS0; split <;> infer_instance
instance gS1_storable (d c : Dev nD) : BI.Storable (upEmb : UEmb _ 𝕄) (gS1 (F := F) d c) := by
  unfold gS1; split <;> infer_instance
instance gS2_storable (d c : Dev nD) : BI.Storable (upEmb : UEmb _ 𝕄) (gS2 (F := F) d c) := by
  unfold gS2; split <;> infer_instance
instance opened_storable (d : Dev nD) : BI.Storable (upEmb : UEmb _ 𝕄) (opened (F := F) d) := by unfold opened; infer_instance
instance barPay_storable (d c : Dev nD) : BI.Storable (upEmb : UEmb _ 𝕄) (barPay (F := F) d c) := by
  unfold barPay; infer_instance

instance pay_storable (c : Dev nD) (k : Own) : BI.Storable (upEmb : UEmb _ 𝕄) (pay m c k) := by
  unfold pay
  (repeat' split) <;> infer_instance

/-! ## The schedule -/

def Rd : Rounds.Schedule (GSem nD τ sig) (Dev nD) 𝕄 where
  duties g r := if r = 0 ∧ g.1.2 = .tc then
      (match kd g.2 with
        | some none => Finset.univ.erase g.1.1
        | some (some k) => if used g.1.1 k then {0} else ∅
        | none => ∅) else ∅
  unitless _ := False
  amount g _ _ := match kd g.2 with
    | some k => amt g.1.1 k
    | none => 1
  payload g _ d := match kd g.2 with
    | some none => barPay d g.1.1
    | some (some k) => pay m g.1.1 k
    | none => iprop(emp)
  amount_pos g _ _ _ := by
    split
    · exact amt_pos _ _
    · exact Nat.one_pos

instance Rd_storable (g : GSem nD τ sig) (r : ℕ) (d : Dev nD) : BI.Storable (upEmb : UEmb _ 𝕄) ((Rd m).payload g r d) := by
  show BI.Storable upEmb (match kd g.2 with
    | some none => barPay d g.1.1
    | some (some k) => pay m g.1.1 k
    | none => iprop(emp))
  split <;> infer_instance

section Tables
variable (c : Dev nD)

theorem duties_bar : (Rd m).duties (kcell (c, none)) 0 = Finset.univ.erase c := by
  dsimp only [Rd, kcell]; rw [if_pos ⟨rfl, rfl⟩, kd_csem]
theorem duties_own (k : Own) : (Rd m).duties (kcell (c, some k)) 0 = if used c k then {0} else ∅ := by
  dsimp only [Rd, kcell]; rw [if_pos ⟨rfl, rfl⟩, kd_csem]
theorem duties_used {k : Own} (h : used c k = true) : (Rd m).duties (kcell (c, some k)) 0 = {0} := by
  rw [duties_own, if_pos h]
theorem duties_unused {k : Own} (h : used c k = false) (r : ℕ) : (Rd m).duties (kcell (c, some k)) r = ∅ := by
  rcases Nat.eq_zero_or_pos r with rfl | hr
  · rw [duties_own, h]; rfl
  · dsimp only [Rd]; rw [if_neg (fun h => by omega)]
theorem duties_later (g : GSem nD τ sig) : ∀ r, 1 ≤ r → (Rd m).duties g r = ∅ :=
  fun r hr => by dsimp only [Rd]; rw [if_neg fun h => by omega]
theorem amount_eq (k : Option Own) (r : ℕ) (d : Dev nD) : (Rd m).amount (kcell (c, k)) r d = amt c k := by
  dsimp only [Rd, kcell]; rw [kd_csem]
theorem payload_bar (r : ℕ) (d : Dev nD) : (Rd m).payload (kcell (c, none)) r d = barPay d c := by
  dsimp only [Rd, kcell]; rw [kd_csem]
theorem payload_own (k : Own) (r : ℕ) (d : Dev nD) : (Rd m).payload (kcell (c, some k)) r d = pay m c k := by
  dsimp only [Rd, kcell]; rw [kd_csem]
theorem expect_bar : (Rd m).expect (kcell (c, none)) 0 = 7 := by
  unfold Schedule.expect Schedule.amountOf
  rw [duties_bar, Finset.sum_congr rfl fun d _ => amount_eq m c none 0 d, Finset.sum_const, Finset.card_erase_of_mem (Finset.mem_univ _),
    Finset.card_univ]
  rfl
theorem expect_used {k : Own} (h : used c k = true) : (Rd m).expect (kcell (c, some k)) 0 = amt c (some k) := by
  unfold Schedule.expect Schedule.amountOf; rw [duties_used m c h, Finset.sum_singleton, amount_eq]
theorem rest_bar : bigSep ((Rd m).duties (kcell (c, none)) 0 \ ∅) (fun d => (Rd m).payload (kcell (c, none)) 0 d)
    = bigSep (Finset.univ.erase c) fun d => barPay d c := by
  rw [Finset.sdiff_empty, duties_bar]; exact bigSep_congr fun d _ => payload_bar m c 0 d
theorem rest_used {k : Own} (h : used c k = true) :
    bigSep ((Rd m).duties (kcell (c, some k)) 0 \ ∅) (fun d => (Rd m).payload (kcell (c, some k)) 0 d) = pay m c k := by
  rw [Finset.sdiff_empty, duties_used m c h, bigSep_singleton, payload_own]

end Tables

/-! ## Dues and levels -/

/-- What a device owes while the payments of `l` lie ahead of it, the first one next. -/
def owe : List (Dev nD × Option Own) → CellTallies nD τ sig Unit
  | [] => 0
  | p :: l => owe l + tallyAt (kcell p) () (amt p.1 p.2)

/-- The level of a cell: whoever waits on it may still owe only cells of a higher level. -/
def lvK : Option Own → ℕ
  | none => 1
  | some (.ks _ _) => 0
  | some (.kr _ ci) => 2 + ci.val
  | some (.rss _) => 0
  | some (.rsr s) => 4 + s.val
  | some (.ags _) => 0
  | some (.agr s) => 7 + s.val

def L (g : GSem nD τ sig) : Finset Unit := if g.1.2 = .tc then {()} else ∅
def lv (g : GSem nD τ sig) (_ : Unit) : ℕ := match kd g.2 with
  | some k => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × Option Own) (u : Unit) : lv (kcell p) u = lvK p.2 := by
  dsimp only [lv, kcell]; rw [kd_csem]

theorem owe_pos {l : List (Dev nD × Option Own)} {g : GSem nD τ sig} {u : Unit} (h : 0 < owe l g u) : ∃ p ∈ l, g = kcell p := by
  induction l with
  | nil => exact absurd h (Nat.lt_irrefl 0)
  | cons p l ih =>
    unfold owe at h
    rw [Pi.add_apply, Finsupp.add_apply, tallyAt_apply] at h
    by_cases hp : g = kcell p ∧ u = ()
    · exact ⟨p, List.mem_cons_self, hp.1⟩
    · rw [if_neg hp, Nat.add_zero] at h
      obtain ⟨p', hp', e⟩ := ih h
      exact ⟨p', List.mem_cons_of_mem _ hp', e⟩

/-- A wait on a cell of a lower level than all that is owed. -/
theorem mayWait_owe (c : Dev nD) (sm : SemLoc sig) (l : List (Dev nD × Option Own))
    (h : ∀ p ∈ l, lv ((c : Thread nD τ), sm) () < lvK p.2) : (levAts L lv : sProp 𝕄) ⊢ MayWait (c : Thread nD τ) sm () (owe l) :=
  MayOwe.of_cut (L := L) (lev := lv) (lv ((c : Thread nD τ), sm) ())
    (fun p hp => by rw [Finset.mem_singleton.mp hp, L_tc]; exact Finset.mem_singleton_self _)
    (fun g u hg => by obtain ⟨p, -, rfl⟩ := owe_pos hg; exact Finset.mem_singleton_self _)
    (fun p hp => by rw [Finset.mem_singleton.mp hp])
    (fun g u hg => by obtain ⟨p, hp, rfl⟩ := owe_pos hg; rw [lv_kcell]; exact h p hp)

theorem mayWait_own (c : Dev nD) (k : Option Own) (l : List (Dev nD × Option Own))
    (h : (l.map fun p => lvK p.2).all (fun n => decide (lvK k < n)) = true) :
    (levAts L lv : sProp 𝕄) ⊢ MayWait (c : Thread nD τ) (csem k) () (owe l) :=
  mayWait_owe c (csem k) l fun p hp => by
    rw [show lv ((c : Thread nD τ), csem k) () = lvK k from lv_kcell (c, k) ()]
    rw [List.all_eq_true] at h
    exact of_decide_eq_true (h _ (List.mem_map_of_mem hp))

set_option backward.proofsInPublic true in
/-- The device `j` places further on. -/
def nx (j : ℕ) (c : Dev nD) : Dev nD := ⟨(c.val + j) % 8, Nat.mod_lt _ (by decide)⟩

/-- The payments of the reduce-scatter and of the all-gather. -/
abbrev dRS (c : Dev nD) : List (Dev nD × Option Own) :=
  [(q 2 c, some (.rsr 0)), (q 1 c, some (.rsr 1)), (q 0 c, some (.rsr 2)),
   (q 0 c, some (.agr 0)), (q 1 c, some (.agr 1)), (q 2 c, some (.agr 2))]
/-- Device 0's value columns, then its key columns before them; device 1's. -/
abbrev dV0 : List (Dev nD × Option Own) :=
  (1, some (.kr 0 1)) :: (2, some (.kr 0 1)) :: (3, some (.kr 0 1)) :: (4, some (.kr 0 1)) :: (5, some (.kr 0 1))
    :: (6, some (.kr 0 1)) :: (7, some (.kr 0 1)) :: dRS 0
abbrev dK0 : List (Dev nD × Option Own) :=
  (1, some (.kr 0 0)) :: (2, some (.kr 0 0)) :: (3, some (.kr 0 0)) :: (4, some (.kr 0 0)) :: (5, some (.kr 0 0))
    :: (6, some (.kr 0 0)) :: (7, some (.kr 0 0)) :: dV0
abbrev dV1 : List (Dev nD × Option Own) :=
  (0, some (.kr 1 1)) :: (2, some (.kr 1 1)) :: (3, some (.kr 1 1)) :: (4, some (.kr 1 1)) :: (5, some (.kr 1 1))
    :: (6, some (.kr 1 1)) :: (7, some (.kr 1 1)) :: dRS 1
abbrev dK1 : List (Dev nD × Option Own) :=
  (0, some (.kr 1 0)) :: (2, some (.kr 1 0)) :: (3, some (.kr 1 0)) :: (4, some (.kr 1 0)) :: (5, some (.kr 1 0))
    :: (6, some (.kr 1 0)) :: (7, some (.kr 1 0)) :: dV1
/-- What is left to pay after the handshake. -/
def dXfer (c : Dev nD) : List (Dev nD × Option Own) := if c = 0 then dK0 else if c = 1 then dK1 else dRS c
/-- Everything that device `c` pays to other devices' cells, in order. -/
abbrev dAll (c : Dev nD) : List (Dev nD × Option Own) :=
  (nx 1 c, none) :: (nx 2 c, none) :: (nx 3 c, none) :: (nx 4 c, none) :: (nx 5 c, none) :: (nx 6 c, none) :: (nx 7 c, none)
    :: dXfer c

end Cert.KernelIdeal.Proto
-- ==== Proof.KernelIdeal.Steps.lean ====
module
public import proofs.«01_k».proof.Proof.KernelIdeal.Protocol
@[expose] public section

/-!
# The rules of one step

A signal, a copy to another device and a wait, each in the form in which the body uses it: the device's dues are a list,
and the first entry of the list is what the step pays.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ)

/-- Every cell of every device, open under the names `K`. -/
def recs (K : Dev nD × Option Own → ℕ) : sProp 𝕄 :=
  bigSep Finset.univ fun p : Dev nD × Option Own => cellInv ER (Rd m) (K p) (kcell p)

instance recs_persistent (K : Dev nD × Option Own → ℕ) : BI.Persistent (recs m K) := by unfold recs; infer_instance

theorem recs_at (K : Dev nD × Option Own → ℕ) (p : Dev nD × Option Own) : recs m K ⊢ cellInv ER (Rd m) (K p) (kcell p) :=
  bigSep_elim (Finset.mem_univ p)

instance opened_persistent (d : Dev nD) : BI.Persistent (opened (F := F) d) := by unfold opened; infer_instance

theorem opened_at (d : Dev nD) (k : Own) : opened (F := F) d ⊢ reached ER (kcell (d, some k)) 0 :=
  bigSep_elim (Φ := fun k : Own => reached ER (kcell (d, some k)) 0) (Finset.mem_univ k)

/-- What the device owes while the payments `l` lie ahead, whatever it has waited for so far. -/
def ow (c : Dev nD) (l : List (Dev nD × Option Own)) : sProp 𝕄 := iprop(∃ W, owes (c : Thread nD τ) (owe l) W)
/-- The token of a payment that device `c` makes. -/
def tok (c : Dev nD) (p : Dev nD × Option Own) : sProp 𝕄 := dutyTok ER (kcell p) 0 (if p.2 = none then c else 0)
/-- The device's place at one of its own cells. -/
def pos (c : Dev nD) (k : Own) (r : ℕ) : sProp 𝕄 := atPos ER (kcell (c, some k)) r ∅ 0
/-- The units that one of the device's own cells is to receive. -/
def crd (c : Dev nD) (k : Own) : sProp 𝕄 := cred (tallyAt (kcell (c, some k)) () (amt c (some k)))

theorem tok_bar (c d : Dev nD) : tok (F := F) c (d, none) = dutyTok ER ((d : Thread nD τ), SemLoc.reg barS) 0 c := rfl
theorem tok_own (c d : Dev nD) (k : Own) : tok (F := F) c (d, some k) = dutyTok ER ((d : Thread nD τ), osem k) 0 0 := rfl
theorem crd_eq (c : Dev nD) (k : Own) : crd (F := F) c k = cred (tallyAt ((c : Thread nD τ), osem k) () (amt c (some k))) := rfl
theorem payload_bar' (c d : Dev nD) : (Rd m).payload ((d : Thread nD τ), SemLoc.reg barS) 0 c = barPay c d := payload_bar m d 0 c
theorem rest_used' (c : Dev nD) {k : Own} (h : used c k = true) :
    bigSep ((Rd m).duties ((c : Thread nD τ), osem k) 0 \ ∅) (fun d => (Rd m).payload ((c : Thread nD τ), osem k) 0 d) = pay m c k :=
  rest_used m c h

variable {α : Type} (K : Dev nD × Option Own → ℕ)

/-- One signal of the handshake. -/
theorem signal_step (c d : Dev nD) (hcd : c ≠ d) (d' : Dev nD) (hd : d' = d) (l : List (Dev nD × Option Own)) {sem : Sem sig} (hs : sem = barS)
    {n : ℕ} (hn : n = 1)
    {k : PUnit → Prog (TpuEff nD τ sig (Elt F) Λ₀ (.tc : Proc τ)) α} {Q : α → sProp 𝕄} :
    recs m K ⊢ iprop(reached ER (kcell (d, none)) 0 -∗ ow c ((d, none) :: l) -∗ tok c (d, none) -∗ barPay c d
      -∗ (ow c l -∗ wp frame (wpE (defs₀ (F := F)) 𝒱₀ c none) Set.univ (k ⟨⟩) Q)
      -∗ wp frame (wpE (defs₀ (F := F)) 𝒱₀ c none) Set.univ (.op (.semSignal (d' : Thread nD τ) sem n) k) Q) := by
  subst hd hs hn
  unfold ow
  iintro #HI #Hr ⟨%W, HO⟩ Ht Hp Hk
  iapply (Rounds.wp_signal 𝒱₀ ER (Rd m) (c : Thread nD τ) none (dst := (d' : Thread nD τ)) (κ := K (d', none)) (r := 0)
      (d := c) (by rw [show ((d' : Thread nD τ), SemLoc.reg barS) = kcell (d', none) from rfl, duties_bar]; exact Finset.mem_erase.mpr ⟨hcd, Finset.mem_univ _⟩)
      (amount_eq m d' none 0 c) () (owe l) rfl (W := W)) $$ [HO Ht Hp]
  · isplitr; · iapply (recs_at m K (d', none)) $$ HI
    isplitl [HO]; · iexact HO
    isplitl [Ht]; · rw [← tok_bar]; iexact Ht
    isplitl [Hp]; · rw [payload_bar']; iexact Hp
    iexact Hr
  iintro HO
  iapply Hk
  iexists W; iexact HO

/-- One copy to another device, from cell `kS` of the sender to cell `kR` of the receiver. -/
theorem send_step (c d : Dev nD) (kS kR : Own) (uS : used c kS = true) (uR : used d kR = true) (d' : Dev nD) (hd : d' = d)
    {sp sp' : Space} {s : Shape} {e : EltTy} {src : Memref sig .tc sp s e} {dst : Memref sig .tc sp' s e}
    {hsc : dst.view.ref.isScScratch = false} {sS sR : SemLoc sig} (hsS : sS = osem kS) (hsR : sR = osem kR)
    {hsrc : src.view.WordExact} {hdst : dst.view.WordExact} {hsem : DmaTarget.Typed (nD := nD) (τ := τ) sp sR (.remote (Dev.tc d') dst sS hsc)}
    (hN : dst.view.amount sR = amt d (some kR)) (hNS : amt c (some kS) = amt d (some kR))
    (fs : Buf (Elt F) (src.view.loc (c : Thread nD τ))) (fd : Buf (Elt F) (dst.view.loc (d : Thread nD τ)))
    (l : List (Dev nD × Option Own))
    (hpS : part src c fs ⊢ pay m c kS)
    (hpR : part dst d (dst.view.write (Elt F) fd (src.view.read (Elt F) fs) Finset.univ) ⊢ pay m d kR)
    {k : PUnit → Prog (TpuEff nD τ sig (Elt F) Λ₀ (.tc : Proc τ)) α} {Q : α → sProp 𝕄} :
    recs m K ⊢ iprop(opened c -∗ opened d -∗ part src c fs -∗ part dst d fd -∗ ow c ((d, some kR) :: l)
      -∗ tok c (c, some kS) -∗ tok c (d, some kR)
      -∗ (crd c kS -∗ ow c l -∗ wp frame (wpE (defs₀ (F := F)) 𝒱₀ c none) Set.univ (k ⟨⟩) Q)
      -∗ wp frame (wpE (defs₀ (F := F)) 𝒱₀ c none) Set.univ (.op (.enqueueDma src (.remote (Dev.tc d') dst sS hsc) sR hsrc hdst hsem) k) Q) := by
  subst hd hsS hsR
  unfold ow
  iintro #HI #Hoc #Hod Hs Hd ⟨%W, HO⟩ HtS HtR Hk
  iapply (Rounds.wp_send_pointsTo 𝒱₀ ER (Rd m) (c : Thread nD τ) none (c' := (d' : Thread nD τ)) (src := src) (dst := dst)
    (κ₁ := K (c, some kS)) (κ₂ := K (d', some kR)) (r₁ := 0) (r₂ := 0) (d₁ := 0) (d₂ := 0) (fs := fs) (fd := fd) (q := fullShare)
    (sS := osem kS) (sem := osem kR)
    (by rw [show ((c : Thread nD τ), osem kS) = kcell (c, some kS) from rfl, duties_used m c uS]; exact Finset.mem_singleton_self _)
    (by rw [show ((d' : Thread nD τ), osem kR) = kcell (d', some kR) from rfl, duties_used m d' uR]; exact Finset.mem_singleton_self _)
    () () (amt d' (some kR)) hN ((amount_eq m c (some kS) 0 0).trans hNS) (amount_eq m d' (some kR) 0 0) (owe l) rfl (W := W)
    (hpS.trans (Entails.of_eq (payload_own m c kS 0 0).symm))
    (hpR.trans (Entails.of_eq (payload_own m d' kR 0 0).symm))) $$ [Hs Hd HO HtS HtR]
  · isplitr; · iapply (recs_at m K (c, some kS)) $$ HI
    isplitr; · iapply (recs_at m K (d', some kR)) $$ HI
    isplitl [Hs]; · iexact Hs
    isplitl [Hd]; · iexact Hd
    isplitl [HO]; · iexact HO
    isplitl [HtS]; · rw [← tok_own c c kS]; iexact HtS
    isplitr; · iapply (opened_at c kS) $$ Hoc
    isplitl [HtR]; · rw [← tok_own c d' kR]; iexact HtR
    iapply (opened_at d' kR) $$ Hod
  iintro ⟨Hc, HO⟩
  iapply Hk $$ [Hc]
  · unfold crd; rw [hNS]; iexact Hc
  iexists W; iexact HO

/-- A wait on one of the device's own cells. -/
theorem wait_step (c : Dev nD) (k₀ : Own) (u : used c k₀ = true)
    {sp sp' : Space} {s s' : Shape} {e e' : EltTy} {sem : DmaSem sig} (hs : SemLoc.dma sem = osem k₀)
    {src : Memref sig .tc sp' s' e'} {dst : Memref sig .tc sp s e} {hsrc : src.view.WordExact} {hdst : dst.view.WordExact}
    (hN : dst.view.dmaCredit = amt c (some k₀)) (l : List (Dev nD × Option Own))
    (hl : (l.map fun p => lvK p.2).all (fun n => decide (lvK (some k₀) < n)) = true)
    {k : PUnit → Prog (TpuEff nD τ sig (Elt F) Λ₀ (.tc : Proc τ)) α} {Q : α → sProp 𝕄} :
    recs m K ⊢ iprop(levAts L lv -∗ crd c k₀ -∗ ow c l -∗ pos c k₀ 0
      -∗ (ow c l -∗ pos c k₀ 1 -∗ pay m c k₀ -∗ wp frame (wpE (defs₀ (F := F)) 𝒱₀ c none) Set.univ (k ⟨⟩) Q)
      -∗ wp frame (wpE (defs₀ (F := F)) 𝒱₀ c none) Set.univ (.op (.waitDma2 sem src dst hsrc hdst) k) Q) := by
  unfold ow pos
  iintro #HI #Hl Hc ⟨%W, HO⟩ Ha Hk
  iapply (Rounds.wp_wait_rest_token 𝒱₀ ER (Rd m) (c : Thread nD τ) none (κ := K (c, some k₀)) (sm := osem k₀) (k' := amt c (some k₀))
      (fun Q' => (wpE_waitDma2_eq 𝒱₀ (c : Thread nD τ) none Set.univ Q').trans (by rw [hs, hN])) (Set.mem_univ _) () (O := owe l) (W := W) (R := 0) (m := 0) (T := ∅)
      (by rw [Nat.zero_add]; exact (expect_used m c u).symm)) $$ [Hc HO Ha]
  · isplitr; · iapply (recs_at m K (c, some k₀)) $$ HI
    isplitl [Hc]; · rw [← crd_eq]; iexact Hc
    isplitl [HO]; · iexact HO
    isplitr; · iapply (mayWait_own c (some k₀) l hl) $$ Hl
    iexact Ha
  iintro ⟨HO, Ha, -, Hp⟩
  iapply Hk $$ [HO] [Ha]
  · iexists _; iexact HO
  · iexact Ha
  iapply (Entails.of_eq (rest_used' m c u)) $$ Hp

/-- The wait of the handshake. -/
theorem barrier_step (c : Dev nD) (l : List (Dev nD × Option Own))
    (hl : ∀ p ∈ l, 1 < lvK p.2) {sem : Sem sig} (hs : sem = barS) {n : ℕ} (hn : n = 7)
    {k : PUnit → Prog (TpuEff nD τ sig (Elt F) Λ₀ (.tc : Proc τ)) α} {Q : α → sProp 𝕄} :
    recs m K ⊢ iprop(levAts L lv -∗ cred (tallyAt (kcell (c, none)) () 7) -∗ ow c l -∗ atPos ER (kcell (c, none)) 0 ∅ 0
      -∗ (ow c l -∗ atPos ER (kcell (c, none)) 1 ∅ 0 -∗ (bigSep (Finset.univ.erase c) fun d => barPay d c)
        -∗ wp frame (wpE (defs₀ (F := F)) 𝒱₀ c none) Set.univ (k ⟨⟩) Q)
      -∗ wp frame (wpE (defs₀ (F := F)) 𝒱₀ c none) Set.univ (.op (.semWait sem n) k) Q) := by
  subst hs hn
  unfold ow
  iintro #HI #Hl Hc ⟨%W, HO⟩ Ha Hk
  iapply (Rounds.wp_wait_rest_token 𝒱₀ ER (Rd m) (c : Thread nD τ) none (κ := K (c, none)) (sm := csem none) (k' := 7)
      (wpE_semWait_eq 𝒱₀ (c : Thread nD τ) none Set.univ) (Set.mem_univ _) () (O := owe l) (W := W) (R := 0) (m := 0) (T := ∅)
      (by rw [Nat.zero_add]; exact (expect_bar m c).symm)) $$ [Hc HO Ha]
  · isplitr; · iapply (recs_at m K (c, none)) $$ HI
    isplitl [Hc]; · iexact Hc
    isplitl [HO]; · iexact HO
    isplitr
    · iapply (mayWait_owe c (csem none) l (by rw [show lv ((c : Thread nD τ), csem none) () = 1 from lv_kcell (c, none) ()]; exact hl)) $$ Hl
    iexact Ha
  iintro ⟨HO, Ha, -, Hp⟩
  iapply Hk $$ [HO] [Ha]
  · iexists _; iexact HO
  · iexact Ha
  iapply (Entails.of_eq (rest_bar m c)) $$ Hp

/-- A cell whose last round is over gives its counter back. -/
theorem close_own (c : Dev nD) (k : Own) :
    recs m K ⊢ iprop(pos c k (if used c k then 1 else 0) -∗ |={Set.univ}=> semVal (kcell (c, some k)) 0) := by
  unfold pos
  iintro #HI Ha
  iapply (Rounds.cell_close ER (Rd m) (Set.mem_univ (K (c, some k))) (fun h => h) (R := if used c k then 1 else 0) (by
    intro r hr
    cases hu : used c k
    · exact duties_unused m c hu r
    · rw [hu] at hr; exact duties_later m _ r hr))
  isplitr; · iapply (recs_at m K (c, some k)) $$ HI
  iexact Ha
theorem close_bar (c : Dev nD) :
    recs m K ⊢ iprop(atPos ER (kcell (c, none)) 1 ∅ 0 -∗ |={Set.univ}=> semVal (kcell (c, none)) 0) := by
  iintro #HI Ha
  iapply (Rounds.cell_close ER (Rd m) (Set.mem_univ (K (c, none))) (fun h => h) (R := 1) (duties_later m _))
  isplitr; · iapply (recs_at m K (c, none)) $$ HI
  iexact Ha

end Cert.KernelIdeal.Proto
-- ==== Proof.KernelIdeal.Regions.lean ====
module
public import proofs.«01_k».proof.Proof.KernelIdeal.Protocol
@[expose] public section

/-!
# Cutting the buffers into the parts that travel

The windows are cut by rows, the staged key and value blocks by columns, the landing buffer into its three segments and
the gathering buffer into the rows of the three exchanges. The second half says what the parts hold after a store or
a copy.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Sets of elements -/

section Sets

theorem mem_row0 {i : S2x640x512.Idx} :
    i ∈ (Rect.unit (s := S2x640x512) ![0, 0, 0] S2x512x512.size inb_S2x640x512_S2x512x512_0_0_0).set ↔ (i 1).val < 512 := by
  rw [Rect.mem_set_unit]
  have h0 := (i 0).isLt; have h1 := (i 1).isLt; have h2 := (i 2).isLt
  change (i 0).val < 2 at h0; change (i 1).val < 640 at h1; change (i 2).val < 512 at h2
  simp only [Fin.forall_fin_succ, IsEmpty.forall_iff, and_true]
  simp
  omega
theorem mem_row1 {i : S2x640x512.Idx} :
    i ∈ (Rect.unit (s := S2x640x512) ![0, 512, 0] S2x128x512.size inb_S2x640x512_S2x128x512_0_512_0).set ↔ 512 ≤ (i 1).val := by
  rw [Rect.mem_set_unit]
  have h0 := (i 0).isLt; have h1 := (i 1).isLt; have h2 := (i 2).isLt
  change (i 0).val < 2 at h0; change (i 1).val < 640 at h1; change (i 2).val < 512 at h2
  simp only [Fin.forall_fin_succ, IsEmpty.forall_iff, and_true]
  simp
  omega
theorem mem_col0 (t : Fin 8) {i : S2x512x4096.Idx} :
    i ∈ (Rect.unit (s := S2x512x4096) ![0, 0, 512 * t.val] S2x512x512.size (inbK0 t)).set ↔ (i 2).val / 512 = t.val := by
  rw [Rect.mem_set_unit]
  have h0 := (i 0).isLt; have h1 := (i 1).isLt; have h2 := (i 2).isLt
  change (i 0).val < 2 at h0; change (i 1).val < 512 at h1; change (i 2).val < 4096 at h2
  simp only [Fin.forall_fin_succ, IsEmpty.forall_iff, and_true]
  simp
  omega
theorem mem_col1 (t : Fin 8) {i : S2x512x4096.Idx} :
    i ∈ (Rect.unit (s := S2x512x4096) ![0, 0, 512 * t.val] S2x128x512.size (inbK1 t)).set ↔ (i 2).val / 512 = t.val ∧ (i 1).val < 128 := by
  rw [Rect.mem_set_unit]
  have h0 := (i 0).isLt; have h1 := (i 1).isLt; have h2 := (i 2).isLt
  change (i 0).val < 2 at h0; change (i 1).val < 512 at h1; change (i 2).val < 4096 at h2
  simp only [Fin.forall_fin_succ, IsEmpty.forall_iff, and_true]
  simp
  omega
theorem mem_seg0 {i : S2x448x768.Idx} :
    i ∈ (Rect.unit (s := S2x448x768) ![0, 0, 0] S2x256x768.size inb_S2x448x768_S2x256x768_0_0_0).set ↔ (i 1).val < 256 := by
  rw [Rect.mem_set_unit]
  have h0 := (i 0).isLt; have h1 := (i 1).isLt; have h2 := (i 2).isLt
  change (i 0).val < 2 at h0; change (i 1).val < 448 at h1; change (i 2).val < 768 at h2
  simp only [Fin.forall_fin_succ, IsEmpty.forall_iff, and_true]
  simp
  omega
theorem mem_seg1 {i : S2x448x768.Idx} :
    i ∈ (Rect.unit (s := S2x448x768) ![0, 256, 0] S2x128x768.size inb_S2x448x768_S2x128x768_0_256_0).set ↔ 256 ≤ (i 1).val ∧ (i 1).val < 384 := by
  rw [Rect.mem_set_unit]
  have h0 := (i 0).isLt; have h1 := (i 1).isLt; have h2 := (i 2).isLt
  change (i 0).val < 2 at h0; change (i 1).val < 448 at h1; change (i 2).val < 768 at h2
  simp only [Fin.forall_fin_succ, IsEmpty.forall_iff, and_true]
  simp
  omega
theorem mem_seg2 {i : S2x448x768.Idx} :
    i ∈ (Rect.unit (s := S2x448x768) ![0, 384, 0] S2x64x768.size inb_S2x448x768_S2x64x768_0_384_0).set ↔ 384 ≤ (i 1).val := by
  rw [Rect.mem_set_unit]
  have h0 := (i 0).isLt; have h1 := (i 1).isLt; have h2 := (i 2).isLt
  change (i 0).val < 2 at h0; change (i 1).val < 448 at h1; change (i 2).val < 768 at h2
  simp only [Fin.forall_fin_succ, IsEmpty.forall_iff, and_true]
  simp
  omega
theorem mem_snd0 {i : S2x256x768.Idx} :
    i ∈ (Rect.unit (s := S2x256x768) ![0, 0, 0] S2x256x768.size inb_S2x256x768_S2x256x768_0_0_0).set ↔ True := by
  rw [Rect.mem_set_unit]
  have h0 := (i 0).isLt; have h1 := (i 1).isLt; have h2 := (i 2).isLt
  change (i 0).val < 2 at h0; change (i 1).val < 256 at h1; change (i 2).val < 768 at h2
  simp only [Fin.forall_fin_succ, IsEmpty.forall_iff, and_true]
  simp
  omega
theorem mem_gat0 (c : Dev nD) {i : S2x512x768.Idx} :
    i ∈ (Rect.unit (s := S2x512x768) (k0_off7 c) S2x64x768.size (k0_off7_inb c)).set ↔ (i 1).val / 64 = lin c.val := by
  rw [Rect.mem_set_unit, off7_eq]
  have h0 := (i 0).isLt; have h1 := (i 1).isLt; have h2 := (i 2).isLt
  change (i 0).val < 2 at h0; change (i 1).val < 512 at h1; change (i 2).val < 768 at h2
  simp only [Fin.forall_fin_succ, IsEmpty.forall_iff, and_true]
  simp
  omega
theorem mem_gat1 (c : Dev nD) {i : S2x512x768.Idx} :
    i ∈ (Rect.unit (s := S2x512x768) (k0_off8 c) S2x128x768.size (k0_off8_inb c)).set ↔ (i 1).val / 128 = lin c.val / 2 := by
  rw [Rect.mem_set_unit, off8_eq]
  have h0 := (i 0).isLt; have h1 := (i 1).isLt; have h2 := (i 2).isLt
  change (i 0).val < 2 at h0; change (i 1).val < 512 at h1; change (i 2).val < 768 at h2
  simp only [Fin.forall_fin_succ, IsEmpty.forall_iff, and_true]
  simp
  omega
theorem mem_gat2 (c : Dev nD) {i : S2x512x768.Idx} :
    i ∈ (Rect.unit (s := S2x512x768) (k0_off9 c) S2x256x768.size (k0_off9_inb c)).set ↔ (i 1).val / 256 = lin c.val / 4 := by
  rw [Rect.mem_set_unit, off9_eq]
  have h0 := (i 0).isLt; have h1 := (i 1).isLt; have h2 := (i 2).isLt
  change (i 0).val < 2 at h0; change (i 1).val < 512 at h1; change (i 2).val < 768 at h2
  simp only [Fin.forall_fin_succ, IsEmpty.forall_iff, and_true]
  simp
  omega
theorem mem_r6 (c : Dev nD) {i : S2x512x768.Idx} :
    i ∈ (Rect.unit (s := S2x512x768) (k0_off6 c) S2x64x768.size (k0_off6_inb c)).set ↔ (i 1).val / 64 = lin c.val := by
  rw [Rect.mem_set_unit, off6_eq]
  have h0 := (i 0).isLt; have h1 := (i 1).isLt; have h2 := (i 2).isLt
  change (i 0).val < 2 at h0; change (i 1).val < 512 at h1; change (i 2).val < 768 at h2
  simp only [Fin.forall_fin_succ, IsEmpty.forall_iff, and_true]
  simp
  omega
theorem mem_O0 {i : S2x512x768.Idx} :
    i ∈ (Rect.unit (s := S2x512x768) ![0, 0, 0] S1x512x768.size inb_S2x512x768_S1x512x768_0_0_0).set ↔ (i 0).val = 0 := by
  rw [Rect.mem_set_unit]
  have h0 := (i 0).isLt; have h1 := (i 1).isLt; have h2 := (i 2).isLt
  change (i 0).val < 2 at h0; change (i 1).val < 512 at h1; change (i 2).val < 768 at h2
  simp only [Fin.forall_fin_succ, IsEmpty.forall_iff, and_true]
  simp
  omega
theorem mem_O1 {i : S2x512x768.Idx} :
    i ∈ (Rect.unit (s := S2x512x768) ![1, 0, 0] S1x512x768.size inb_S2x512x768_S1x512x768_1_0_0).set ↔ (i 0).val = 1 := by
  rw [Rect.mem_set_unit]
  have h0 := (i 0).isLt; have h1 := (i 1).isLt; have h2 := (i 2).isLt
  change (i 0).val < 2 at h0; change (i 1).val < 512 at h1; change (i 2).val < 768 at h2
  simp only [Fin.forall_fin_succ, IsEmpty.forall_iff, and_true]
  simp
  omega

/-- The places of a device and of its three partners along the exchange. -/
theorem lin_facts (c : Dev nD) : lin c.val < 8 ∧ lin (q 0 c).val = lin c.val + 1 - 2 * (lin c.val % 2)
    ∧ lin (q 1 c).val / 2 = lin c.val / 2 + 1 - 2 * (lin c.val / 2 % 2) ∧ lin (q 2 c).val / 4 = 1 - lin c.val / 4 := by
  revert c; decide
theorem lin_lin (n : ℕ) (h : n < 8) : lin (lin n) = n := by
  revert h; revert n; decide
theorem own_eq (c : Dev nD) (n : ℕ) (h : n / 64 = lin c.val) : own n = c := by
  apply Fin.ext
  show lin (n / 64) % 8 = c.val
  rw [h, lin_lin _ c.isLt]; exact Nat.mod_eq_of_lt c.isLt

end Sets

/-! ## Cutting and joining -/

theorem rows_K (c : Dev nD) (f : Buf (Elt F) (bK.view.loc (c : Thread nD τ))) :
    (part bK c f : sProp 𝕄) ⊣⊢ iprop(part (row0 bK) c f ∗ part (row1 bK) c f) := by
  have hd : Disjoint (row0 bK).view.set (row1 bK).view.set := by
    refine Finset.disjoint_left.mpr fun i h0 h1 => ?_
    have h0 := (View.set_slice_whole _ _ ▸ h0); have h1 := (View.set_slice_whole _ _ ▸ h1)
    rw [mem_row0] at h0; rw [mem_row1] at h1; omega
  have hu : bK.view.set = (row0 bK).view.set ∪ (row1 bK).view.set := by
    refine (View.set_whole _).trans (Finset.ext fun i => ⟨fun _ => ?_, fun _ => Finset.mem_univ _⟩)
    refine Finset.mem_union.mpr ?_
    rw [show (row0 bK).view.set = _ from View.set_slice_whole _ _, show (row1 bK).view.set = _ from View.set_slice_whole _ _]
    rw [mem_row0, mem_row1]; omega
  show (bK.view.loc (c : Thread nD τ) ↦[bK.view.set]{fullShare} f : sProp 𝕄) ⊣⊢ _
  rw [hu]
  exact pointsTo_union hd

theorem rows_V (c : Dev nD) (f : Buf (Elt F) (bV.view.loc (c : Thread nD τ))) :
    (part bV c f : sProp 𝕄) ⊣⊢ iprop(part (row0 bV) c f ∗ part (row1 bV) c f) := by
  have hd : Disjoint (row0 bV).view.set (row1 bV).view.set := by
    refine Finset.disjoint_left.mpr fun i h0 h1 => ?_
    have h0 := (View.set_slice_whole _ _ ▸ h0); have h1 := (View.set_slice_whole _ _ ▸ h1)
    rw [mem_row0] at h0; rw [mem_row1] at h1; omega
  have hu : bV.view.set = (row0 bV).view.set ∪ (row1 bV).view.set := by
    refine (View.set_whole _).trans (Finset.ext fun i => ⟨fun _ => ?_, fun _ => Finset.mem_univ _⟩)
    refine Finset.mem_union.mpr ?_
    rw [show (row0 bV).view.set = _ from View.set_slice_whole _ _, show (row1 bV).view.set = _ from View.set_slice_whole _ _]
    rw [mem_row0, mem_row1]; omega
  show (bV.view.loc (c : Thread nD τ) ↦[bV.view.set]{fullShare} f : sProp 𝕄) ⊣⊢ _
  rw [hu]
  exact pointsTo_union hd

theorem cols_K (c : Dev nD) (f : Buf (Elt F) (aK.view.loc (c : Thread nD τ))) :
    (part aK c f : sProp 𝕄) = bigSep Finset.univ fun t => part (col0 aK t) c f := by
  have hu : aK.view.set = Finset.univ.biUnion fun t => (col0 aK t).view.set := by
    refine (View.set_whole _).trans (Finset.ext fun i => ⟨fun _ => ?_, fun _ => Finset.mem_univ _⟩)
    have h2 := (i 2).isLt
    change (i 2).val < 4096 at h2
    refine Finset.mem_biUnion.mpr ⟨⟨(i 2).val / 512, by omega⟩, Finset.mem_univ _, ?_⟩
    exact (congrArg (i ∈ ·) (View.set_slice_whole cc0_stg2_0 _)).mpr ((mem_col0 ⟨(i 2).val / 512, by omega⟩).mpr rfl)
  show (aK.view.loc (c : Thread nD τ) ↦[aK.view.set]{fullShare} f : sProp 𝕄) = _
  rw [hu]
  refine pointsTo_biUnion _ _ fun t _ t' _ hne => Finset.disjoint_left.mpr fun i h0 h1 => hne (Fin.ext ?_)
  rw [show (col0 aK t).view.set = _ from View.set_slice_whole _ _, mem_col0] at h0
  rw [show (col0 aK t').view.set = _ from View.set_slice_whole _ _, mem_col0] at h1
  omega

/-- What is left of the block beside the first 128 rows. -/
def restK : Finset (aK.view.ty.Idx) := aK.view.set \ Finset.univ.biUnion fun t => (col1 aK t).view.set

theorem cols1_K (c : Dev nD) (f : Buf (Elt F) (aK.view.loc (c : Thread nD τ))) :
    (part aK c f : sProp 𝕄) ⊣⊢ iprop((bigSep Finset.univ fun t => part (col1 aK t) c f)
      ∗ (aK.view.loc (c : Thread nD τ) ↦[restK]{fullShare} f)) := by
  have hs : (Finset.univ.biUnion fun t => (col1 aK t).view.set) ⊆ aK.view.set := by
    refine Finset.biUnion_subset.mpr fun t _ => View.set_slice_subset _ _
  refine (pointsTo_split_subset hs).trans ?_
  have h := pointsTo_biUnion (Val := Elt F) (Ix := Unit) (Name := ℕ) (U := UU) (Lvl := ℕ) (ℓ := aK.view.loc (c : Thread nD τ)) (q := fullShare) (f := f) Finset.univ (fun t => (col1 aK t).view.set)
    fun t _ t' _ hne => Finset.disjoint_left.mpr fun i h0 h1 => hne (Fin.ext (by
      rw [show (col1 aK t).view.set = _ from View.set_slice_whole _ _, mem_col1] at h0
      rw [show (col1 aK t').view.set = _ from View.set_slice_whole _ _, mem_col1] at h1
      omega))
  exact ⟨sep_mono_left (Entails.of_eq h), sep_mono_left (Entails.of_eq h.symm)⟩

theorem cols_V (c : Dev nD) (f : Buf (Elt F) (aV.view.loc (c : Thread nD τ))) :
    (part aV c f : sProp 𝕄) = bigSep Finset.univ fun t => part (col0 aV t) c f := by
  have hu : aV.view.set = Finset.univ.biUnion fun t => (col0 aV t).view.set := by
    refine (View.set_whole _).trans (Finset.ext fun i => ⟨fun _ => ?_, fun _ => Finset.mem_univ _⟩)
    have h2 := (i 2).isLt
    change (i 2).val < 4096 at h2
    refine Finset.mem_biUnion.mpr ⟨⟨(i 2).val / 512, by omega⟩, Finset.mem_univ _, ?_⟩
    exact (congrArg (i ∈ ·) (View.set_slice_whole cc0_stg3_0 _)).mpr ((mem_col0 ⟨(i 2).val / 512, by omega⟩).mpr rfl)
  show (aV.view.loc (c : Thread nD τ) ↦[aV.view.set]{fullShare} f : sProp 𝕄) = _
  rw [hu]
  refine pointsTo_biUnion _ _ fun t _ t' _ hne => Finset.disjoint_left.mpr fun i h0 h1 => hne (Fin.ext ?_)
  rw [show (col0 aV t).view.set = _ from View.set_slice_whole _ _, mem_col0] at h0
  rw [show (col0 aV t').view.set = _ from View.set_slice_whole _ _, mem_col0] at h1
  omega

/-- What is left of the block beside the first 128 rows. -/
def restV : Finset (aV.view.ty.Idx) := aV.view.set \ Finset.univ.biUnion fun t => (col1 aV t).view.set

theorem cols1_V (c : Dev nD) (f : Buf (Elt F) (aV.view.loc (c : Thread nD τ))) :
    (part aV c f : sProp 𝕄) ⊣⊢ iprop((bigSep Finset.univ fun t => part (col1 aV t) c f)
      ∗ (aV.view.loc (c : Thread nD τ) ↦[restV]{fullShare} f)) := by
  have hs : (Finset.univ.biUnion fun t => (col1 aV t).view.set) ⊆ aV.view.set := by
    refine Finset.biUnion_subset.mpr fun t _ => View.set_slice_subset _ _
  refine (pointsTo_split_subset hs).trans ?_
  have h := pointsTo_biUnion (Val := Elt F) (Ix := Unit) (Name := ℕ) (U := UU) (Lvl := ℕ) (ℓ := aV.view.loc (c : Thread nD τ)) (q := fullShare) (f := f) Finset.univ (fun t => (col1 aV t).view.set)
    fun t _ t' _ hne => Finset.disjoint_left.mpr fun i h0 h1 => hne (Fin.ext (by
      rw [show (col1 aV t).view.set = _ from View.set_slice_whole _ _, mem_col1] at h0
      rw [show (col1 aV t').view.set = _ from View.set_slice_whole _ _, mem_col1] at h1
      omega))
  exact ⟨sep_mono_left (Entails.of_eq h), sep_mono_left (Entails.of_eq h.symm)⟩

theorem segs_set : bR.view.set = seg0.view.set ∪ (seg1.view.set ∪ seg2.view.set) := by
  refine (View.set_whole _).trans (Finset.ext fun i => ⟨fun _ => ?_, fun _ => Finset.mem_univ _⟩)
  rw [Finset.mem_union, Finset.mem_union, show seg0.view.set = _ from View.set_slice_whole _ _, show seg1.view.set = _ from View.set_slice_whole _ _,
    show seg2.view.set = _ from View.set_slice_whole _ _, mem_seg0, mem_seg1, mem_seg2]
  omega
theorem segs_disj : Disjoint seg0.view.set (seg1.view.set ∪ seg2.view.set) := by
  refine Finset.disjoint_left.mpr fun i h0 h1 => ?_
  rw [Finset.mem_union, show seg1.view.set = _ from View.set_slice_whole _ _,
    show seg2.view.set = _ from View.set_slice_whole _ _, mem_seg1, mem_seg2] at h1
  rw [show seg0.view.set = _ from View.set_slice_whole _ _, mem_seg0] at h0
  omega
theorem segs_disj' : Disjoint seg1.view.set seg2.view.set := by
  refine Finset.disjoint_left.mpr fun i h0 h1 => ?_
  rw [show seg1.view.set = _ from View.set_slice_whole _ _, mem_seg1] at h0
  rw [show seg2.view.set = _ from View.set_slice_whole _ _, mem_seg2] at h1
  omega

theorem segs_split (c : Dev nD) : (anyp bR c : sProp 𝕄) ⊢ iprop(anyp seg0 c ∗ anyp seg1 c ∗ anyp seg2 c) := by
  unfold anyp
  iintro ⟨%f, H⟩
  have h : (part bR c f : sProp 𝕄) ⊢ iprop(part seg0 c f ∗ part seg1 c f ∗ part seg2 c f) := by
    show (bR.view.loc (c : Thread nD τ) ↦[bR.view.set]{fullShare} f : sProp 𝕄) ⊢ _
    rw [segs_set]
    exact (pointsTo_union segs_disj).1.trans (sep_mono_right (pointsTo_union segs_disj').1)
  ihave H := h $$ H
  icases H with ⟨H0, H1, H2⟩
  isplitl [H0]; · iexists f; iexact H0
  isplitl [H1]; · iexists f; iexact H1
  iexists f; iexact H2
theorem segs_join (c : Dev nD) : iprop(anyp seg0 c ∗ anyp seg1 c ∗ anyp seg2 c) ⊢ (anyp bR c : sProp 𝕄) := by
  unfold anyp
  iintro ⟨⟨%f, H0⟩, ⟨%g, H1⟩, %k, H2⟩
  have h : iprop(part seg0 c f ∗ part seg1 c g ∗ part seg2 c k) ⊢ (anyp bR c : sProp 𝕄) := by
    unfold anyp
    refine (sep_mono_right (pointsTo_join segs_disj')).trans ((pointsTo_join segs_disj).trans ?_)
    rw [← segs_set]
    exact Idealize.SL.BI.BIClass.exists_intro _
  unfold anyp at h
  iapply h
  isplitl [H0]; · iexact H0
  isplitl [H1]; · iexact H1
  iexact H2

theorem snd0_set : bS.view.set = snd0.view.set := by
  refine (View.set_whole _).trans (Finset.ext fun i => ⟨fun _ => ?_, fun _ => Finset.mem_univ _⟩)
  rw [show snd0.view.set = _ from View.set_slice_whole _ _, mem_snd0]
  trivial
/-- A start of the sending buffer taken out, and put back. -/
theorem snd_split (S : Finset bS.view.ty.Idx) (hS : S ⊆ bS.view.set)
    (c : Dev nD) (f : Buf (Elt F) (bS.view.loc (c : Thread nD τ))) :
    (part bS c f : sProp 𝕄) ⊣⊢ iprop((bS.view.loc (c : Thread nD τ) ↦[S]{fullShare} f) ∗ (bS.view.loc (c : Thread nD τ) ↦[bS.view.set \ S]{fullShare} f)) :=
  pointsTo_split_subset hS
theorem snd_join (S : Finset bS.view.ty.Idx) (hS : S ⊆ bS.view.set)
    (c : Dev nD) (f g : Buf (Elt F) (bS.view.loc (c : Thread nD τ))) :
    iprop((bS.view.loc (c : Thread nD τ) ↦[S]{fullShare} g) ∗ (bS.view.loc (c : Thread nD τ) ↦[bS.view.set \ S]{fullShare} f)) ⊢ (anyp bS c : sProp 𝕄) := by
  unfold anyp
  exact (pointsTo_join_subset hS).trans (Idealize.SL.BI.BIClass.exists_intro _)

theorem gat_set1 (c : Dev nD) : (gat1 c).view.set = (gat0 c).view.set ∪ (gat0 (q 0 c)).view.set := by
  refine Finset.ext fun i => ?_
  obtain ⟨h, h0, h1, h2⟩ := lin_facts c
  have hi := (i 1).isLt; change (i 1).val < 512 at hi
  rw [show (gat1 c).view.set = _ from View.set_slice_whole _ _, mem_gat1, Finset.mem_union, show (gat0 c).view.set = _ from View.set_slice_whole _ _, show (gat0 (q 0 c)).view.set = _ from View.set_slice_whole _ _,
    mem_gat0, mem_gat0]
  omega
theorem gat_disj1 (c : Dev nD) : Disjoint (gat0 c).view.set (gat0 (q 0 c)).view.set := by
  refine Finset.disjoint_left.mpr fun i h3 h4 => ?_
  obtain ⟨h, h0, h1, h2⟩ := lin_facts c
  rw [show (gat0 c).view.set = _ from View.set_slice_whole _ _, mem_gat0] at h3
  rw [show (gat0 (q 0 c)).view.set = _ from View.set_slice_whole _ _, mem_gat0] at h4
  omega
theorem gat_cut1 (c d : Dev nD) (f : Buf (Elt F) (bA.view.loc (d : Thread nD τ))) :
    (part (gat1 c) d f : sProp 𝕄) ⊣⊢ iprop(part (gat0 c) d f ∗ part (gat0 (q 0 c)) d f) := by
  show (bA.view.loc (d : Thread nD τ) ↦[(gat1 c).view.set]{fullShare} f : sProp 𝕄) ⊣⊢ _
  rw [gat_set1 c]
  exact pointsTo_union (gat_disj1 c)

theorem gat_set2 (c : Dev nD) : (gat2 c).view.set = (gat1 c).view.set ∪ (gat1 (q 1 c)).view.set := by
  refine Finset.ext fun i => ?_
  obtain ⟨h, h0, h1, h2⟩ := lin_facts c
  have hi := (i 1).isLt; change (i 1).val < 512 at hi
  rw [show (gat2 c).view.set = _ from View.set_slice_whole _ _, mem_gat2, Finset.mem_union, show (gat1 c).view.set = _ from View.set_slice_whole _ _, show (gat1 (q 1 c)).view.set = _ from View.set_slice_whole _ _,
    mem_gat1, mem_gat1]
  omega
theorem gat_disj2 (c : Dev nD) : Disjoint (gat1 c).view.set (gat1 (q 1 c)).view.set := by
  refine Finset.disjoint_left.mpr fun i h3 h4 => ?_
  obtain ⟨h, h0, h1, h2⟩ := lin_facts c
  rw [show (gat1 c).view.set = _ from View.set_slice_whole _ _, mem_gat1] at h3
  rw [show (gat1 (q 1 c)).view.set = _ from View.set_slice_whole _ _, mem_gat1] at h4
  omega
theorem gat_cut2 (c d : Dev nD) (f : Buf (Elt F) (bA.view.loc (d : Thread nD τ))) :
    (part (gat2 c) d f : sProp 𝕄) ⊣⊢ iprop(part (gat1 c) d f ∗ part (gat1 (q 1 c)) d f) := by
  show (bA.view.loc (d : Thread nD τ) ↦[(gat2 c).view.set]{fullShare} f : sProp 𝕄) ⊣⊢ _
  rw [gat_set2 c]
  exact pointsTo_union (gat_disj2 c)

theorem gat_set3 (c : Dev nD) : bA.view.set = (gat2 c).view.set ∪ (gat2 (q 2 c)).view.set := by
  refine (View.set_whole _).trans (Finset.ext fun i => ⟨fun _ => ?_, fun _ => Finset.mem_univ _⟩)
  obtain ⟨h, h0, h1, h2⟩ := lin_facts c
  have hi := (i 1).isLt; change (i 1).val < 512 at hi
  rw [Finset.mem_union, show (gat2 c).view.set = _ from View.set_slice_whole _ _, show (gat2 (q 2 c)).view.set = _ from View.set_slice_whole _ _,
    mem_gat2, mem_gat2]
  omega
theorem gat_disj3 (c : Dev nD) : Disjoint (gat2 c).view.set (gat2 (q 2 c)).view.set := by
  refine Finset.disjoint_left.mpr fun i h3 h4 => ?_
  obtain ⟨h, h0, h1, h2⟩ := lin_facts c
  rw [show (gat2 c).view.set = _ from View.set_slice_whole _ _, mem_gat2] at h3
  rw [show (gat2 (q 2 c)).view.set = _ from View.set_slice_whole _ _, mem_gat2] at h4
  omega
theorem gat_cut3 (c d : Dev nD) (f : Buf (Elt F) (bA.view.loc (d : Thread nD τ))) :
    (part bA d f : sProp 𝕄) ⊣⊢ iprop(part (gat2 c) d f ∗ part (gat2 (q 2 c)) d f) := by
  show (bA.view.loc (d : Thread nD τ) ↦[bA.view.set]{fullShare} f : sProp 𝕄) ⊣⊢ _
  rw [gat_set3 c]
  exact pointsTo_union (gat_disj3 c)

/-- The gathering buffer at entry: the device's own rows, and the rows that its three partners fill. -/
theorem gat_split (c : Dev nD) : (anyp bA c : sProp 𝕄)
    ⊢ iprop(anyp (gat0 c) c ∗ anyp (gat0 (q 0 c)) c ∗ anyp (gat1 (q 1 c)) c ∗ anyp (gat2 (q 2 c)) c) := by
  unfold anyp
  iintro ⟨%f, H⟩
  ihave H := (gat_cut3 c c f).1 $$ H
  icases H with ⟨H, H3⟩
  ihave H := (gat_cut2 c c f).1 $$ H
  icases H with ⟨H, H2⟩
  ihave H := (gat_cut1 c c f).1 $$ H
  icases H with ⟨H, H1⟩
  isplitl [H]; · iexists f; iexact H
  isplitl [H1]; · iexists f; iexact H1
  isplitl [H2]; · iexists f; iexact H2
  iexists f; iexact H3

end Cert.KernelIdeal.Proto
-- ==== Proof.KernelIdeal.Holds.lean ====
module
public import proofs.«01_k».proof.Proof.KernelIdeal.Regions
public import Idealize.ShloMosaic.Lib.Pipeline.Value
@[expose] public section

/-!
# What the parts hold after a store or a copy

Every store and every copy of the kernel leaves its part of the buffer as the protocol says, whatever the buffer held
before.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-- On the view's own elements a write does not depend on what was there. -/
theorem write_on {s : Shape} {e : EltTy} (v : View sig .tc .vmem s e) (f g : v.ty.Contents (Elt F)) (w : s.Idx → Elt F e) :
    ∀ i ∈ v.set, v.write (Elt F) f w Finset.univ i = v.write (Elt F) g w Finset.univ i :=
  fun _ hi => View.write_congr (fun _ _ _ => rfl) fun h => absurd hi h

/-- Device 0's column block in the first rows of the window, whoever put it there. -/
theorem on_row0_K (d : Dev nD) (f : Buf (Elt F) (bK.view.loc (d : Thread nD τ))) :
    part (row0 bK) d ((row0 bK).view.write (Elt F) f ((col0 aK d).view.read (Elt F) (kC m 0)) Finset.univ)
      = (part (row0 bK) d (KB m d) : sProp 𝕄) :=
  pointsTo_congr (write_on (row0 bK).view f _ _)
/-- Device 1's in the last rows. -/
theorem on_row1_K (d : Dev nD) (f : Buf (Elt F) (bK.view.loc (d : Thread nD τ))) :
    part (row1 bK) d ((row1 bK).view.write (Elt F) f ((col1 aK d).view.read (Elt F) (kC m 1)) Finset.univ)
      = (part (row1 bK) d (KB m d) : sProp 𝕄) := by
  refine pointsTo_congr fun i hi => (write_on (row1 bK).view f (m (bK.view.loc (d : Thread nD τ))) _ i hi).trans ?_
  refine (show KB m d i = _ from View.write_of_not_mem _ _ _ fun h0 => ?_).symm
  have h0 : i ∈ (row0 bK).view.set := h0
  rw [show (row0 bK).view.set = _ from View.set_slice_whole _ _, mem_row0] at h0
  rw [show (row1 bK).view.set = _ from View.set_slice_whole _ _, mem_row1] at hi
  omega
/-- Device 0's column block in the first rows of the window, whoever put it there. -/
theorem on_row0_V (d : Dev nD) (f : Buf (Elt F) (bV.view.loc (d : Thread nD τ))) :
    part (row0 bV) d ((row0 bV).view.write (Elt F) f ((col0 aV d).view.read (Elt F) (vC m 0)) Finset.univ)
      = (part (row0 bV) d (VB m d) : sProp 𝕄) :=
  pointsTo_congr (write_on (row0 bV).view f _ _)
/-- Device 1's in the last rows. -/
theorem on_row1_V (d : Dev nD) (f : Buf (Elt F) (bV.view.loc (d : Thread nD τ))) :
    part (row1 bV) d ((row1 bV).view.write (Elt F) f ((col1 aV d).view.read (Elt F) (vC m 1)) Finset.univ)
      = (part (row1 bV) d (VB m d) : sProp 𝕄) := by
  refine pointsTo_congr fun i hi => (write_on (row1 bV).view f (m (bV.view.loc (d : Thread nD τ))) _ i hi).trans ?_
  refine (show VB m d i = _ from View.write_of_not_mem _ _ _ fun h0 => ?_).symm
  have h0 : i ∈ (row0 bV).view.set := h0
  rw [show (row0 bV).view.set = _ from View.set_slice_whole _ _, mem_row0] at h0
  rw [show (row1 bV).view.set = _ from View.set_slice_whole _ _, mem_row1] at hi
  omega
theorem pay1_id (v : Vec F S2x512x512 .bf16) : k0_pay1 v = v := by
  unfold k0_pay1; simp only [shapeCast_self]
theorem pay7_id (v : Vec F S2x512x512 .bf16) : k0_pay7 v = v := by
  unfold k0_pay7; simp only [shapeCast_self]
theorem pay2_id (v : Vec F S2x128x512 .bf16) : k0_pay2 v = v := by
  unfold k0_pay2; simp only [shapeCast_self]
theorem pay3_id (v : Vec F S2x128x512 .bf16) : k0_pay3 v = v := by
  unfold k0_pay3; simp only [shapeCast_self]

/-! ## The reduce-scatter -/

theorem snd0_read (f : Cn F cc0_scratch3) (w : FVec F S2x256x768 .bf16) :
    snd0.view.read (Elt F) (snd0.view.write (Elt F) f w Finset.univ) = w := View.read_write_univ _ _
theorem snd1_read (f : Cn F cc0_scratch3) (w : FVec F S2x128x768 .bf16) :
    snd1.view.read (Elt F) (snd1.view.write (Elt F) f w Finset.univ) = w := View.read_write_univ _ _
theorem snd2_read (f : Cn F cc0_scratch3) (w : FVec F S2x64x768 .bf16) :
    snd2.view.read (Elt F) (snd2.view.write (Elt F) f w Finset.univ) = w := View.read_write_univ _ _

theorem on_seg0 (c : Dev nD) (f : Buf (Elt F) (bR.view.loc (q 2 c : Thread nD τ))) :
    part seg0 (q 2 c) (seg0.view.write (Elt F) f (v0 m c) Finset.univ) = (part seg0 (q 2 c) (R0 m (q 2 c)) : sProp 𝕄) := by
  unfold R0; rw [q_q]; exact pointsTo_congr (write_on seg0.view f _ _)
theorem on_seg1 (c : Dev nD) (f : Buf (Elt F) (bR.view.loc (q 1 c : Thread nD τ))) :
    part seg1 (q 1 c) (seg1.view.write (Elt F) f (v1 m c) Finset.univ) = (part seg1 (q 1 c) (R1 m (q 1 c)) : sProp 𝕄) := by
  unfold R1; rw [q_q]; exact pointsTo_congr (write_on seg1.view f _ _)
theorem on_seg2 (c : Dev nD) (f : Buf (Elt F) (bR.view.loc (q 0 c : Thread nD τ))) :
    part seg2 (q 0 c) (seg2.view.write (Elt F) f (v2 m c) Finset.univ) = (part seg2 (q 0 c) (R2 m (q 0 c)) : sProp 𝕄) := by
  unfold R2; rw [q_q]; exact pointsTo_congr (write_on seg2.view f _ _)

theorem read_R0 (c : Dev nD) : seg0.view.read (Elt F) (R0 m c) = v0 m (q 2 c) := View.read_write_univ _ _
theorem read_R1 (c : Dev nD) : seg1.view.read (Elt F) (R1 m c) = v1 m (q 1 c) := View.read_write_univ _ _
theorem read_R2 (c : Dev nD) : seg2.view.read (Elt F) (R2 m c) = v2 m (q 0 c) := View.read_write_univ _ _

/-- The two batches fill the output buffer. -/
theorem A0_eq (c : Dev nD) (f : Cn F cc0_stg5_0) :
    (aO.access rO1).write (Elt F) ((aO.access rO0).write (Elt F) f (s0 m c) Finset.univ) (s1 m c) Finset.univ = A0 m c := by
  funext i
  unfold A0
  refine View.write_congr (fun _ _ _ => rfl) fun h1 => View.write_congr (fun _ _ _ => rfl) fun h0 => ?_
  have h1 : ¬ i ∈ rO1.set := fun h => h1 (by rw [View.setOn_univ]; exact (congrArg (i ∈ ·) (View.set_slice_whole cc0_stg5_0 _)).mpr h)
  have h0 : ¬ i ∈ rO0.set := fun h => h0 (by rw [View.setOn_univ]; exact (congrArg (i ∈ ·) (View.set_slice_whole cc0_stg5_0 _)).mpr h)
  rw [mem_O1] at h1; rw [mem_O0] at h0
  have := (i 0).isLt
  change (i 0).val < 2 at this
  omega

/-! ## The all-gather -/

theorem r6_set (c : Dev nD) : (bA.access (r6 c)).set = (gat0 c).view.set := by
  refine Finset.ext fun i => ?_
  rw [show (bA.access (r6 c)).set = _ from View.set_slice_whole _ _, show (gat0 c).view.set = _ from View.set_slice_whole _ _, mem_r6, mem_gat0]
theorem AG_own (c : Dev nD) (f : Buf (Elt F) (bA.view.loc (c : Thread nD τ))) :
    part (gat0 c) c ((bA.access (r6 c)).write (Elt F) f (v3 m c) Finset.univ) = (part (gat0 c) c (AG m) : sProp 𝕄) := by
  refine pointsTo_congr fun i hi => ?_
  have ho : own (i 1).val = c := own_eq c _ (by
    rw [show (gat0 c).view.set = _ from View.set_slice_whole _ _, mem_gat0] at hi; exact hi)
  have h2 : AG m i = (bA.access (r6 c)).write (Elt F) (m (bA.view.loc (c : Thread nD τ))) (v3 m c) Finset.univ i := by
    unfold AG; rw [ho]
  rw [h2]
  exact write_on (bA.access (r6 c)) f _ _ i ((congrArg (i ∈ ·) (r6_set c)).mpr hi)
/-- A copy of gathered rows arrives as they are. -/
theorem AG_copy {s : Shape} (a : Memref sig .tc .vmem s .bf16) (f : a.view.ty.Contents (Elt F)) (g : a.view.ty.Contents (Elt F)) :
    ∀ i ∈ a.view.set, a.view.write (Elt F) f (a.view.read (Elt F) g) Finset.univ i = g i := fun i hi => by
  rw [View.write_read_eq_piecewise, View.setOn_univ]
  exact Finset.piecewise_eq_of_mem _ _ _ hi

theorem on_gat0 (c : Dev nD) (f : Buf (Elt F) (bA.view.loc (q 0 c : Thread nD τ))) :
    part (gat0 c) (q 0 c) ((gat0 c).view.write (Elt F) f ((gat0 c).view.read (Elt F) (AG m)) Finset.univ) = (part (gat0 c) (q 0 c) (AG m) : sProp 𝕄) :=
  pointsTo_congr (AG_copy (gat0 c) f (AG m))
theorem on_gat1 (c : Dev nD) (f : Buf (Elt F) (bA.view.loc (q 1 c : Thread nD τ))) :
    part (gat1 c) (q 1 c) ((gat1 c).view.write (Elt F) f ((gat1 c).view.read (Elt F) (AG m)) Finset.univ) = (part (gat1 c) (q 1 c) (AG m) : sProp 𝕄) :=
  pointsTo_congr (AG_copy (gat1 c) f (AG m))
theorem on_gat2 (c : Dev nD) (f : Buf (Elt F) (bA.view.loc (q 2 c : Thread nD τ))) :
    part (gat2 c) (q 2 c) ((gat2 c).view.write (Elt F) f ((gat2 c).view.read (Elt F) (AG m)) Finset.univ) = (part (gat2 c) (q 2 c) (AG m) : sProp 𝕄) :=
  pointsTo_congr (AG_copy (gat2 c) f (AG m))

end Cert.KernelIdeal.Proto
-- ==== Proof.KernelIdeal.Sends.lean ====
module
public import proofs.«01_k».proof.Proof.KernelIdeal.Steps
public import proofs.«01_k».proof.Proof.KernelIdeal.Holds
@[expose] public section

/-!
# Handing out key and value columns

Device 0 copies all 512 rows of a column block, device 1 the first 128, to each of the other devices. A package holds what
one such copy needs beside its landing rows: the two tokens of its payments and its source.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem used_ks0 (ci : Fin 2) (t : Dev nD) (h : t ≠ 0) : used 0 (.ks ci t) = true := by revert ci t; decide
theorem used_ks1 (ci : Fin 2) (t : Dev nD) (h : t ≠ 1) : used 1 (.ks ci t) = true := by revert ci t; decide
theorem used_kr0 (ci : Fin 2) (t : Dev nD) (h : t ≠ 0) : used t (.kr 0 ci) = true := by revert ci t; decide
theorem used_kr1 (ci : Fin 2) (t : Dev nD) (h : t ≠ 1) : used t (.kr 1 ci) = true := by revert ci t; decide
theorem pay_ks00 (t : Dev nD) : pay m 0 (.ks 0 t) = part (col0 aK t) 0 (kC m 0) := by
  dsimp only [pay]; rw [if_pos rfl, if_pos rfl]
theorem pay_kr00 (t : Dev nD) : pay m t (.kr 0 0) = part (row0 bK) t (KB m t) := by
  dsimp only [pay]; rw [if_pos rfl, if_pos rfl]
theorem amt_ks00 (t : Dev nD) : amt 0 (some (.ks 0 t)) = (row0 bK).view.dmaCredit := by
  dsimp only [amt]; rw [if_pos rfl, if_pos rfl]
theorem amt_kr00 (t : Dev nD) : amt t (some (.kr 0 0)) = (row0 bK).view.dmaCredit := by
  dsimp only [amt]; rw [if_pos rfl, if_pos rfl]
theorem pay_ks01 (t : Dev nD) : pay m 0 (.ks 1 t) = part (col0 aV t) 0 (vC m 0) := by
  dsimp only [pay]; rw [if_pos rfl, if_neg (by decide)]
theorem pay_kr01 (t : Dev nD) : pay m t (.kr 0 1) = part (row0 bV) t (VB m t) := by
  dsimp only [pay]; rw [if_pos rfl, if_neg (by decide)]
theorem amt_ks01 (t : Dev nD) : amt 0 (some (.ks 1 t)) = (row0 bV).view.dmaCredit := by
  dsimp only [amt]; rw [if_pos rfl, if_neg (by decide)]
theorem amt_kr01 (t : Dev nD) : amt t (some (.kr 0 1)) = (row0 bV).view.dmaCredit := by
  dsimp only [amt]; rw [if_pos rfl, if_neg (by decide)]
theorem pay_ks10 (t : Dev nD) : pay m 1 (.ks 0 t) = part (col1 aK t) 1 (kC m 1) := by
  dsimp only [pay]; rw [if_neg (by decide), if_pos rfl]
theorem pay_kr10 (t : Dev nD) : pay m t (.kr 1 0) = part (row1 bK) t (KB m t) := by
  dsimp only [pay]; rw [if_neg (by decide), if_pos rfl]
theorem amt_ks10 (t : Dev nD) : amt 1 (some (.ks 0 t)) = (row1 bK).view.dmaCredit := by
  dsimp only [amt]; rw [if_neg (by decide), if_pos rfl]
theorem amt_kr10 (t : Dev nD) : amt t (some (.kr 1 0)) = (row1 bK).view.dmaCredit := by
  dsimp only [amt]; rw [if_neg (by decide), if_pos rfl]
theorem pay_ks11 (t : Dev nD) : pay m 1 (.ks 1 t) = part (col1 aV t) 1 (vC m 1) := by
  dsimp only [pay]; rw [if_neg (by decide), if_neg (by decide)]
theorem pay_kr11 (t : Dev nD) : pay m t (.kr 1 1) = part (row1 bV) t (VB m t) := by
  dsimp only [pay]; rw [if_neg (by decide), if_neg (by decide)]
theorem amt_ks11 (t : Dev nD) : amt 1 (some (.ks 1 t)) = (row1 bV).view.dmaCredit := by
  dsimp only [amt]; rw [if_neg (by decide), if_neg (by decide)]
theorem amt_kr11 (t : Dev nD) : amt t (some (.kr 1 1)) = (row1 bV).view.dmaCredit := by
  dsimp only [amt]; rw [if_neg (by decide), if_neg (by decide)]
/-- What device 0's copy of key columns to device `t` needs. -/
def pkK0 (t : Dev nD) : sProp 𝕄 :=
  iprop(tok 0 (0, some (.ks 0 t)) ∗ tok 0 (t, some (.kr 0 0)) ∗ part (col0 aK t) 0 (kC m 0))

theorem send_K0 (t : Dev nD) (ht : t ≠ 0) (d' : Dev nD) (hd : d' = t)
    {src dst : Memref sig .tc .vmem S2x512x512 .bf16} (hsr : src = col0 aK t) (hds : dst = row0 bK)
    {hsc : dst.view.ref.isScScratch = false} {sS sR : SemLoc sig} (hsS : sS = osem (.ks 0 t)) (hsR : sR = osem (.kr 0 0))
    {hsrc : src.view.WordExact} {hdst : dst.view.WordExact} {hsem : DmaTarget.Typed (nD := nD) (τ := τ) .vmem sR (.remote (Dev.tc d') dst sS hsc)}
    (l : List (Dev nD × Option Own))
    {k : PUnit → Prog (TpuEff nD τ sig (Elt F) Λ₀ (.tc : Proc τ)) α} {Q : α → sProp 𝕄} :
    recs m K ⊢ iprop(opened 0 -∗ opened t -∗ ow 0 ((t, some (.kr 0 0)) :: l) -∗ pkK0 m t -∗ anyp (row0 bK) t
      -∗ (ow 0 l -∗ crd 0 (.ks 0 t) -∗ wp frame (wpE (defs₀ (F := F)) 𝒱₀ (0 : Dev nD) none) Set.univ (k ⟨⟩) Q)
      -∗ wp frame (wpE (defs₀ (F := F)) 𝒱₀ (0 : Dev nD) none) Set.univ (.op (.enqueueDma src (.remote (Dev.tc d') dst sS hsc) sR hsrc hdst hsem) k) Q) := by
  subst hsr hds
  have hN : (row0 bK).view.amount sR = amt t (some (.kr 0 0)) := by
    rw [amt_kr00, hsR]
  have hNS : amt 0 (some (.ks 0 t)) = amt t (some (.kr 0 0)) := (amt_ks00 t).trans (amt_kr00 t).symm
  have hpS : part (col0 aK t) 0 (kC m 0) ⊢ pay m 0 (.ks 0 t) := Entails.of_eq (pay_ks00 m t).symm
  have hpR : ∀ fd, part (row0 bK) t ((row0 bK).view.write (Elt F) fd ((col0 aK t).view.read (Elt F) (kC m 0)) Finset.univ) ⊢ pay m t (.kr 0 0) :=
    fun fd => Entails.of_eq ((on_row0_K m t fd).trans (pay_kr00 m t).symm)
  unfold pkK0 anyp
  iintro #HI #Hoc #Hot HO ⟨HtS, HtR, Hs⟩ ⟨%fd, Hd⟩ Hk
  iapply (send_step m K (src := col0 aK t) (dst := row0 bK) 0 t (.ks 0 t) (.kr 0 0) (used_ks0 0 t ht) (used_kr0 0 t ht) d' hd hsS hsR
    hN hNS
    (kC m 0) fd l hpS (hpR fd)) $$ HI Hoc Hot Hs Hd HO HtS HtR
  iintro Hc HO
  iapply Hk $$ HO Hc

/-- What device 0's copy of value columns to device `t` needs. -/
def pkV0 (t : Dev nD) : sProp 𝕄 :=
  iprop(tok 0 (0, some (.ks 1 t)) ∗ tok 0 (t, some (.kr 0 1)) ∗ part (col0 aV t) 0 (vC m 0))

theorem send_V0 (t : Dev nD) (ht : t ≠ 0) (d' : Dev nD) (hd : d' = t)
    {src dst : Memref sig .tc .vmem S2x512x512 .bf16} (hsr : src = col0 aV t) (hds : dst = row0 bV)
    {hsc : dst.view.ref.isScScratch = false} {sS sR : SemLoc sig} (hsS : sS = osem (.ks 1 t)) (hsR : sR = osem (.kr 0 1))
    {hsrc : src.view.WordExact} {hdst : dst.view.WordExact} {hsem : DmaTarget.Typed (nD := nD) (τ := τ) .vmem sR (.remote (Dev.tc d') dst sS hsc)}
    (l : List (Dev nD × Option Own))
    {k : PUnit → Prog (TpuEff nD τ sig (Elt F) Λ₀ (.tc : Proc τ)) α} {Q : α → sProp 𝕄} :
    recs m K ⊢ iprop(opened 0 -∗ opened t -∗ ow 0 ((t, some (.kr 0 1)) :: l) -∗ pkV0 m t -∗ anyp (row0 bV) t
      -∗ (ow 0 l -∗ crd 0 (.ks 1 t) -∗ wp frame (wpE (defs₀ (F := F)) 𝒱₀ (0 : Dev nD) none) Set.univ (k ⟨⟩) Q)
      -∗ wp frame (wpE (defs₀ (F := F)) 𝒱₀ (0 : Dev nD) none) Set.univ (.op (.enqueueDma src (.remote (Dev.tc d') dst sS hsc) sR hsrc hdst hsem) k) Q) := by
  subst hsr hds
  have hN : (row0 bV).view.amount sR = amt t (some (.kr 0 1)) := by
    rw [amt_kr01, hsR]
  have hNS : amt 0 (some (.ks 1 t)) = amt t (some (.kr 0 1)) := (amt_ks01 t).trans (amt_kr01 t).symm
  have hpS : part (col0 aV t) 0 (vC m 0) ⊢ pay m 0 (.ks 1 t) := Entails.of_eq (pay_ks01 m t).symm
  have hpR : ∀ fd, part (row0 bV) t ((row0 bV).view.write (Elt F) fd ((col0 aV t).view.read (Elt F) (vC m 0)) Finset.univ) ⊢ pay m t (.kr 0 1) :=
    fun fd => Entails.of_eq ((on_row0_V m t fd).trans (pay_kr01 m t).symm)
  unfold pkV0 anyp
  iintro #HI #Hoc #Hot HO ⟨HtS, HtR, Hs⟩ ⟨%fd, Hd⟩ Hk
  iapply (send_step m K (src := col0 aV t) (dst := row0 bV) 0 t (.ks 1 t) (.kr 0 1) (used_ks0 1 t ht) (used_kr0 1 t ht) d' hd hsS hsR
    hN hNS
    (vC m 0) fd l hpS (hpR fd)) $$ HI Hoc Hot Hs Hd HO HtS HtR
  iintro Hc HO
  iapply Hk $$ HO Hc

/-- What device 1's copy of key columns to device `t` needs. -/
def pkK1 (t : Dev nD) : sProp 𝕄 :=
  iprop(tok 1 (1, some (.ks 0 t)) ∗ tok 1 (t, some (.kr 1 0)) ∗ part (col1 aK t) 1 (kC m 1))

theorem send_K1 (t : Dev nD) (ht : t ≠ 1) (d' : Dev nD) (hd : d' = t)
    {src dst : Memref sig .tc .vmem S2x128x512 .bf16} (hsr : src = col1 aK t) (hds : dst = row1 bK)
    {hsc : dst.view.ref.isScScratch = false} {sS sR : SemLoc sig} (hsS : sS = osem (.ks 0 t)) (hsR : sR = osem (.kr 1 0))
    {hsrc : src.view.WordExact} {hdst : dst.view.WordExact} {hsem : DmaTarget.Typed (nD := nD) (τ := τ) .vmem sR (.remote (Dev.tc d') dst sS hsc)}
    (l : List (Dev nD × Option Own))
    {k : PUnit → Prog (TpuEff nD τ sig (Elt F) Λ₀ (.tc : Proc τ)) α} {Q : α → sProp 𝕄} :
    recs m K ⊢ iprop(opened 1 -∗ opened t -∗ ow 1 ((t, some (.kr 1 0)) :: l) -∗ pkK1 m t -∗ anyp (row1 bK) t
      -∗ (ow 1 l -∗ crd 1 (.ks 0 t) -∗ wp frame (wpE (defs₀ (F := F)) 𝒱₀ (1 : Dev nD) none) Set.univ (k ⟨⟩) Q)
      -∗ wp frame (wpE (defs₀ (F := F)) 𝒱₀ (1 : Dev nD) none) Set.univ (.op (.enqueueDma src (.remote (Dev.tc d') dst sS hsc) sR hsrc hdst hsem) k) Q) := by
  subst hsr hds
  have hN : (row1 bK).view.amount sR = amt t (some (.kr 1 0)) := by
    rw [amt_kr10, hsR]
  have hNS : amt 1 (some (.ks 0 t)) = amt t (some (.kr 1 0)) := (amt_ks10 t).trans (amt_kr10 t).symm
  have hpS : part (col1 aK t) 1 (kC m 1) ⊢ pay m 1 (.ks 0 t) := Entails.of_eq (pay_ks10 m t).symm
  have hpR : ∀ fd, part (row1 bK) t ((row1 bK).view.write (Elt F) fd ((col1 aK t).view.read (Elt F) (kC m 1)) Finset.univ) ⊢ pay m t (.kr 1 0) :=
    fun fd => Entails.of_eq ((on_row1_K m t fd).trans (pay_kr10 m t).symm)
  unfold pkK1 anyp
  iintro #HI #Hoc #Hot HO ⟨HtS, HtR, Hs⟩ ⟨%fd, Hd⟩ Hk
  iapply (send_step m K (src := col1 aK t) (dst := row1 bK) 1 t (.ks 0 t) (.kr 1 0) (used_ks1 0 t ht) (used_kr1 0 t ht) d' hd hsS hsR
    hN hNS
    (kC m 1) fd l hpS (hpR fd)) $$ HI Hoc Hot Hs Hd HO HtS HtR
  iintro Hc HO
  iapply Hk $$ HO Hc

/-- What device 1's copy of value columns to device `t` needs. -/
def pkV1 (t : Dev nD) : sProp 𝕄 :=
  iprop(tok 1 (1, some (.ks 1 t)) ∗ tok 1 (t, some (.kr 1 1)) ∗ part (col1 aV t) 1 (vC m 1))

theorem send_V1 (t : Dev nD) (ht : t ≠ 1) (d' : Dev nD) (hd : d' = t)
    {src dst : Memref sig .tc .vmem S2x128x512 .bf16} (hsr : src = col1 aV t) (hds : dst = row1 bV)
    {hsc : dst.view.ref.isScScratch = false} {sS sR : SemLoc sig} (hsS : sS = osem (.ks 1 t)) (hsR : sR = osem (.kr 1 1))
    {hsrc : src.view.WordExact} {hdst : dst.view.WordExact} {hsem : DmaTarget.Typed (nD := nD) (τ := τ) .vmem sR (.remote (Dev.tc d') dst sS hsc)}
    (l : List (Dev nD × Option Own))
    {k : PUnit → Prog (TpuEff nD τ sig (Elt F) Λ₀ (.tc : Proc τ)) α} {Q : α → sProp 𝕄} :
    recs m K ⊢ iprop(opened 1 -∗ opened t -∗ ow 1 ((t, some (.kr 1 1)) :: l) -∗ pkV1 m t -∗ anyp (row1 bV) t
      -∗ (ow 1 l -∗ crd 1 (.ks 1 t) -∗ wp frame (wpE (defs₀ (F := F)) 𝒱₀ (1 : Dev nD) none) Set.univ (k ⟨⟩) Q)
      -∗ wp frame (wpE (defs₀ (F := F)) 𝒱₀ (1 : Dev nD) none) Set.univ (.op (.enqueueDma src (.remote (Dev.tc d') dst sS hsc) sR hsrc hdst hsem) k) Q) := by
  subst hsr hds
  have hN : (row1 bV).view.amount sR = amt t (some (.kr 1 1)) := by
    rw [amt_kr11, hsR]
  have hNS : amt 1 (some (.ks 1 t)) = amt t (some (.kr 1 1)) := (amt_ks11 t).trans (amt_kr11 t).symm
  have hpS : part (col1 aV t) 1 (vC m 1) ⊢ pay m 1 (.ks 1 t) := Entails.of_eq (pay_ks11 m t).symm
  have hpR : ∀ fd, part (row1 bV) t ((row1 bV).view.write (Elt F) fd ((col1 aV t).view.read (Elt F) (vC m 1)) Finset.univ) ⊢ pay m t (.kr 1 1) :=
    fun fd => Entails.of_eq ((on_row1_V m t fd).trans (pay_kr11 m t).symm)
  unfold pkV1 anyp
  iintro #HI #Hoc #Hot HO ⟨HtS, HtR, Hs⟩ ⟨%fd, Hd⟩ Hk
  iapply (send_step m K (src := col1 aV t) (dst := row1 bV) 1 t (.ks 1 t) (.kr 1 1) (used_ks1 1 t ht) (used_kr1 1 t ht) d' hd hsS hsR
    hN hNS
    (vC m 1) fd l hpS (hpR fd)) $$ HI Hoc Hot Hs Hd HO HtS HtR
  iintro Hc HO
  iapply Hk $$ HO Hc

/-! ## Waiting for the copies -/

theorem wait_ks00 (t : Dev nD) (ht : t ≠ 0) {sem : DmaSem sig} (hs : SemLoc.dma sem = osem (.ks 0 t))
    {src dst : Memref sig .tc .vmem S2x512x512 .bf16} {hsrc : src.view.WordExact} {hdst : dst.view.WordExact} (hds : dst = col0 aK t)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd 0 (.ks 0 t) -∗ ow 0 l -∗ pos 0 (.ks 0 t) 0
      -∗ (ow 0 l -∗ pos 0 (.ks 0 t) 1 -∗ part (col0 aK t) 0 (kC m 0) -∗ wp frame (wpE (defs₀ (F := F)) 𝒱₀ (0 : Dev nD) none) Set.univ (k ⟨⟩) Q)
      -∗ wp frame (wpE (defs₀ (F := F)) 𝒱₀ (0 : Dev nD) none) Set.univ (.op (.waitDma2 sem src dst hsrc hdst) k) Q) := by
  subst hds
  have hN : (col0 aK t).view.dmaCredit = amt 0 (some (.ks 0 t)) := (amt_ks00 t).symm
  iintro #HI #Hl Hc HO Hp Hk
  iapply (wait_step m K 0 (.ks 0 t) (used_ks0 0 t ht) hs (dst := col0 aK t) hN l hl) $$ HI Hl Hc HO Hp
  iintro HO Hp H
  iapply Hk $$ HO Hp
  iapply (Entails.of_eq (pay_ks00 m t)) $$ H

theorem wait_kr00 (c : Dev nD) (hc : c ≠ 0) {sem : DmaSem sig} (hs : SemLoc.dma sem = osem (.kr 0 0))
    {src dst : Memref sig .tc .vmem S2x512x512 .bf16} {hsrc : src.view.WordExact} {hdst : dst.view.WordExact} (hds : dst = row0 bK)
    (l : List (Dev nD × Option Own)) (hl : (l.map fun p => lvK p.2).all (fun n => decide (2 < n)) = true)
    {k : PUnit → Prog (TpuEff nD τ sig (Elt F) Λ₀ (.tc : Proc τ)) α} {Q : α → sProp 𝕄} :
    recs m K ⊢ iprop(levAts L lv -∗ crd c (.kr 0 0) -∗ ow c l -∗ pos c (.kr 0 0) 0
      -∗ (ow c l -∗ pos c (.kr 0 0) 1 -∗ part (row0 bK) c (KB m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (row0 bK).view.dmaCredit = amt c (some (.kr 0 0)) := (amt_kr00 c).symm
  iintro #HI #Hl Hc HO Hp Hk
  iapply (wait_step m K c (.kr 0 0) (used_kr0 0 c hc) hs (dst := row0 bK) hN l hl) $$ HI Hl Hc HO Hp
  iintro HO Hp H
  iapply Hk $$ HO Hp
  iapply (Entails.of_eq (pay_kr00 m c)) $$ H

theorem wait_ks01 (t : Dev nD) (ht : t ≠ 0) {sem : DmaSem sig} (hs : SemLoc.dma sem = osem (.ks 1 t))
    {src dst : Memref sig .tc .vmem S2x512x512 .bf16} {hsrc : src.view.WordExact} {hdst : dst.view.WordExact} (hds : dst = col0 aV t)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd 0 (.ks 1 t) -∗ ow 0 l -∗ pos 0 (.ks 1 t) 0
      -∗ (ow 0 l -∗ pos 0 (.ks 1 t) 1 -∗ part (col0 aV t) 0 (vC m 0) -∗ wp frame (wpE (defs₀ (F := F)) 𝒱₀ (0 : Dev nD) none) Set.univ (k ⟨⟩) Q)
      -∗ wp frame (wpE (defs₀ (F := F)) 𝒱₀ (0 : Dev nD) none) Set.univ (.op (.waitDma2 sem src dst hsrc hdst) k) Q) := by
  subst hds
  have hN : (col0 aV t).view.dmaCredit = amt 0 (some (.ks 1 t)) := (amt_ks01 t).symm
  iintro #HI #Hl Hc HO Hp Hk
  iapply (wait_step m K 0 (.ks 1 t) (used_ks0 1 t ht) hs (dst := col0 aV t) hN l hl) $$ HI Hl Hc HO Hp
  iintro HO Hp H
  iapply Hk $$ HO Hp
  iapply (Entails.of_eq (pay_ks01 m t)) $$ H

theorem wait_kr01 (c : Dev nD) (hc : c ≠ 0) {sem : DmaSem sig} (hs : SemLoc.dma sem = osem (.kr 0 1))
    {src dst : Memref sig .tc .vmem S2x512x512 .bf16} {hsrc : src.view.WordExact} {hdst : dst.view.WordExact} (hds : dst = row0 bV)
    (l : List (Dev nD × Option Own)) (hl : (l.map fun p => lvK p.2).all (fun n => decide (3 < n)) = true)
    {k : PUnit → Prog (TpuEff nD τ sig (Elt F) Λ₀ (.tc : Proc τ)) α} {Q : α → sProp 𝕄} :
    recs m K ⊢ iprop(levAts L lv -∗ crd c (.kr 0 1) -∗ ow c l -∗ pos c (.kr 0 1) 0
      -∗ (ow c l -∗ pos c (.kr 0 1) 1 -∗ part (row0 bV) c (VB m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (row0 bV).view.dmaCredit = amt c (some (.kr 0 1)) := (amt_kr01 c).symm
  iintro #HI #Hl Hc HO Hp Hk
  iapply (wait_step m K c (.kr 0 1) (used_kr0 1 c hc) hs (dst := row0 bV) hN l hl) $$ HI Hl Hc HO Hp
  iintro HO Hp H
  iapply Hk $$ HO Hp
  iapply (Entails.of_eq (pay_kr01 m c)) $$ H

theorem wait_ks10 (t : Dev nD) (ht : t ≠ 1) {sem : DmaSem sig} (hs : SemLoc.dma sem = osem (.ks 0 t))
    {src dst : Memref sig .tc .vmem S2x128x512 .bf16} {hsrc : src.view.WordExact} {hdst : dst.view.WordExact} (hds : dst = col1 aK t)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd 1 (.ks 0 t) -∗ ow 1 l -∗ pos 1 (.ks 0 t) 0
      -∗ (ow 1 l -∗ pos 1 (.ks 0 t) 1 -∗ part (col1 aK t) 1 (kC m 1) -∗ wp frame (wpE (defs₀ (F := F)) 𝒱₀ (1 : Dev nD) none) Set.univ (k ⟨⟩) Q)
      -∗ wp frame (wpE (defs₀ (F := F)) 𝒱₀ (1 : Dev nD) none) Set.univ (.op (.waitDma2 sem src dst hsrc hdst) k) Q) := by
  subst hds
  have hN : (col1 aK t).view.dmaCredit = amt 1 (some (.ks 0 t)) := (amt_ks10 t).symm
  iintro #HI #Hl Hc HO Hp Hk
  iapply (wait_step m K 1 (.ks 0 t) (used_ks1 0 t ht) hs (dst := col1 aK t) hN l hl) $$ HI Hl Hc HO Hp
  iintro HO Hp H
  iapply Hk $$ HO Hp
  iapply (Entails.of_eq (pay_ks10 m t)) $$ H

theorem wait_kr10 (c : Dev nD) (hc : c ≠ 1) {sem : DmaSem sig} (hs : SemLoc.dma sem = osem (.kr 1 0))
    {src dst : Memref sig .tc .vmem S2x128x512 .bf16} {hsrc : src.view.WordExact} {hdst : dst.view.WordExact} (hds : dst = row1 bK)
    (l : List (Dev nD × Option Own)) (hl : (l.map fun p => lvK p.2).all (fun n => decide (2 < n)) = true)
    {k : PUnit → Prog (TpuEff nD τ sig (Elt F) Λ₀ (.tc : Proc τ)) α} {Q : α → sProp 𝕄} :
    recs m K ⊢ iprop(levAts L lv -∗ crd c (.kr 1 0) -∗ ow c l -∗ pos c (.kr 1 0) 0
      -∗ (ow c l -∗ pos c (.kr 1 0) 1 -∗ part (row1 bK) c (KB m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (row1 bK).view.dmaCredit = amt c (some (.kr 1 0)) := (amt_kr10 c).symm
  iintro #HI #Hl Hc HO Hp Hk
  iapply (wait_step m K c (.kr 1 0) (used_kr1 0 c hc) hs (dst := row1 bK) hN l hl) $$ HI Hl Hc HO Hp
  iintro HO Hp H
  iapply Hk $$ HO Hp
  iapply (Entails.of_eq (pay_kr10 m c)) $$ H

theorem wait_ks11 (t : Dev nD) (ht : t ≠ 1) {sem : DmaSem sig} (hs : SemLoc.dma sem = osem (.ks 1 t))
    {src dst : Memref sig .tc .vmem S2x128x512 .bf16} {hsrc : src.view.WordExact} {hdst : dst.view.WordExact} (hds : dst = col1 aV t)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd 1 (.ks 1 t) -∗ ow 1 l -∗ pos 1 (.ks 1 t) 0
      -∗ (ow 1 l -∗ pos 1 (.ks 1 t) 1 -∗ part (col1 aV t) 1 (vC m 1) -∗ wp frame (wpE (defs₀ (F := F)) 𝒱₀ (1 : Dev nD) none) Set.univ (k ⟨⟩) Q)
      -∗ wp frame (wpE (defs₀ (F := F)) 𝒱₀ (1 : Dev nD) none) Set.univ (.op (.waitDma2 sem src dst hsrc hdst) k) Q) := by
  subst hds
  have hN : (col1 aV t).view.dmaCredit = amt 1 (some (.ks 1 t)) := (amt_ks11 t).symm
  iintro #HI #Hl Hc HO Hp Hk
  iapply (wait_step m K 1 (.ks 1 t) (used_ks1 1 t ht) hs (dst := col1 aV t) hN l hl) $$ HI Hl Hc HO Hp
  iintro HO Hp H
  iapply Hk $$ HO Hp
  iapply (Entails.of_eq (pay_ks11 m t)) $$ H

theorem wait_kr11 (c : Dev nD) (hc : c ≠ 1) {sem : DmaSem sig} (hs : SemLoc.dma sem = osem (.kr 1 1))
    {src dst : Memref sig .tc .vmem S2x128x512 .bf16} {hsrc : src.view.WordExact} {hdst : dst.view.WordExact} (hds : dst = row1 bV)
    (l : List (Dev nD × Option Own)) (hl : (l.map fun p => lvK p.2).all (fun n => decide (3 < n)) = true)
    {k : PUnit → Prog (TpuEff nD τ sig (Elt F) Λ₀ (.tc : Proc τ)) α} {Q : α → sProp 𝕄} :
    recs m K ⊢ iprop(levAts L lv -∗ crd c (.kr 1 1) -∗ ow c l -∗ pos c (.kr 1 1) 0
      -∗ (ow c l -∗ pos c (.kr 1 1) 1 -∗ part (row1 bV) c (VB m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (row1 bV).view.dmaCredit = amt c (some (.kr 1 1)) := (amt_kr11 c).symm
  iintro #HI #Hl Hc HO Hp Hk
  iapply (wait_step m K c (.kr 1 1) (used_kr1 1 c hc) hs (dst := row1 bV) hN l hl) $$ HI Hl Hc HO Hp
  iintro HO Hp H
  iapply Hk $$ HO Hp
  iapply (Entails.of_eq (pay_kr11 m c)) $$ H

end Cert.KernelIdeal.Proto
-- ==== Proof.KernelIdeal.Bar.lean ====
module
public import proofs.«01_k».proof.Proof.KernelIdeal.Sends
@[expose] public section

/-!
# The handshake

Each device signals each other device once and waits for seven signals. With the signals the devices hand over the parts of
their scratch buffers that the others write.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

/-- Every barrier cell is open. -/
def bars : sProp 𝕄 := bigSep Finset.univ fun d : Dev nD => reached ER (kcell (d, none)) 0
instance bars_persistent : BI.Persistent (bars (F := F)) := by unfold bars; infer_instance
theorem bars_at (d : Dev nD) : bars (F := F) ⊢ reached ER (kcell (d, none)) 0 :=
  bigSep_elim (Φ := fun d : Dev nD => reached ER (kcell (d, none)) 0) (Finset.mem_univ d)

/-- Every cell of every device is open. -/
def ops : sProp 𝕄 := bigSep Finset.univ fun d : Dev nD => opened (F := F) d
instance ops_persistent : BI.Persistent (ops (F := F)) := by unfold ops; infer_instance
theorem ops_at (d : Dev nD) : ops (F := F) ⊢ opened d := bigSep_elim (Φ := fun d : Dev nD => opened (F := F) d) (Finset.mem_univ d)

/-- What the three partners hand over: where device `c` lands its rows at them. -/
def peers (c : Dev nD) : sProp 𝕄 :=
  iprop((anyp (F := F) seg0 (q 2 c) ∗ anyp (gat2 c) (q 2 c)) ∗ (anyp seg1 (q 1 c) ∗ anyp (gat1 c) (q 1 c))
    ∗ (anyp seg2 (q 0 c) ∗ anyp (gat0 c) (q 0 c)))

theorem q_inj (s : Fin 3) {c d : Dev nD} : c = q s d ↔ d = q s c :=
  ⟨fun h => by rw [h, q_q], fun h => by rw [h, q_q]⟩

theorem bigSep_erase' {s : Finset (Dev nD)} {a : Dev nD} (h : a ∈ s) {Φ : Dev nD → sProp 𝕄} :
    bigSep s Φ = iprop(Φ a ∗ bigSep (s.erase a) Φ) := BI.bigSep_erase h
theorem emp_all (s : Finset (Dev nD)) : bigSep s (fun _ => (iprop(emp) : sProp 𝕄)) = iprop(emp) := bigSep_emp_const s

/-- Something for one member of a family whose other members want nothing. -/
theorem spread {S : Finset (Dev nD)} {a : Dev nD} (ha : a ∈ S) {Φ : Dev nD → sProp 𝕄} (h : ∀ d, d ≠ a → Φ d = iprop(emp)) :
    Φ a ⊢ bigSep S Φ := by
  have e : bigSep (S.erase a) Φ = iprop(emp) :=
    (bigSep_congr fun d hd => h d (Finset.mem_erase.mp hd).1).trans (emp_all _)
  rw [bigSep_erase' ha, e]
  iintro H
  isplitl; · iexact H
  iempintro

theorem mem_er {c d : Dev nD} (h : d ≠ c) : d ∈ (Finset.univ : Finset (Dev nD)).erase c := Finset.mem_erase.mpr ⟨h, Finset.mem_univ _⟩

/-- What device `c` hands over to device 0 and to device 1. -/
def giveK (c : Dev nD) : sProp 𝕄 :=
  iprop((if c = 0 then iprop(emp) else iprop(anyp (F := F) (row0 bK) c ∗ anyp (row0 bV) c))
    ∗ (if c = 1 then iprop(emp) else iprop(anyp (F := F) (row1 bK) c ∗ anyp (row1 bV) c)))
/-- What device `c` hands over to its partners. -/
def giveS (c : Dev nD) : sProp 𝕄 :=
  iprop((anyp (F := F) seg0 c ∗ anyp (gat2 (q 2 c)) c) ∗ (anyp seg1 c ∗ anyp (gat1 (q 1 c)) c)
    ∗ (anyp seg2 c ∗ anyp (gat0 (q 0 c)) c))

theorem give_K0 (c : Dev nD) : (if c = 0 then iprop(emp) else iprop(anyp (F := F) (row0 bK) c ∗ anyp (row0 bV) c))
    ⊢ bigSep (Finset.univ.erase c) fun d => gK0 (F := F) c d := by
  by_cases h : c = 0
  · rw [if_pos h]
    have e : (bigSep (Finset.univ.erase c) fun d => gK0 (F := F) c d) = bigSep (Finset.univ.erase c) fun _ => iprop(emp) :=
      bigSep_congr fun d hd => if_neg fun h' => (Finset.mem_erase.mp hd).1 (h'.trans h.symm)
    rw [e, emp_all]
  · rw [if_neg h]
    exact (Entails.of_eq (if_pos rfl).symm).trans (spread (Φ := fun d => gK0 (F := F) c d) (mem_er (Ne.symm h)) fun d hd => if_neg hd)
theorem give_K1 (c : Dev nD) : (if c = 1 then iprop(emp) else iprop(anyp (F := F) (row1 bK) c ∗ anyp (row1 bV) c))
    ⊢ bigSep (Finset.univ.erase c) fun d => gK1 (F := F) c d := by
  by_cases h : c = 1
  · rw [if_pos h]
    have e : (bigSep (Finset.univ.erase c) fun d => gK1 (F := F) c d) = bigSep (Finset.univ.erase c) fun _ => iprop(emp) :=
      bigSep_congr fun d hd => if_neg fun h' => (Finset.mem_erase.mp hd).1 (h'.trans h.symm)
    rw [e, emp_all]
  · rw [if_neg h]
    exact (Entails.of_eq (if_pos rfl).symm).trans (spread (Φ := fun d => gK1 (F := F) c d) (mem_er (Ne.symm h)) fun d hd => if_neg hd)
theorem give_S0 (c : Dev nD) : iprop(anyp (F := F) seg0 c ∗ anyp (gat2 (q 2 c)) c) ⊢ bigSep (Finset.univ.erase c) fun d => gS0 (F := F) c d :=
  (Entails.of_eq (if_pos (q_q 2 c).symm).symm).trans
    (spread (Φ := fun d => gS0 (F := F) c d) (mem_er (q_ne 2 c)) fun d hd => if_neg fun h => hd ((q_inj 2).mp h))
theorem give_S1 (c : Dev nD) : iprop(anyp (F := F) seg1 c ∗ anyp (gat1 (q 1 c)) c) ⊢ bigSep (Finset.univ.erase c) fun d => gS1 (F := F) c d :=
  (Entails.of_eq (if_pos (q_q 1 c).symm).symm).trans
    (spread (Φ := fun d => gS1 (F := F) c d) (mem_er (q_ne 1 c)) fun d hd => if_neg fun h => hd ((q_inj 1).mp h))
theorem give_S2 (c : Dev nD) : iprop(anyp (F := F) seg2 c ∗ anyp (gat0 (q 0 c)) c) ⊢ bigSep (Finset.univ.erase c) fun d => gS2 (F := F) c d :=
  (Entails.of_eq (if_pos (q_q 0 c).symm).symm).trans
    (spread (Φ := fun d => gS2 (F := F) c d) (mem_er (q_ne 0 c)) fun d hd => if_neg fun h => hd ((q_inj 0).mp h))

/-- A device's handshake payloads, put together. -/
theorem give_bar (c : Dev nD) :
    iprop(opened (F := F) c ∗ giveK c ∗ giveS c) ⊢ bigSep (Finset.univ.erase c) fun d => barPay (F := F) c d := by
  unfold barPay giveK giveS
  rw [bigSep_sep', bigSep_sep', bigSep_sep', bigSep_sep', bigSep_sep']
  iintro ⟨#Ho, ⟨H0, H1⟩, H2, H3, H4⟩
  isplitl [H0]; · iapply (give_K0 c) $$ H0
  isplitl [H1]; · iapply (give_K1 c) $$ H1
  isplitl [H2]; · iapply (give_S0 c) $$ H2
  isplitl [H3]; · iapply (give_S1 c) $$ H3
  isplitl [H4]; · iapply (give_S2 c) $$ H4
  iapply (bigSep_intro_persistent (R := opened (F := F) c) fun _ _ => Entails.refl _) $$ Ho

/-- What the others hand over to device 0, to device 1. -/
def getK (c : Dev nD) : sProp 𝕄 :=
  iprop((bigSep (Finset.univ.erase c) fun d => gK0 (F := F) d c) ∗ (bigSep (Finset.univ.erase c) fun d => gK1 (F := F) d c))

theorem take_S0 (c : Dev nD) : (bigSep (Finset.univ.erase c) fun d => gS0 (F := F) d c) ⊢ iprop(anyp (F := F) seg0 (q 2 c) ∗ anyp (gat2 c) (q 2 c)) :=
  have h : gS0 (F := F) (q 2 c) c = iprop(anyp (F := F) seg0 (q 2 c) ∗ anyp (gat2 c) (q 2 c)) := if_pos rfl
  (bigSep_elim (Φ := fun d => gS0 (F := F) d c) (mem_er (q_ne 2 c))).trans (Entails.of_eq h)
theorem take_S1 (c : Dev nD) : (bigSep (Finset.univ.erase c) fun d => gS1 (F := F) d c) ⊢ iprop(anyp (F := F) seg1 (q 1 c) ∗ anyp (gat1 c) (q 1 c)) :=
  have h : gS1 (F := F) (q 1 c) c = iprop(anyp (F := F) seg1 (q 1 c) ∗ anyp (gat1 c) (q 1 c)) := if_pos rfl
  (bigSep_elim (Φ := fun d => gS1 (F := F) d c) (mem_er (q_ne 1 c))).trans (Entails.of_eq h)
theorem take_S2 (c : Dev nD) : (bigSep (Finset.univ.erase c) fun d => gS2 (F := F) d c) ⊢ iprop(anyp (F := F) seg2 (q 0 c) ∗ anyp (gat0 c) (q 0 c)) :=
  have h : gS2 (F := F) (q 0 c) c = iprop(anyp (F := F) seg2 (q 0 c) ∗ anyp (gat0 c) (q 0 c)) := if_pos rfl
  (bigSep_elim (Φ := fun d => gS2 (F := F) d c) (mem_er (q_ne 0 c))).trans (Entails.of_eq h)
/-- The payloads that a device receives, taken apart. -/
theorem take_bar (c : Dev nD) :
    iprop(opened (F := F) c ∗ bigSep (Finset.univ.erase c) fun d => barPay (F := F) d c) ⊢ iprop(ops ∗ getK c ∗ peers c) := by
  unfold barPay getK peers ops
  rw [bigSep_sep', bigSep_sep', bigSep_sep', bigSep_sep', bigSep_sep', bigSep_erase' (Finset.mem_univ c) (Φ := fun d => opened (F := F) d)]
  iintro ⟨Ho, H0, H1, H2, H3, H4, H5⟩
  isplitl [Ho H5]
  · isplitl [Ho]; · iexact Ho
    iexact H5
  isplitl [H0 H1]
  · isplitl [H0]; · iexact H0
    iexact H1
  isplitl [H2]
  · iapply (take_S0 c) $$ H2
  isplitl [H3]
  · iapply (take_S1 c) $$ H3
  iapply (take_S2 c) $$ H4

theorem erase_nx (c : Dev nD) : (Finset.univ : Finset (Dev nD)).erase c = [nx 1 c, nx 2 c, nx 3 c, nx 4 c, nx 5 c, nx 6 c, nx 7 c].toFinset := by
  revert c; decide
theorem nodup_nx (c : Dev nD) : [nx 1 c, nx 2 c, nx 3 c, nx 4 c, nx 5 c, nx 6 c, nx 7 c].Nodup := by
  revert c; decide
/-- The other devices one after the other, in the order in which `c` signals them. -/
theorem erase_seven (c : Dev nD) (Φ : Dev nD → sProp 𝕄) : bigSep (Finset.univ.erase c) Φ
    = iprop(Φ (nx 1 c) ∗ Φ (nx 2 c) ∗ Φ (nx 3 c) ∗ Φ (nx 4 c) ∗ Φ (nx 5 c) ∗ Φ (nx 6 c) ∗ Φ (nx 7 c)) := by
  rw [bigSep_eq_bigSepL_of_eq _ (erase_nx c) (nodup_nx c) Φ]
  rfl

/-- One family over the seven devices beside 0, beside 1. -/
def all0 (Φ : Dev nD → sProp 𝕄) : sProp 𝕄 := iprop(Φ 1 ∗ Φ 2 ∗ Φ 3 ∗ Φ 4 ∗ Φ 5 ∗ Φ 6 ∗ Φ 7)
def all1 (Φ : Dev nD → sProp 𝕄) : sProp 𝕄 := iprop(Φ 0 ∗ Φ 2 ∗ Φ 3 ∗ Φ 4 ∗ Φ 5 ∗ Φ 6 ∗ Φ 7)
theorem all0_eq (Φ : Dev nD → sProp 𝕄) : bigSep (Finset.univ.erase 0) Φ = all0 Φ := by
  rw [bigSep_eq_bigSepL_of_eq [1, 2, 3, 4, 5, 6, 7] (by decide) (by decide) Φ]
  rfl
theorem all1_eq (Φ : Dev nD → sProp 𝕄) : bigSep (Finset.univ.erase 1) Φ = all1 Φ := by
  rw [bigSep_eq_bigSepL_of_eq [0, 2, 3, 4, 5, 6, 7] (by decide) (by decide) Φ]
  rfl

/-- What device 0, what device 1 gets from the handshake for its key and value copies. -/
theorem getK_0 : getK (F := F) 0 ⊢ iprop(all0 (fun d => anyp (row0 bK) d) ∗ all0 fun d => anyp (row0 bV) d) := by
  unfold getK
  have h : (bigSep (Finset.univ.erase 0) fun d => gK0 (F := F) d 0) = iprop(all0 (fun d => anyp (F := F) (row0 bK) d) ∗ all0 fun d => anyp (row0 bV) d) := by
    rw [← all0_eq, ← all0_eq, ← bigSep_sep']
    exact bigSep_congr fun d _ => if_pos rfl
  rw [h]
  iintro ⟨H0, H1⟩
  iexact H0
theorem getK_1 : getK (F := F) 1 ⊢ iprop(all1 (fun d => anyp (row1 bK) d) ∗ all1 fun d => anyp (row1 bV) d) := by
  unfold getK
  have h : (bigSep (Finset.univ.erase 1) fun d => gK1 (F := F) d 1) = iprop(all1 (fun d => anyp (F := F) (row1 bK) d) ∗ all1 fun d => anyp (row1 bV) d) := by
    rw [← all1_eq, ← all1_eq, ← bigSep_sep']
    exact bigSep_congr fun d _ => if_pos rfl
  rw [h]
  iintro ⟨H0, H1⟩
  iexact H1

theorem nx_ne (j : ℕ) (h : 0 < j ∧ j < 8) (c : Dev nD) : c ≠ nx j c := by
  obtain ⟨h0, h8⟩ := h
  intro e
  have := congrArg Fin.val e
  have e' : c.val = (c.val + j) % 8 := this
  have := c.isLt
  change c.val < 8 at this
  omega
theorem dev1_eq (c : Dev nD) : (⟨k0_dev1 c, k0_dev1_lt c⟩ : Dev nD) = nx 1 c := by revert c; decide +kernel
theorem dev2_eq (c : Dev nD) : (⟨k0_dev2 c, k0_dev2_lt c⟩ : Dev nD) = nx 2 c := by revert c; decide +kernel
theorem dev3_eq (c : Dev nD) : (⟨k0_dev3 c, k0_dev3_lt c⟩ : Dev nD) = nx 3 c := by revert c; decide +kernel
theorem dev4_eq (c : Dev nD) : (⟨k0_dev4 c, k0_dev4_lt c⟩ : Dev nD) = nx 4 c := by revert c; decide +kernel
theorem dev5_eq (c : Dev nD) : (⟨k0_dev5 c, k0_dev5_lt c⟩ : Dev nD) = nx 5 c := by revert c; decide +kernel
theorem dev6_eq (c : Dev nD) : (⟨k0_dev6 c, k0_dev6_lt c⟩ : Dev nD) = nx 6 c := by revert c; decide +kernel
theorem dev7_eq (c : Dev nD) : (⟨k0_dev7 c, k0_dev7_lt c⟩ : Dev nD) = nx 7 c := by revert c; decide +kernel

theorem dXfer_lv (c : Dev nD) : ∀ p ∈ dXfer c, 1 < lvK p.2 := by revert c; decide +kernel

/-- The device's word, as its first part computes it. -/
abbrev wd (c : Dev nD) : BitVec 32 := Scalar.remsi (Scalar.divsi (Dev.word c) 1#32) 8#32

/-- The first five signals. -/
theorem part18 (c : Dev nD) (l : List (Dev nD × Option Own)) {Q : _ → sProp 𝕄} :
    recs m K ⊢ iprop(bars -∗ ow c ((nx 1 c, none) :: (nx 2 c, none) :: (nx 3 c, none) :: (nx 4 c, none) :: (nx 5 c, none) :: l)
      -∗ tok c (nx 1 c, none) -∗ tok c (nx 2 c, none) -∗ tok c (nx 3 c, none) -∗ tok c (nx 4 c, none) -∗ tok c (nx 5 c, none)
      -∗ barPay c (nx 1 c) -∗ barPay c (nx 2 c) -∗ barPay c (nx 3 c) -∗ barPay c (nx 4 c) -∗ barPay c (nx 5 c)
      -∗ (ow c l -∗ Q ⟨c, wd c, SemArray.scalar (sig.barrier 0 rfl), Scalar.addi (wd c) 6#32, 8#32⟩)
      -∗ wp frame (wpE (defs₀ (F := F)) 𝒱₀ (c : Dev nD) none) Set.univ (k0_part18 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10) Q) := by
  simp only [k0_part18_eq_skeleton]; unfold k0_part18_skel
  simp only [Prog.lift, Prog.bind_op, Prog.bind_ret, Prog.pure_eq_ret, semSignalWord, wp_deviceId]
  iintro #HI #HB HO T1 T2 T3 T4 T5 P1 P2 P3 P4 P5 Hk
  iapply (signal_step m K c (nx 1 c) (nx_ne 1 (by decide) c) _ (dev1_eq c) _ rfl rfl) $$ HI [] HO T1 P1
  · iapply (bars_at (nx 1 c)) $$ HB
  iintro HO
  iapply (signal_step m K c (nx 2 c) (nx_ne 2 (by decide) c) _ (dev2_eq c) _ rfl rfl) $$ HI [] HO T2 P2
  · iapply (bars_at (nx 2 c)) $$ HB
  iintro HO
  iapply (signal_step m K c (nx 3 c) (nx_ne 3 (by decide) c) _ (dev3_eq c) _ rfl rfl) $$ HI [] HO T3 P3
  · iapply (bars_at (nx 3 c)) $$ HB
  iintro HO
  iapply (signal_step m K c (nx 4 c) (nx_ne 4 (by decide) c) _ (dev4_eq c) _ rfl rfl) $$ HI [] HO T4 P4
  · iapply (bars_at (nx 4 c)) $$ HB
  iintro HO
  iapply (signal_step m K c (nx 5 c) (nx_ne 5 (by decide) c) _ (dev5_eq c) _ rfl rfl) $$ HI [] HO T5 P5
  · iapply (bars_at (nx 5 c)) $$ HB
  iintro HO
  rw [wp_ret]
  iapply fupd_intro
  iapply Hk $$ HO

/-- The last two signals and the wait. -/
theorem barrier_phase (c : Dev nD) {d6 d7 : Dev nD} (h6 : d6 = nx 6 c) (h7 : d7 = nx 7 c) {s6 s7 s8 : Sem sig} (e6 : s6 = barS) (e7 : s7 = barS) (e8 : s8 = barS)
    {n6 n7 n8 : ℕ} (f6 : n6 = 1) (f7 : n7 = 1) (f8 : n8 = 7)
    {k : PUnit → Prog (TpuEff nD τ sig (Elt F) Λ₀ (.tc : Proc τ)) α} {Q : α → sProp 𝕄} :
    recs m K ⊢ iprop(levAts L lv -∗ bars -∗ opened c -∗ ow c ((nx 6 c, none) :: (nx 7 c, none) :: dXfer c) -∗ tok c (nx 6 c, none) -∗ tok c (nx 7 c, none)
      -∗ barPay c (nx 6 c) -∗ barPay c (nx 7 c) -∗ cred (tallyAt (kcell (c, none)) () 7) -∗ atPos ER (kcell (c, none)) 0 ∅ 0
      -∗ (ow c (dXfer c) -∗ atPos ER (kcell (c, none)) 1 ∅ 0 -∗ ops -∗ getK c -∗ peers c -∗ wp frame (wpE (defs₀ (F := F)) 𝒱₀ (c : Dev nD) none) Set.univ (k ⟨⟩) Q)
      -∗ wp frame (wpE (defs₀ (F := F)) 𝒱₀ (c : Dev nD) none) Set.univ (.op (.semSignal (d6 : Thread nD τ) s6 n6) fun _ => .op (.semSignal (d7 : Thread nD τ) s7 n7) fun _ => .op (.semWait s8 n8) k) Q) := by
  iintro #HI #Hl #HB #Ho HO T6 T7 P6 P7 Hc Ha Hk
  iapply (signal_step m K c (nx 6 c) (nx_ne 6 (by decide) c) _ h6 _ e6 f6) $$ HI [] HO T6 P6
  · iapply (bars_at (nx 6 c)) $$ HB
  iintro HO
  iapply (signal_step m K c (nx 7 c) (nx_ne 7 (by decide) c) _ h7 _ e7 f7) $$ HI [] HO T7 P7
  · iapply (bars_at (nx 7 c)) $$ HB
  iintro HO
  iapply (barrier_step m K c (dXfer c) (dXfer_lv c) e8 f8) $$ HI Hl Hc HO Ha
  iintro HO Ha HP
  ihave H := (take_bar c) $$ [HP]
  · isplitr; · iexact Ho
    iexact HP
  icases H with ⟨#Hop, HK, Hpe⟩
  iapply Hk $$ HO Ha Hop HK Hpe

end Cert.KernelIdeal.Proto
-- ==== Proof.KernelIdeal.Access.lean ====
module
public import proofs.«01_k».proof.Proof.KernelIdeal.Bar
@[expose] public section

/-!
# Loads and stores

A load from a buffer and a store into it, with the whole buffer or with the part that is touched at hand.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem load_step (c : Dev nD) {s : Shape} {e : EltTy} {a : Memref sig .tc .vmem s e} {r : LoadRect s} {hl : a.view.LoadsAt r}
    {f : Buf (Elt F) (a.view.loc (c : Thread nD τ))}
    {k : (r.shape.Idx → Elt F e) → Prog (TpuEff nD τ sig (Elt F) Λ₀ (.tc : Proc τ)) α} {Q : α → sProp 𝕄} :
    part a c f ⊢ iprop((part a c f -∗ wp frame (wpE (defs₀ (F := F)) 𝒱₀ (c : Dev nD) none) Set.univ (k (a.view.readAt (Elt F) r f)) Q)
      -∗ wp frame (wpE (defs₀ (F := F)) 𝒱₀ (c : Dev nD) none) Set.univ (.op (.load a r hl) k) Q) :=
  wp_load (defs := defs₀ (F := F)) 𝒱₀ (c : Thread nD τ) none Set.univ (m := a) (S := a.view.set) (View.setOn_subset_set _ _)

theorem store_step (c : Dev nD) {s : Shape} {e : EltTy} {a : Memref sig .tc .vmem s e} {r : Rect s} {w : r.shape.Idx → Elt F e}
    {hx : (a.access r).Stores Finset.univ} {hm : (Finset.univ : Finset r.shape.Idx) = Finset.univ ∨ ∀ a, r.stride a = 1}
    {f : Buf (Elt F) (a.view.loc (c : Thread nD τ))}
    {k : PUnit → Prog (TpuEff nD τ sig (Elt F) Λ₀ (.tc : Proc τ)) α} {Q : α → sProp 𝕄} :
    part a c f ⊢ iprop((part a c ((a.access r).write (Elt F) f w Finset.univ) -∗ wp frame (wpE (defs₀ (F := F)) 𝒱₀ (c : Dev nD) none) Set.univ (k ⟨⟩) Q)
      -∗ wp frame (wpE (defs₀ (F := F)) 𝒱₀ (c : Dev nD) none) Set.univ (.op (.store a r w Finset.univ hx hm) k) Q) :=
  wp_store (defs := defs₀ (F := F)) 𝒱₀ (c : Thread nD τ) none Set.univ (m := a) (r := r) (S := (a.view.set : Finset (Idx ((a.access r).loc (c : Thread nD τ)))))
    (by rw [View.setOn_univ, View.set_slice]; exact View.setOn_subset_set _ _)

/-- A store whose outcome has a name. -/
theorem store_as (c : Dev nD) {s : Shape} {e : EltTy} {a : Memref sig .tc .vmem s e} {r : Rect s} {w : r.shape.Idx → Elt F e}
    {hx : (a.access r).Stores Finset.univ} {hm : (Finset.univ : Finset r.shape.Idx) = Finset.univ ∨ ∀ a, r.stride a = 1}
    {f : Buf (Elt F) (a.view.loc (c : Thread nD τ))} (g : Buf (Elt F) (a.view.loc (c : Thread nD τ)))
    {k : PUnit → Prog (TpuEff nD τ sig (Elt F) Λ₀ (.tc : Proc τ)) α} {Q : α → sProp 𝕄} :
    part a c f ⊢ iprop(⌜(a.access r).write (Elt F) f w Finset.univ = g⌝
      -∗ (part a c g -∗ wp frame (wpE (defs₀ (F := F)) 𝒱₀ (c : Dev nD) none) Set.univ (k ⟨⟩) Q)
      -∗ wp frame (wpE (defs₀ (F := F)) 𝒱₀ (c : Dev nD) none) Set.univ (.op (.store a r w Finset.univ hx hm) k) Q) := by
  iintro H %h Hk
  subst h
  iapply (store_step c) $$ H Hk

/-- A load of exactly the part at hand. -/
theorem load_sub (c : Dev nD) {s : Shape} {e : EltTy} {a : Memref sig .tc .vmem s e} {r : Rect s} {hl : a.view.LoadsAt r.toLoadRect}
    {S : Finset (Idx (a.view.loc (c : Thread nD τ)))} (hS : (a.access r).set = S)
    {f : Buf (Elt F) (a.view.loc (c : Thread nD τ))}
    {k : (r.shape.Idx → Elt F e) → Prog (TpuEff nD τ sig (Elt F) Λ₀ (.tc : Proc τ)) α} {Q : α → sProp 𝕄} :
    (a.view.loc (c : Thread nD τ) ↦[S]{fullShare} f) ⊢ iprop(((a.view.loc (c : Thread nD τ) ↦[S]{fullShare} f) -∗ wp frame (wpE (defs₀ (F := F)) 𝒱₀ (c : Dev nD) none) Set.univ (k ((a.access r).read (Elt F) f)) Q)
      -∗ wp frame (wpE (defs₀ (F := F)) 𝒱₀ (c : Dev nD) none) Set.univ (.op (.load a r.toLoadRect hl) k) Q) :=
  wp_load_rect (defs := defs₀ (F := F)) 𝒱₀ (c : Thread nD τ) none Set.univ (m := a) (r := r) (S := S) (hS ▸ Finset.Subset.refl _)

/-- A store to exactly the part at hand. -/
theorem store_sub (c : Dev nD) {s : Shape} {e : EltTy} {a : Memref sig .tc .vmem s e} {r : Rect s} {w : r.shape.Idx → Elt F e}
    {S : Finset (Idx (a.view.loc (c : Thread nD τ)))} (hS : (a.access r).set = S)
    {hx : (a.access r).Stores Finset.univ} {hm : (Finset.univ : Finset r.shape.Idx) = Finset.univ ∨ ∀ a, r.stride a = 1}
    {f : Buf (Elt F) (a.view.loc (c : Thread nD τ))}
    {k : PUnit → Prog (TpuEff nD τ sig (Elt F) Λ₀ (.tc : Proc τ)) α} {Q : α → sProp 𝕄} :
    (a.view.loc (c : Thread nD τ) ↦[S]{fullShare} f) ⊢ iprop(((a.view.loc (c : Thread nD τ) ↦[S]{fullShare} ((a.access r).write (Elt F) f w Finset.univ)) -∗ wp frame (wpE (defs₀ (F := F)) 𝒱₀ (c : Dev nD) none) Set.univ (k ⟨⟩) Q)
      -∗ wp frame (wpE (defs₀ (F := F)) 𝒱₀ (c : Dev nD) none) Set.univ (.op (.store a r w Finset.univ hx hm) k) Q) :=
  wp_store (defs := defs₀ (F := F)) 𝒱₀ (c : Thread nD τ) none Set.univ (m := a) (r := r) (S := (S : Finset (Idx ((a.access r).loc (c : Thread nD τ))))) (by rw [View.setOn_univ]; exact hS ▸ Finset.Subset.refl _)

theorem anyp_open {sp : Space} {s : Shape} {e : EltTy} (a : Memref sig .tc sp s e) (c : Dev nD) :
    anyp (F := F) a c ⊢ iprop(∃ f : Buf (Elt F) (a.view.loc (c : Thread nD τ)), part a c f) := Entails.refl _
theorem anyp_of {sp : Space} {s : Shape} {e : EltTy} (a : Memref sig .tc sp s e) (c : Dev nD) (f : Buf (Elt F) (a.view.loc (c : Thread nD τ))) :
    part a c f ⊢ anyp (F := F) a c := by
  unfold anyp
  iintro H
  iexists f; iexact H

/-! ## Where a device stands -/

/-- The printed tests of a device's place. -/
abbrev ne0 (c : Dev nD) : BitVec 1 := Scalar.cmpi .ne (Scalar.extui (Scalar.cmpi .ne (wd c) 0#32) : BitVec 32) 0#32
abbrev ne1 (c : Dev nD) : BitVec 1 := Scalar.cmpi .ne (Scalar.extui (Scalar.cmpi .ne (wd c) 1#32) : BitVec 32) 0#32
abbrev eq0 (c : Dev nD) : BitVec 1 := Scalar.cmpi .ne (Scalar.extui (Scalar.cmpi .eq (wd c) 0#32) : BitVec 32) 0#32
abbrev eq1 (c : Dev nD) : BitVec 1 := Scalar.cmpi .ne (Scalar.extui (Scalar.cmpi .eq (wd c) 1#32) : BitVec 32) 0#32
theorem ne0_iff (c : Dev nD) : ne0 c = 1#1 ↔ c ≠ 0 := by revert c; decide
theorem ne1_iff (c : Dev nD) : ne1 c = 1#1 ↔ c ≠ 1 := by revert c; decide
theorem eq0_iff (c : Dev nD) : eq0 c = 1#1 ↔ c = 0 := by revert c; decide
theorem eq1_iff (c : Dev nD) : eq1 c = 1#1 ↔ c = 1 := by revert c; decide
theorem cond1_iff (c : Dev nD) : k0_cond1 c = 1#1 ↔ c = 0 := by revert c; decide
theorem cond2_iff (c : Dev nD) : k0_cond2 c = 1#1 ↔ c = 1 := by revert c; decide
theorem cond3_iff (c : Dev nD) : k0_cond3 c = 1#1 ↔ c = 0 := by revert c; decide

end Cert.KernelIdeal.Proto
-- ==== Proof.KernelIdeal.Device0.lean ====
module
public import proofs.«01_k».proof.Proof.KernelIdeal.Access
@[expose] public section

/-!
# Device 0's transfers

The parts of the body in which device 0 differs from the others: it hands out key columns, then value columns, and stores its
own.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem st_row0_K (c : Dev nD) (f : Buf (Elt F) (bK.view.loc (c : Thread nD τ))) (v : Vec F S2x512x512 .bf16) (hv : v = (col0 aK c).view.read (Elt F) (kC m 0)) :
    part (row0 bK) c ((row0 bK).view.write (Elt F) f (k0_pay1 v) Finset.univ) ⊢ part (row0 bK) c (KB m c) := by
  rw [pay1_id, hv]; exact Entails.of_eq (on_row0_K m c f)
theorem st_row0_V (c : Dev nD) (f : Buf (Elt F) (bV.view.loc (c : Thread nD τ))) (v : Vec F S2x512x512 .bf16) (hv : v = (col0 aV c).view.read (Elt F) (vC m 0)) :
    part (row0 bV) c ((row0 bV).view.write (Elt F) f (k0_pay7 v) Finset.univ) ⊢ part (row0 bV) c (VB m c) := by
  rw [pay7_id, hv]; exact Entails.of_eq (on_row0_V m c f)

theorem c1_0 : k0_cond1 (0 : Dev nD) = 1#1 := (cond1_iff 0).mpr rfl
theorem c2_0 : ¬ k0_cond2 (0 : Dev nD) = 1#1 := fun h => absurd ((cond2_iff 0).mp h) (by decide)
theorem c3_0 : k0_cond3 (0 : Dev nD) = 1#1 := (cond3_iff 0).mpr rfl
theorem ne0_0 : ¬ ne0 0 = 1#1 := fun h => (ne0_iff 0).mp h rfl
theorem ne1_0 : ne1 0 = 1#1 := (ne1_iff 0).mpr (by decide)
theorem eq0_0 : eq0 0 = 1#1 := (eq0_iff 0).mpr rfl
theorem eq1_0 : ¬ eq1 0 = 1#1 := fun h => absurd ((eq1_iff 0).mp h) (by decide)

theorem part19_0 {Q : _ → sProp 𝕄} :
    recs m K ⊢ iprop(levAts L lv -∗ bars -∗ opened 0 -∗ ow 0 ((nx 6 0, none) :: (nx 7 0, none) :: dXfer 0) -∗ tok 0 (nx 6 0, none) -∗ tok 0 (nx 7 0, none)
      -∗ barPay 0 (nx 6 0) -∗ barPay 0 (nx 7 0) -∗ cred (tallyAt (kcell (0, none)) () 7) -∗ atPos ER (kcell (0, none)) 0 ∅ 0
      -∗ all0 (fun t => pkK0 m t) -∗ part (col0 aK 0) 0 (kC m 0) -∗ anyp (row0 bK) 0 -∗ part aX 0 (xC m 0) -∗ part aQ 0 (qC m 0)
      -∗ (ow 0 dV0 -∗ atPos ER (kcell (0, none)) 1 ∅ 0 -∗ ops -∗ peers 0 -∗ all0 (fun d => anyp (row0 bV) d) -∗ all0 (fun t => crd 0 (.ks 0 t))
        -∗ part (col0 aK 0) 0 (kC m 0) -∗ part (row0 bK) 0 (KB m 0) -∗ part aX 0 (xC m 0) -∗ part aQ 0 (qC m 0)
        -∗ Q ⟨k0_pay4 (F := F), q0 m 0, x1 m 0⟩)
      -∗ wp frame (wpE (defs₀ (F := F)) 𝒱₀ (0 : Dev nD) none) Set.univ (k0_part19 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 0 (wd 0) (SemArray.scalar (sig.barrier 0 rfl)) (Scalar.addi (wd 0) 6#32) 8#32) Q) := by
  simp only [k0_part19_eq_skeleton]; unfold k0_part19_skel
  simp only [Prog.lift, Prog.bind_op, Prog.bind_ret, Prog.pure_eq_ret, semSignalWord, semWaitWord, dif_pos c1_0, dif_neg c2_0, k0_part1_eq_skeleton, k0_part2_eq_skeleton, k0_part1_skel, k0_part2_skel]
  unfold all0
  iintro #HI #Hl #HB #Ho HO T6 T7 P6 P7 Hc Ha ⟨H1, H2, H3, H4, H5, H6, H7⟩ HK HR HX HQ Hk
  ihave HR := (anyp_open (row0 bK) 0) $$ HR
  icases HR with ⟨%f, HR⟩
  iapply (barrier_phase m K 0 (dev6_eq 0) (dev7_eq 0) rfl rfl rfl rfl rfl rfl) $$ HI Hl HB Ho HO T6 T7 P6 P7 Hc Ha
  iintro HO Ha #Hop HgK Hpe
  ihave HgK := getK_0 $$ HgK
  unfold all0
  icases HgK with ⟨⟨R1, R2, R3, R4, R5, R6, R7⟩, HV⟩
  ihave HO := (Entails.of_eq (congrArg (ow 0) (show dXfer 0 = dK0 from rfl))) $$ HO
  iapply (send_K0 m K 1 (by decide) _ (Fin.ext rfl) rfl rfl rfl rfl _) $$ HI Ho [] HO H1 R1
  · iapply (ops_at 1) $$ Hop
  iintro HO C1
  iapply (send_K0 m K 2 (by decide) _ (Fin.ext rfl) rfl rfl rfl rfl _) $$ HI Ho [] HO H2 R2
  · iapply (ops_at 2) $$ Hop
  iintro HO C2
  iapply (send_K0 m K 3 (by decide) _ (Fin.ext rfl) rfl rfl rfl rfl _) $$ HI Ho [] HO H3 R3
  · iapply (ops_at 3) $$ Hop
  iintro HO C3
  iapply (send_K0 m K 4 (by decide) _ (Fin.ext rfl) rfl rfl rfl rfl _) $$ HI Ho [] HO H4 R4
  · iapply (ops_at 4) $$ Hop
  iintro HO C4
  iapply (send_K0 m K 5 (by decide) _ (Fin.ext rfl) rfl rfl rfl rfl _) $$ HI Ho [] HO H5 R5
  · iapply (ops_at 5) $$ Hop
  iintro HO C5
  iapply (send_K0 m K 6 (by decide) _ (Fin.ext rfl) rfl rfl rfl rfl _) $$ HI Ho [] HO H6 R6
  · iapply (ops_at 6) $$ Hop
  iintro HO C6
  iapply (send_K0 m K 7 (by decide) _ (Fin.ext rfl) rfl rfl rfl rfl _) $$ HI Ho [] HO H7 R7
  · iapply (ops_at 7) $$ Hop
  iintro HO C7
  iapply (load_sub (a := aK) 0 (S := (col0 aK 0).view.set) rfl) $$ HK
  iintro HK
  iapply (load_sub (a := bK) 0 (S := (row0 bK).view.set) rfl) $$ HR
  iintro HR
  iapply (store_sub (a := bK) 0 (S := (row0 bK).view.set) rfl) $$ HR
  iintro HR
  ihave HR := (st_row0_K m 0 f _ rfl) $$ HR
  iapply (load_step (a := aX) 0) $$ HX
  iintro HX
  iapply (load_step (a := aQ) 0) $$ HQ
  iintro HQ
  iapply (load_step (a := aX) 0) $$ HX
  iintro HX
  rw [wp_ret]
  iapply fupd_intro
  change Entails' _ (Q ⟨k0_pay4 (F := F), q0 m 0, x1 m 0⟩)
  iapply Hk $$ HO Ha Hop Hpe HV [C1 C2 C3 C4 C5 C6 C7] HK HR HX HQ
  · isplitl [C1]; · iexact C1
    isplitl [C2]; · iexact C2
    isplitl [C3]; · iexact C3
    isplitl [C4]; · iexact C4
    isplitl [C5]; · iexact C5
    isplitl [C6]; · iexact C6
    iexact C7

theorem part20_0 {Q : _ → sProp 𝕄} :
    recs m K ⊢ iprop(levAts L lv -∗ ops -∗ ow 0 dV0 -∗ all0 (fun t => crd 0 (.ks 0 t)) -∗ all0 (fun t => pos 0 (.ks 0 t) 0) -∗ all0 (fun t => pkV0 m t)
      -∗ all0 (fun d => anyp (row0 bV) d) -∗ part (col0 aV 0) 0 (vC m 0) -∗ anyp (row0 bV) 0 -∗ crd 0 (.kr 1 0) -∗ pos 0 (.kr 1 0) 0
      -∗ part (row0 bK) 0 (KB m 0) -∗ part aQ 0 (qC m 0)
      -∗ (ow 0 (dRS 0) -∗ all0 (fun t => pos 0 (.ks 0 t) 1) -∗ all0 (fun t => part (col0 aK t) 0 (kC m 0)) -∗ all0 (fun t => crd 0 (.ks 1 t))
        -∗ part (col0 aV 0) 0 (vC m 0) -∗ part (row0 bV) 0 (VB m 0) -∗ pos 0 (.kr 1 0) 1 -∗ part bK 0 (KB m 0) -∗ part aQ 0 (qC m 0)
        -∗ Q ⟨q1 m 0, p00 m 0, k0_pay9 (q0 m 0) (kH m 0 0 1), k0_pay10 (F := F)⟩)
      -∗ wp frame (wpE (defs₀ (F := F)) 𝒱₀ (0 : Dev nD) none) Set.univ (k0_part20 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 0 (wd 0) (k0_pay4 (F := F)) (q0 m 0) (x1 m 0)) Q) := by
  simp only [k0_part20_eq_skeleton]; unfold k0_part20_skel
  simp only [Prog.lift, Prog.bind_op, Prog.bind_ret, Prog.pure_eq_ret, dif_pos c3_0, dif_neg ne0_0, dif_pos ne1_0, k0_part8_eq_skeleton, k0_part9_eq_skeleton, k0_part10_eq_skeleton, k0_part11_eq_skeleton,
    k0_part8_skel, k0_part9_skel, k0_part10_skel, k0_part11_skel]
  unfold all0
  iintro #HI #Hl #Hop HO ⟨C1, C2, C3, C4, C5, C6, C7⟩ ⟨P1, P2, P3, P4, P5, P6, P7⟩ ⟨H1, H2, H3, H4, H5, H6, H7⟩ ⟨R1, R2, R3, R4, R5, R6, R7⟩ HV HR CR PR HK HQ Hk
  ihave HR := (anyp_open (row0 bV) 0) $$ HR
  icases HR with ⟨%f, HR⟩
  iapply (load_step (a := aQ) 0) $$ HQ
  iintro HQ
  iapply (wait_ks00 m K 1 (by decide) rfl rfl _ (by decide)) $$ HI Hl C1 HO P1
  iintro HO P1 A1
  iapply (wait_ks00 m K 2 (by decide) rfl rfl _ (by decide)) $$ HI Hl C2 HO P2
  iintro HO P2 A2
  iapply (wait_ks00 m K 3 (by decide) rfl rfl _ (by decide)) $$ HI Hl C3 HO P3
  iintro HO P3 A3
  iapply (wait_ks00 m K 4 (by decide) rfl rfl _ (by decide)) $$ HI Hl C4 HO P4
  iintro HO P4 A4
  iapply (wait_ks00 m K 5 (by decide) rfl rfl _ (by decide)) $$ HI Hl C5 HO P5
  iintro HO P5 A5
  iapply (wait_ks00 m K 6 (by decide) rfl rfl _ (by decide)) $$ HI Hl C6 HO P6
  iintro HO P6 A6
  iapply (wait_ks00 m K 7 (by decide) rfl rfl _ (by decide)) $$ HI Hl C7 HO P7
  iintro HO P7 A7
  iapply (send_V0 m K 1 (by decide) _ (Fin.ext rfl) rfl rfl rfl rfl _) $$ HI [] [] HO H1 R1
  · iapply (ops_at 0) $$ Hop
  · iapply (ops_at 1) $$ Hop
  iintro HO C1
  iapply (send_V0 m K 2 (by decide) _ (Fin.ext rfl) rfl rfl rfl rfl _) $$ HI [] [] HO H2 R2
  · iapply (ops_at 0) $$ Hop
  · iapply (ops_at 2) $$ Hop
  iintro HO C2
  iapply (send_V0 m K 3 (by decide) _ (Fin.ext rfl) rfl rfl rfl rfl _) $$ HI [] [] HO H3 R3
  · iapply (ops_at 0) $$ Hop
  · iapply (ops_at 3) $$ Hop
  iintro HO C3
  iapply (send_V0 m K 4 (by decide) _ (Fin.ext rfl) rfl rfl rfl rfl _) $$ HI [] [] HO H4 R4
  · iapply (ops_at 0) $$ Hop
  · iapply (ops_at 4) $$ Hop
  iintro HO C4
  iapply (send_V0 m K 5 (by decide) _ (Fin.ext rfl) rfl rfl rfl rfl _) $$ HI [] [] HO H5 R5
  · iapply (ops_at 0) $$ Hop
  · iapply (ops_at 5) $$ Hop
  iintro HO C5
  iapply (send_V0 m K 6 (by decide) _ (Fin.ext rfl) rfl rfl rfl rfl _) $$ HI [] [] HO H6 R6
  · iapply (ops_at 0) $$ Hop
  · iapply (ops_at 6) $$ Hop
  iintro HO C6
  iapply (send_V0 m K 7 (by decide) _ (Fin.ext rfl) rfl rfl rfl rfl _) $$ HI [] [] HO H7 R7
  · iapply (ops_at 0) $$ Hop
  · iapply (ops_at 7) $$ Hop
  iintro HO C7
  iapply (load_sub (a := aV) 0 (S := (col0 aV 0).view.set) rfl) $$ HV
  iintro HV
  iapply (load_sub (a := bV) 0 (S := (row0 bV).view.set) rfl) $$ HR
  iintro HR
  iapply (store_sub (a := bV) 0 (S := (row0 bV).view.set) rfl) $$ HR
  iintro HR
  ihave HR := (st_row0_V m 0 f _ rfl) $$ HR
  iapply (wait_kr10 m K 0 (by decide) rfl rfl _ (by decide)) $$ HI Hl CR HO PR
  iintro HO PR HK1
  ihave HK := (rows_K 0 (KB m 0)).2 $$ [HK HK1]
  · isplitl [HK]; · iexact HK
    iexact HK1
  iapply (load_step (a := bK) 0) $$ HK
  iintro HK
  iapply (load_step (a := bK) 0) $$ HK
  iintro HK
  rw [wp_ret]
  iapply fupd_intro
  change Entails' _ (Q ⟨q1 m 0, p00 m 0, k0_pay9 (q0 m 0) (kH m 0 0 1), k0_pay10 (F := F)⟩)
  iapply Hk $$ HO [P1 P2 P3 P4 P5 P6 P7] [A1 A2 A3 A4 A5 A6 A7] [C1 C2 C3 C4 C5 C6 C7] HV HR PR HK HQ
  · isplitl [P1]; · iexact P1
    isplitl [P2]; · iexact P2
    isplitl [P3]; · iexact P3
    isplitl [P4]; · iexact P4
    isplitl [P5]; · iexact P5
    isplitl [P6]; · iexact P6
    iexact P7
  · isplitl [A1]; · iexact A1
    isplitl [A2]; · iexact A2
    isplitl [A3]; · iexact A3
    isplitl [A4]; · iexact A4
    isplitl [A5]; · iexact A5
    isplitl [A6]; · iexact A6
    iexact A7
  · isplitl [C1]; · iexact C1
    isplitl [C2]; · iexact C2
    isplitl [C3]; · iexact C3
    isplitl [C4]; · iexact C4
    isplitl [C5]; · iexact C5
    isplitl [C6]; · iexact C6
    iexact C7

theorem part26_0 {Q : _ → sProp 𝕄} :
    recs m K ⊢ iprop(levAts L lv -∗ ow 0 (dRS 0) -∗ all0 (fun t => crd 0 (.ks 1 t)) -∗ all0 (fun t => pos 0 (.ks 1 t) 0) -∗ part bK 0 (KB m 0)
      -∗ (ow 0 (dRS 0) -∗ all0 (fun t => pos 0 (.ks 1 t) 1) -∗ all0 (fun t => part (col0 aV t) 0 (vC m 0)) -∗ part bK 0 (KB m 0)
        -∗ Q ⟨p15 m 0, p16 m 0, p17 m 0, Scalar.extui (Scalar.cmpi .eq (wd 0) 1#32), 0#32⟩)
      -∗ wp frame (wpE (defs₀ (F := F)) 𝒱₀ (0 : Dev nD) none) Set.univ (k0_part26 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd 0) (k0_pay4 (F := F)) (q1 m 0) (k0_pay31 (k0_pay4 (F := F)) (q1 m 0) (kH m 0 1 5)) (k0_pay32 (k0_pay4 (F := F)) (q1 m 0) (kH m 0 1 5))) Q) := by
  simp only [k0_part26_eq_skeleton]; unfold k0_part26_skel
  simp only [Prog.lift, Prog.bind_op, Prog.bind_ret, Prog.pure_eq_ret, dif_pos eq0_0, k0_part13_eq_skeleton, k0_part12_eq_skeleton, k0_part13_skel, k0_part12_skel]
  unfold all0
  iintro #HI #Hl HO ⟨C1, C2, C3, C4, C5, C6, C7⟩ ⟨P1, P2, P3, P4, P5, P6, P7⟩ HK Hk
  iapply (load_step (a := bK) 0) $$ HK
  iintro HK
  iapply (load_step (a := bK) 0) $$ HK
  iintro HK
  iapply (wait_ks01 m K 1 (by decide) rfl rfl _ (by decide)) $$ HI Hl C1 HO P1
  iintro HO P1 A1
  iapply (wait_ks01 m K 2 (by decide) rfl rfl _ (by decide)) $$ HI Hl C2 HO P2
  iintro HO P2 A2
  iapply (wait_ks01 m K 3 (by decide) rfl rfl _ (by decide)) $$ HI Hl C3 HO P3
  iintro HO P3 A3
  iapply (wait_ks01 m K 4 (by decide) rfl rfl _ (by decide)) $$ HI Hl C4 HO P4
  iintro HO P4 A4
  iapply (wait_ks01 m K 5 (by decide) rfl rfl _ (by decide)) $$ HI Hl C5 HO P5
  iintro HO P5 A5
  iapply (wait_ks01 m K 6 (by decide) rfl rfl _ (by decide)) $$ HI Hl C6 HO P6
  iintro HO P6 A6
  iapply (wait_ks01 m K 7 (by decide) rfl rfl _ (by decide)) $$ HI Hl C7 HO P7
  iintro HO P7 A7
  rw [wp_ret]
  iapply fupd_intro
  change Entails' _ (Q ⟨p15 m 0, p16 m 0, p17 m 0, Scalar.extui (Scalar.cmpi .eq (wd 0) 1#32), 0#32⟩)
  iapply Hk $$ HO [P1 P2 P3 P4 P5 P6 P7] [A1 A2 A3 A4 A5 A6 A7] HK
  · isplitl [P1]; · iexact P1
    isplitl [P2]; · iexact P2
    isplitl [P3]; · iexact P3
    isplitl [P4]; · iexact P4
    isplitl [P5]; · iexact P5
    isplitl [P6]; · iexact P6
    iexact P7
  · isplitl [A1]; · iexact A1
    isplitl [A2]; · iexact A2
    isplitl [A3]; · iexact A3
    isplitl [A4]; · iexact A4
    isplitl [A5]; · iexact A5
    isplitl [A6]; · iexact A6
    iexact A7

theorem part27_0 {Q : _ → sProp 𝕄} :
    recs m K ⊢ iprop(levAts L lv -∗ ow 0 (dRS 0) -∗ crd 0 (.kr 1 1) -∗ pos 0 (.kr 1 1) 0 -∗ part (row0 bV) 0 (VB m 0)
      -∗ (ow 0 (dRS 0) -∗ pos 0 (.kr 1 1) 1 -∗ part bV 0 (VB m 0)
        -∗ Q ⟨k0_pay36 (p00 m 0) (vH m 0 0 0), k0_pay37 (p01 m 0) (vH m 0 0 1), k0_pay38 (p02 m 0) (vH m 0 0 2), k0_pay39 (p03 m 0) (vH m 0 0 3), k0_pay40 (p04 m 0) (vH m 0 0 4), k0_pay41 (vH m 0 0 5), constant S512x64 .f32 0x00000000#32⟩)
      -∗ wp frame (wpE (defs₀ (F := F)) 𝒱₀ (0 : Dev nD) none) Set.univ (k0_part27 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd 0) (p00 m 0) (p01 m 0) (p02 m 0) (p03 m 0) (p04 m 0) (Scalar.extui (Scalar.cmpi .eq (wd 0) 1#32)) 0#32) Q) := by
  simp only [k0_part27_eq_skeleton]; unfold k0_part27_skel
  simp only [Prog.lift, Prog.bind_op, Prog.bind_ret, Prog.pure_eq_ret, dif_neg eq1_0, dif_neg ne0_0, dif_pos ne1_0]
  iintro #HI #Hl HO CR PR HV Hk
  iapply (wait_kr11 m K 0 (by decide) rfl rfl _ (by decide)) $$ HI Hl CR HO PR
  iintro HO PR HV1
  ihave HV := (rows_V 0 (VB m 0)).2 $$ [HV HV1]
  · isplitl [HV]; · iexact HV
    iexact HV1
  iapply (load_step (a := bV) 0) $$ HV
  iintro HV
  iapply (load_step (a := bV) 0) $$ HV
  iintro HV
  iapply (load_step (a := bV) 0) $$ HV
  iintro HV
  iapply (load_step (a := bV) 0) $$ HV
  iintro HV
  iapply (load_step (a := bV) 0) $$ HV
  iintro HV
  iapply (load_step (a := bV) 0) $$ HV
  iintro HV
  rw [wp_ret]
  iapply fupd_intro
  change Entails' _ (Q ⟨k0_pay36 (p00 m 0) (vH m 0 0 0), k0_pay37 (p01 m 0) (vH m 0 0 1), k0_pay38 (p02 m 0) (vH m 0 0 2), k0_pay39 (p03 m 0) (vH m 0 0 3), k0_pay40 (p04 m 0) (vH m 0 0 4), k0_pay41 (vH m 0 0 5), constant S512x64 .f32 0x00000000#32⟩)
  iapply Hk $$ HO PR HV

end Cert.KernelIdeal.Proto
-- ==== Proof.KernelIdeal.Device1.lean ====
module
public import proofs.«01_k».proof.Proof.KernelIdeal.Access
@[expose] public section

/-!
# Device 1's transfers

The parts of the body in which device 1 differs from the others: it hands out the first rows of the next key and value
columns, and stores its own.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem st_row1_K (c : Dev nD) (f : Buf (Elt F) (bK.view.loc (c : Thread nD τ))) (v : Vec F S2x128x512 .bf16) (hv : v = (col1 aK c).view.read (Elt F) (kC m 1)) :
    part (row1 bK) c ((row1 bK).view.write (Elt F) f (k0_pay2 v) Finset.univ) ⊢ part (row1 bK) c (KB m c) := by
  rw [pay2_id, hv]; exact Entails.of_eq (on_row1_K m c f)
theorem st_row1_V (c : Dev nD) (f : Buf (Elt F) (bV.view.loc (c : Thread nD τ))) (v : Vec F S2x128x512 .bf16) (hv : v = (col1 aV c).view.read (Elt F) (vC m 1)) :
    part (row1 bV) c ((row1 bV).view.write (Elt F) f (k0_pay3 v) Finset.univ) ⊢ part (row1 bV) c (VB m c) := by
  rw [pay3_id, hv]; exact Entails.of_eq (on_row1_V m c f)

theorem c1_1 : ¬ k0_cond1 (1 : Dev nD) = 1#1 := fun h => absurd ((cond1_iff 1).mp h) (by decide)
theorem c2_1 : k0_cond2 (1 : Dev nD) = 1#1 := (cond2_iff 1).mpr rfl
theorem c3_1 : ¬ k0_cond3 (1 : Dev nD) = 1#1 := fun h => absurd ((cond3_iff 1).mp h) (by decide)
theorem ne0_1 : ne0 1 = 1#1 := (ne0_iff 1).mpr (by decide)
theorem ne1_1 : ¬ ne1 1 = 1#1 := fun h => (ne1_iff 1).mp h rfl
theorem eq1_1 : eq1 1 = 1#1 := (eq1_iff 1).mpr rfl

theorem part19_1 {Q : _ → sProp 𝕄} :
    recs m K ⊢ iprop(levAts L lv -∗ bars -∗ opened 1 -∗ ow 1 ((nx 6 1, none) :: (nx 7 1, none) :: dXfer 1) -∗ tok 1 (nx 6 1, none) -∗ tok 1 (nx 7 1, none)
      -∗ barPay 1 (nx 6 1) -∗ barPay 1 (nx 7 1) -∗ cred (tallyAt (kcell (1, none)) () 7) -∗ atPos ER (kcell (1, none)) 0 ∅ 0
      -∗ all1 (fun t => pkK1 m t) -∗ all1 (fun t => pkV1 m t) -∗ part (col1 aK 1) 1 (kC m 1) -∗ part (col1 aV 1) 1 (vC m 1)
      -∗ anyp (row1 bK) 1 -∗ anyp (row1 bV) 1 -∗ part aX 1 (xC m 1) -∗ part aQ 1 (qC m 1)
      -∗ (ow 1 (dRS 1) -∗ atPos ER (kcell (1, none)) 1 ∅ 0 -∗ ops -∗ peers 1 -∗ all1 (fun t => crd 1 (.ks 0 t)) -∗ all1 (fun t => crd 1 (.ks 1 t))
        -∗ part (col1 aK 1) 1 (kC m 1) -∗ part (col1 aV 1) 1 (vC m 1) -∗ part (row1 bK) 1 (KB m 1) -∗ part (row1 bV) 1 (VB m 1)
        -∗ part aX 1 (xC m 1) -∗ part aQ 1 (qC m 1)
        -∗ Q ⟨k0_pay4 (F := F), q0 m 1, x1 m 1⟩)
      -∗ wp frame (wpE (defs₀ (F := F)) 𝒱₀ (1 : Dev nD) none) Set.univ (k0_part19 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 1 (wd 1) (SemArray.scalar (sig.barrier 0 rfl)) (Scalar.addi (wd 1) 6#32) 8#32) Q) := by
  simp only [k0_part19_eq_skeleton]; unfold k0_part19_skel
  simp only [Prog.lift, Prog.bind_op, Prog.bind_ret, Prog.pure_eq_ret, semSignalWord, semWaitWord, dif_neg c1_1, dif_pos c2_1, k0_part3_eq_skeleton, k0_part4_eq_skeleton, k0_part5_eq_skeleton, k0_part6_eq_skeleton,
    k0_part7_eq_skeleton, k0_part3_skel, k0_part4_skel, k0_part5_skel, k0_part6_skel, k0_part7_skel]
  unfold all1
  iintro #HI #Hl #HB #Ho HO T6 T7 P6 P7 Hc Ha ⟨H0, H2, H3, H4, H5, H6, H7⟩ ⟨G0, G2, G3, G4, G5, G6, G7⟩ HK HV HR HS HX HQ Hk
  ihave HR := (anyp_open (row1 bK) 1) $$ HR
  icases HR with ⟨%f, HR⟩
  ihave HS := (anyp_open (row1 bV) 1) $$ HS
  icases HS with ⟨%g, HS⟩
  iapply (barrier_phase m K 1 (dev6_eq 1) (dev7_eq 1) rfl rfl rfl rfl rfl rfl) $$ HI Hl HB Ho HO T6 T7 P6 P7 Hc Ha
  iintro HO Ha #Hop HgK Hpe
  ihave HgK := getK_1 $$ HgK
  unfold all1
  icases HgK with ⟨⟨R0, R2, R3, R4, R5, R6, R7⟩, ⟨S0, S2, S3, S4, S5, S6, S7⟩⟩
  ihave HO := (Entails.of_eq (congrArg (ow 1) (show dXfer 1 = dK1 from rfl))) $$ HO
  iapply (send_K1 m K 0 (by decide) _ (Fin.ext rfl) rfl rfl rfl rfl _) $$ HI [] [] HO H0 R0
  · iapply (ops_at 1) $$ Hop
  · iapply (ops_at 0) $$ Hop
  iintro HO C0
  iapply (send_K1 m K 2 (by decide) _ (Fin.ext rfl) rfl rfl rfl rfl _) $$ HI [] [] HO H2 R2
  · iapply (ops_at 1) $$ Hop
  · iapply (ops_at 2) $$ Hop
  iintro HO C2
  iapply (send_K1 m K 3 (by decide) _ (Fin.ext rfl) rfl rfl rfl rfl _) $$ HI [] [] HO H3 R3
  · iapply (ops_at 1) $$ Hop
  · iapply (ops_at 3) $$ Hop
  iintro HO C3
  iapply (send_K1 m K 4 (by decide) _ (Fin.ext rfl) rfl rfl rfl rfl _) $$ HI [] [] HO H4 R4
  · iapply (ops_at 1) $$ Hop
  · iapply (ops_at 4) $$ Hop
  iintro HO C4
  iapply (send_K1 m K 5 (by decide) _ (Fin.ext rfl) rfl rfl rfl rfl _) $$ HI [] [] HO H5 R5
  · iapply (ops_at 1) $$ Hop
  · iapply (ops_at 5) $$ Hop
  iintro HO C5
  iapply (send_K1 m K 6 (by decide) _ (Fin.ext rfl) rfl rfl rfl rfl _) $$ HI [] [] HO H6 R6
  · iapply (ops_at 1) $$ Hop
  · iapply (ops_at 6) $$ Hop
  iintro HO C6
  iapply (send_K1 m K 7 (by decide) _ (Fin.ext rfl) rfl rfl rfl rfl _) $$ HI [] [] HO H7 R7
  · iapply (ops_at 1) $$ Hop
  · iapply (ops_at 7) $$ Hop
  iintro HO C7
  iapply (send_V1 m K 0 (by decide) _ (Fin.ext rfl) rfl rfl rfl rfl _) $$ HI [] [] HO G0 S0
  · iapply (ops_at 1) $$ Hop
  · iapply (ops_at 0) $$ Hop
  iintro HO D0
  iapply (send_V1 m K 2 (by decide) _ (Fin.ext rfl) rfl rfl rfl rfl _) $$ HI [] [] HO G2 S2
  · iapply (ops_at 1) $$ Hop
  · iapply (ops_at 2) $$ Hop
  iintro HO D2
  iapply (send_V1 m K 3 (by decide) _ (Fin.ext rfl) rfl rfl rfl rfl _) $$ HI [] [] HO G3 S3
  · iapply (ops_at 1) $$ Hop
  · iapply (ops_at 3) $$ Hop
  iintro HO D3
  iapply (send_V1 m K 4 (by decide) _ (Fin.ext rfl) rfl rfl rfl rfl _) $$ HI [] [] HO G4 S4
  · iapply (ops_at 1) $$ Hop
  · iapply (ops_at 4) $$ Hop
  iintro HO D4
  iapply (send_V1 m K 5 (by decide) _ (Fin.ext rfl) rfl rfl rfl rfl _) $$ HI [] [] HO G5 S5
  · iapply (ops_at 1) $$ Hop
  · iapply (ops_at 5) $$ Hop
  iintro HO D5
  iapply (send_V1 m K 6 (by decide) _ (Fin.ext rfl) rfl rfl rfl rfl _) $$ HI [] [] HO G6 S6
  · iapply (ops_at 1) $$ Hop
  · iapply (ops_at 6) $$ Hop
  iintro HO D6
  iapply (send_V1 m K 7 (by decide) _ (Fin.ext rfl) rfl rfl rfl rfl _) $$ HI [] [] HO G7 S7
  · iapply (ops_at 1) $$ Hop
  · iapply (ops_at 7) $$ Hop
  iintro HO D7
  iapply (load_sub (a := aK) 1 (S := (col1 aK 1).view.set) rfl) $$ HK
  iintro HK
  iapply (load_sub (a := bK) 1 (S := (row1 bK).view.set) rfl) $$ HR
  iintro HR
  iapply (store_sub (a := bK) 1 (S := (row1 bK).view.set) rfl) $$ HR
  iintro HR
  ihave HR := (st_row1_K m 1 f _ rfl) $$ HR
  iapply (load_sub (a := aV) 1 (S := (col1 aV 1).view.set) rfl) $$ HV
  iintro HV
  iapply (load_sub (a := bV) 1 (S := (row1 bV).view.set) rfl) $$ HS
  iintro HS
  iapply (store_sub (a := bV) 1 (S := (row1 bV).view.set) rfl) $$ HS
  iintro HS
  ihave HS := (st_row1_V m 1 g _ rfl) $$ HS
  iapply (load_step (a := aX) 1) $$ HX
  iintro HX
  iapply (load_step (a := aQ) 1) $$ HQ
  iintro HQ
  iapply (load_step (a := aX) 1) $$ HX
  iintro HX
  rw [wp_ret]
  iapply fupd_intro
  change Entails' _ (Q ⟨k0_pay4 (F := F), q0 m 1, x1 m 1⟩)
  iapply Hk $$ HO Ha Hop Hpe [C0 C2 C3 C4 C5 C6 C7] [D0 D2 D3 D4 D5 D6 D7] HK HV HR HS HX HQ
  · isplitl [C0]; · iexact C0
    isplitl [C2]; · iexact C2
    isplitl [C3]; · iexact C3
    isplitl [C4]; · iexact C4
    isplitl [C5]; · iexact C5
    isplitl [C6]; · iexact C6
    iexact C7
  · isplitl [D0]; · iexact D0
    isplitl [D2]; · iexact D2
    isplitl [D3]; · iexact D3
    isplitl [D4]; · iexact D4
    isplitl [D5]; · iexact D5
    isplitl [D6]; · iexact D6
    iexact D7

theorem part20_1 {Q : _ → sProp 𝕄} :
    recs m K ⊢ iprop(levAts L lv -∗ ow 1 (dRS 1) -∗ crd 1 (.kr 0 0) -∗ pos 1 (.kr 0 0) 0 -∗ part (row1 bK) 1 (KB m 1) -∗ part aQ 1 (qC m 1)
      -∗ (ow 1 (dRS 1) -∗ pos 1 (.kr 0 0) 1 -∗ part bK 1 (KB m 1) -∗ part aQ 1 (qC m 1)
        -∗ Q ⟨q1 m 1, p00 m 1, k0_pay9 (q0 m 1) (kH m 1 0 1), k0_pay10 (F := F)⟩)
      -∗ wp frame (wpE (defs₀ (F := F)) 𝒱₀ (1 : Dev nD) none) Set.univ (k0_part20 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 1 (wd 1) (k0_pay4 (F := F)) (q0 m 1) (x1 m 1)) Q) := by
  simp only [k0_part20_eq_skeleton]; unfold k0_part20_skel
  simp only [Prog.lift, Prog.bind_op, Prog.bind_ret, Prog.pure_eq_ret, dif_neg c3_1, dif_pos ne0_1, dif_neg ne1_1]
  iintro #HI #Hl HO C0 P0 HK1 HQ Hk
  iapply (load_step (a := aQ) 1) $$ HQ
  iintro HQ
  iapply (wait_kr00 m K 1 (by decide) rfl rfl _ rfl) $$ HI Hl C0 HO P0
  iintro HO P0 HK0
  ihave HK0 := (rows_K 1 (KB m 1)).2 $$ [HK0 HK1]
  · isplitl [HK0]; · iexact HK0
    iexact HK1
  iapply (load_step (a := bK) 1) $$ HK0
  iintro HK0
  iapply (load_step (a := bK) 1) $$ HK0
  iintro HK0
  rw [wp_ret]
  iapply fupd_intro
  change Entails' _ (Q ⟨q1 m 1, p00 m 1, k0_pay9 (q0 m 1) (kH m 1 0 1), k0_pay10 (F := F)⟩)
  iapply Hk $$ HO P0 HK0 HQ

theorem part27_1 {Q : _ → sProp 𝕄} :
    recs m K ⊢ iprop(levAts L lv -∗ ow 1 (dRS 1) -∗ all1 (fun t => crd 1 (.ks 0 t)) -∗ all1 (fun t => pos 1 (.ks 0 t) 0)
      -∗ all1 (fun t => crd 1 (.ks 1 t)) -∗ all1 (fun t => pos 1 (.ks 1 t) 0) -∗ crd 1 (.kr 0 1) -∗ pos 1 (.kr 0 1) 0 -∗ part (row1 bV) 1 (VB m 1)
      -∗ (ow 1 (dRS 1) -∗ all1 (fun t => pos 1 (.ks 0 t) 1) -∗ all1 (fun t => pos 1 (.ks 1 t) 1)
        -∗ all1 (fun t => part (col1 aK t) 1 (kC m 1)) -∗ all1 (fun t => part (col1 aV t) 1 (vC m 1)) -∗ pos 1 (.kr 0 1) 1 -∗ part bV 1 (VB m 1)
        -∗ Q ⟨k0_pay36 (p00 m 1) (vH m 1 0 0), k0_pay37 (p01 m 1) (vH m 1 0 1), k0_pay38 (p02 m 1) (vH m 1 0 2), k0_pay39 (p03 m 1) (vH m 1 0 3), k0_pay40 (p04 m 1) (vH m 1 0 4), k0_pay41 (vH m 1 0 5), constant S512x64 .f32 0x00000000#32⟩)
      -∗ wp frame (wpE (defs₀ (F := F)) 𝒱₀ (1 : Dev nD) none) Set.univ (k0_part27 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd 1) (p00 m 1) (p01 m 1) (p02 m 1) (p03 m 1) (p04 m 1) (Scalar.extui (Scalar.cmpi .eq (wd 1) 1#32)) 0#32) Q) := by
  simp only [k0_part27_eq_skeleton]; unfold k0_part27_skel
  simp only [Prog.lift, Prog.bind_op, Prog.bind_ret, Prog.pure_eq_ret, dif_pos eq1_1, dif_pos ne0_1, dif_neg ne1_1, k0_part17_eq_skeleton, k0_part17_skel, k0_part14_eq_skeleton, k0_part15_eq_skeleton, k0_part16_eq_skeleton,
    k0_part14_skel, k0_part15_skel, k0_part16_skel]
  unfold all1
  iintro #HI #Hl HO ⟨C0, C2, C3, C4, C5, C6, C7⟩ ⟨P0, P2, P3, P4, P5, P6, P7⟩ ⟨D0, D2, D3, D4, D5, D6, D7⟩ ⟨Q0, Q2, Q3, Q4, Q5, Q6, Q7⟩ CR PR HV Hk
  iapply (wait_ks10 m K 0 (by decide) rfl rfl _ (by decide)) $$ HI Hl C0 HO P0
  iintro HO P0 A0
  iapply (wait_ks10 m K 2 (by decide) rfl rfl _ (by decide)) $$ HI Hl C2 HO P2
  iintro HO P2 A2
  iapply (wait_ks10 m K 3 (by decide) rfl rfl _ (by decide)) $$ HI Hl C3 HO P3
  iintro HO P3 A3
  iapply (wait_ks10 m K 4 (by decide) rfl rfl _ (by decide)) $$ HI Hl C4 HO P4
  iintro HO P4 A4
  iapply (wait_ks10 m K 5 (by decide) rfl rfl _ (by decide)) $$ HI Hl C5 HO P5
  iintro HO P5 A5
  iapply (wait_ks10 m K 6 (by decide) rfl rfl _ (by decide)) $$ HI Hl C6 HO P6
  iintro HO P6 A6
  iapply (wait_ks10 m K 7 (by decide) rfl rfl _ (by decide)) $$ HI Hl C7 HO P7
  iintro HO P7 A7
  iapply (wait_ks11 m K 0 (by decide) rfl rfl _ (by decide)) $$ HI Hl D0 HO Q0
  iintro HO Q0 B0
  iapply (wait_ks11 m K 2 (by decide) rfl rfl _ (by decide)) $$ HI Hl D2 HO Q2
  iintro HO Q2 B2
  iapply (wait_ks11 m K 3 (by decide) rfl rfl _ (by decide)) $$ HI Hl D3 HO Q3
  iintro HO Q3 B3
  iapply (wait_ks11 m K 4 (by decide) rfl rfl _ (by decide)) $$ HI Hl D4 HO Q4
  iintro HO Q4 B4
  iapply (wait_ks11 m K 5 (by decide) rfl rfl _ (by decide)) $$ HI Hl D5 HO Q5
  iintro HO Q5 B5
  iapply (wait_ks11 m K 6 (by decide) rfl rfl _ (by decide)) $$ HI Hl D6 HO Q6
  iintro HO Q6 B6
  iapply (wait_ks11 m K 7 (by decide) rfl rfl _ (by decide)) $$ HI Hl D7 HO Q7
  iintro HO Q7 B7
  iapply (wait_kr01 m K 1 (by decide) rfl rfl _ (by decide)) $$ HI Hl CR HO PR
  iintro HO PR HV0
  ihave HV0 := (rows_V 1 (VB m 1)).2 $$ [HV0 HV]
  · isplitl [HV0]; · iexact HV0
    iexact HV
  iapply (load_step (a := bV) 1) $$ HV0
  iintro HV0
  iapply (load_step (a := bV) 1) $$ HV0
  iintro HV0
  iapply (load_step (a := bV) 1) $$ HV0
  iintro HV0
  iapply (load_step (a := bV) 1) $$ HV0
  iintro HV0
  iapply (load_step (a := bV) 1) $$ HV0
  iintro HV0
  iapply (load_step (a := bV) 1) $$ HV0
  iintro HV0
  rw [wp_ret]
  iapply fupd_intro
  change Entails' _ (Q ⟨k0_pay36 (p00 m 1) (vH m 1 0 0), k0_pay37 (p01 m 1) (vH m 1 0 1), k0_pay38 (p02 m 1) (vH m 1 0 2), k0_pay39 (p03 m 1) (vH m 1 0 3), k0_pay40 (p04 m 1) (vH m 1 0 4), k0_pay41 (vH m 1 0 5), constant S512x64 .f32 0x00000000#32⟩)
  iapply Hk $$ HO [P0 P2 P3 P4 P5 P6 P7] [Q0 Q2 Q3 Q4 Q5 Q6 Q7] [A0 A2 A3 A4 A5 A6 A7] [B0 B2 B3 B4 B5 B6 B7] PR HV0
  · isplitl [P0]; · iexact P0
    isplitl [P2]; · iexact P2
    isplitl [P3]; · iexact P3
    isplitl [P4]; · iexact P4
    isplitl [P5]; · iexact P5
    isplitl [P6]; · iexact P6
    iexact P7
  · isplitl [Q0]; · iexact Q0
    isplitl [Q2]; · iexact Q2
    isplitl [Q3]; · iexact Q3
    isplitl [Q4]; · iexact Q4
    isplitl [Q5]; · iexact Q5
    isplitl [Q6]; · iexact Q6
    iexact Q7
  · isplitl [A0]; · iexact A0
    isplitl [A2]; · iexact A2
    isplitl [A3]; · iexact A3
    isplitl [A4]; · iexact A4
    isplitl [A5]; · iexact A5
    isplitl [A6]; · iexact A6
    iexact A7
  · isplitl [B0]; · iexact B0
    isplitl [B2]; · iexact B2
    isplitl [B3]; · iexact B3
    isplitl [B4]; · iexact B4
    isplitl [B5]; · iexact B5
    isplitl [B6]; · iexact B6
    iexact B7

end Cert.KernelIdeal.Proto
-- ==== Proof.KernelIdeal.Others.lean ====
module
public import proofs.«01_k».proof.Proof.KernelIdeal.Access
@[expose] public section

/-!
# The other devices

The parts of the body that depend on the device's place, on a device that only receives keys and values; and the one
that devices 1 to 7 share.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem c1_n {c : Dev nD} (h0 : c ≠ 0) : ¬ k0_cond1 c = 1#1 := fun h => h0 ((cond1_iff c).mp h)
theorem c2_n {c : Dev nD} (h1 : c ≠ 1) : ¬ k0_cond2 c = 1#1 := fun h => h1 ((cond2_iff c).mp h)
theorem c3_n {c : Dev nD} (h0 : c ≠ 0) : ¬ k0_cond3 c = 1#1 := fun h => h0 ((cond3_iff c).mp h)
theorem ne0_n {c : Dev nD} (h0 : c ≠ 0) : ne0 c = 1#1 := (ne0_iff c).mpr h0
theorem ne1_n {c : Dev nD} (h1 : c ≠ 1) : ne1 c = 1#1 := (ne1_iff c).mpr h1
theorem eq0_n {c : Dev nD} (h0 : c ≠ 0) : ¬ eq0 c = 1#1 := fun h => h0 ((eq0_iff c).mp h)
theorem eq1_n {c : Dev nD} (h1 : c ≠ 1) : ¬ eq1 c = 1#1 := fun h => h1 ((eq1_iff c).mp h)
theorem dXfer_n {c : Dev nD} (h0 : c ≠ 0) (h1 : c ≠ 1) : dXfer c = dRS c := by unfold dXfer; rw [if_neg h0, if_neg h1]

theorem part19_n (c : Dev nD) (h0 : c ≠ 0) (h1 : c ≠ 1) {Q : _ → sProp 𝕄} :
    recs m K ⊢ iprop(levAts L lv -∗ bars -∗ opened c -∗ ow c ((nx 6 c, none) :: (nx 7 c, none) :: dXfer c) -∗ tok c (nx 6 c, none) -∗ tok c (nx 7 c, none)
      -∗ barPay c (nx 6 c) -∗ barPay c (nx 7 c) -∗ cred (tallyAt (kcell (c, none)) () 7) -∗ atPos ER (kcell (c, none)) 0 ∅ 0
      -∗ part aX c (xC m c) -∗ part aQ c (qC m c)
      -∗ (ow c (dRS c) -∗ atPos ER (kcell (c, none)) 1 ∅ 0 -∗ ops -∗ peers c
        -∗ part aX c (xC m c) -∗ part aQ c (qC m c)
        -∗ Q ⟨k0_pay4 (F := F), q0 m c, x1 m c⟩)
      -∗ wp frame (wpE (defs₀ (F := F)) 𝒱₀ (c : Dev nD) none) Set.univ (k0_part19 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c (wd c) (SemArray.scalar (sig.barrier 0 rfl)) (Scalar.addi (wd c) 6#32) 8#32) Q) := by
  simp only [k0_part19_eq_skeleton]; unfold k0_part19_skel
  simp only [Prog.lift, Prog.bind_op, Prog.bind_ret, Prog.pure_eq_ret, semSignalWord, semWaitWord, dif_neg (c1_n h0), dif_neg (c2_n h1)]
  iintro #HI #Hl #HB #Ho HO T6 T7 P6 P7 Hc Ha HX HQ Hk
  iapply (barrier_phase m K c (dev6_eq c) (dev7_eq c) rfl rfl rfl rfl rfl rfl) $$ HI Hl HB Ho HO T6 T7 P6 P7 Hc Ha
  iintro HO Ha #Hop - Hpe
  ihave HO := (Entails.of_eq (congrArg (ow c) (dXfer_n h0 h1))) $$ HO
  iapply (load_step (a := aX) c) $$ HX
  iintro HX
  iapply (load_step (a := aQ) c) $$ HQ
  iintro HQ
  iapply (load_step (a := aX) c) $$ HX
  iintro HX
  rw [wp_ret]
  iapply fupd_intro
  change Entails' _ (Q ⟨k0_pay4 (F := F), q0 m c, x1 m c⟩)
  iapply Hk $$ HO Ha Hop Hpe HX HQ

theorem part20_n (c : Dev nD) (h0 : c ≠ 0) (h1 : c ≠ 1) {Q : _ → sProp 𝕄} :
    recs m K ⊢ iprop(levAts L lv -∗ ow c (dRS c) -∗ crd c (.kr 0 0) -∗ pos c (.kr 0 0) 0 -∗ crd c (.kr 1 0) -∗ pos c (.kr 1 0) 0 -∗ part aQ c (qC m c)
      -∗ (ow c (dRS c) -∗ pos c (.kr 0 0) 1 -∗ pos c (.kr 1 0) 1 -∗ part bK c (KB m c) -∗ part aQ c (qC m c)
        -∗ Q ⟨q1 m c, p00 m c, k0_pay9 (q0 m c) (kH m c 0 1), k0_pay10 (F := F)⟩)
      -∗ wp frame (wpE (defs₀ (F := F)) 𝒱₀ (c : Dev nD) none) Set.univ (k0_part20 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c (wd c) (k0_pay4 (F := F)) (q0 m c) (x1 m c)) Q) := by
  simp only [k0_part20_eq_skeleton]; unfold k0_part20_skel
  simp only [Prog.lift, Prog.bind_op, Prog.bind_ret, Prog.pure_eq_ret, dif_neg (c3_n h0), dif_pos (ne0_n h0), dif_pos (ne1_n h1)]
  iintro #HI #Hl HO C0 P0 C1 P1 HQ Hk
  iapply (load_step (a := aQ) c) $$ HQ
  iintro HQ
  iapply (wait_kr00 m K c h0 rfl rfl _ rfl) $$ HI Hl C0 HO P0
  iintro HO P0 HK0
  iapply (wait_kr10 m K c h1 rfl rfl _ rfl) $$ HI Hl C1 HO P1
  iintro HO P1 HK1
  ihave HK0 := (rows_K c (KB m c)).2 $$ [HK0 HK1]
  · isplitl [HK0]; · iexact HK0
    iexact HK1
  iapply (load_step (a := bK) c) $$ HK0
  iintro HK0
  iapply (load_step (a := bK) c) $$ HK0
  iintro HK0
  rw [wp_ret]
  iapply fupd_intro
  change Entails' _ (Q ⟨q1 m c, p00 m c, k0_pay9 (q0 m c) (kH m c 0 1), k0_pay10 (F := F)⟩)
  iapply Hk $$ HO P0 P1 HK0 HQ

theorem part26_n (c : Dev nD) (h0 : c ≠ 0) {Q : _ → sProp 𝕄} :
    part bK c (KB m c) ⊢ iprop((part bK c (KB m c) -∗ Q ⟨p15 m c, p16 m c, p17 m c, Scalar.extui (Scalar.cmpi .eq (wd c) 1#32), 0#32⟩)
      -∗ wp frame (wpE (defs₀ (F := F)) 𝒱₀ (c : Dev nD) none) Set.univ (k0_part26 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd c) (k0_pay4 (F := F)) (q1 m c) (k0_pay31 (k0_pay4 (F := F)) (q1 m c) (kH m c 1 5)) (k0_pay32 (k0_pay4 (F := F)) (q1 m c) (kH m c 1 5))) Q) := by
  simp only [k0_part26_eq_skeleton]; unfold k0_part26_skel
  simp only [Prog.lift, Prog.bind_op, Prog.bind_ret, Prog.pure_eq_ret, dif_neg (eq0_n h0)]
  iintro HK Hk
  iapply (load_step (a := bK) c) $$ HK
  iintro HK
  iapply (load_step (a := bK) c) $$ HK
  iintro HK
  rw [wp_ret]
  iapply fupd_intro
  change Entails' _ (Q ⟨p15 m c, p16 m c, p17 m c, Scalar.extui (Scalar.cmpi .eq (wd c) 1#32), 0#32⟩)
  iapply Hk $$ HK

theorem part27_n (c : Dev nD) (h0 : c ≠ 0) (h1 : c ≠ 1) {Q : _ → sProp 𝕄} :
    recs m K ⊢ iprop(levAts L lv -∗ ow c (dRS c) -∗ crd c (.kr 0 1) -∗ pos c (.kr 0 1) 0 -∗ crd c (.kr 1 1) -∗ pos c (.kr 1 1) 0
      -∗ (ow c (dRS c) -∗ pos c (.kr 0 1) 1 -∗ pos c (.kr 1 1) 1 -∗ part bV c (VB m c)
        -∗ Q ⟨k0_pay36 (p00 m c) (vH m c 0 0), k0_pay37 (p01 m c) (vH m c 0 1), k0_pay38 (p02 m c) (vH m c 0 2), k0_pay39 (p03 m c) (vH m c 0 3), k0_pay40 (p04 m c) (vH m c 0 4), k0_pay41 (vH m c 0 5), constant S512x64 .f32 0x00000000#32⟩)
      -∗ wp frame (wpE (defs₀ (F := F)) 𝒱₀ (c : Dev nD) none) Set.univ (k0_part27 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd c) (p00 m c) (p01 m c) (p02 m c) (p03 m c) (p04 m c) (Scalar.extui (Scalar.cmpi .eq (wd c) 1#32)) 0#32) Q) := by
  simp only [k0_part27_eq_skeleton]; unfold k0_part27_skel
  simp only [Prog.lift, Prog.bind_op, Prog.bind_ret, Prog.pure_eq_ret, dif_neg (eq1_n h1), dif_pos (ne0_n h0), dif_pos (ne1_n h1)]
  iintro #HI #Hl HO C0 P0 C1 P1 Hk
  iapply (wait_kr01 m K c h0 rfl rfl _ rfl) $$ HI Hl C0 HO P0
  iintro HO P0 HV0
  iapply (wait_kr11 m K c h1 rfl rfl _ rfl) $$ HI Hl C1 HO P1
  iintro HO P1 HV1
  ihave HV0 := (rows_V c (VB m c)).2 $$ [HV0 HV1]
  · isplitl [HV0]; · iexact HV0
    iexact HV1
  iapply (load_step (a := bV) c) $$ HV0
  iintro HV0
  iapply (load_step (a := bV) c) $$ HV0
  iintro HV0
  iapply (load_step (a := bV) c) $$ HV0
  iintro HV0
  iapply (load_step (a := bV) c) $$ HV0
  iintro HV0
  iapply (load_step (a := bV) c) $$ HV0
  iintro HV0
  iapply (load_step (a := bV) c) $$ HV0
  iintro HV0
  rw [wp_ret]
  iapply fupd_intro
  change Entails' _ (Q ⟨k0_pay36 (p00 m c) (vH m c 0 0), k0_pay37 (p01 m c) (vH m c 0 1), k0_pay38 (p02 m c) (vH m c 0 2), k0_pay39 (p03 m c) (vH m c 0 3), k0_pay40 (p04 m c) (vH m c 0 4), k0_pay41 (vH m c 0 5), constant S512x64 .f32 0x00000000#32⟩)
  iapply Hk $$ HO P0 P1 HV0

end Cert.KernelIdeal.Proto
-- ==== Proof.KernelIdeal.States.lean ====
module
public import proofs.«01_k».proof.Proof.KernelIdeal.Device0
public import proofs.«01_k».proof.Proof.KernelIdeal.Device1
public import proofs.«01_k».proof.Proof.KernelIdeal.Others
@[expose] public section

/-!
# The four parts in which the devices differ

Devices 0 and 1 send their columns to the others, and the others wait for them. Here each of the four parts of the body
in which this is done is stated for any device, with what the device holds in between as one assertion.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

/-- What device 0 does not touch. -/
def idle0 : sProp 𝕄 := iprop(pos 0 (.ks 0 0) 0 ∗ pos 0 (.ks 1 0) 0 ∗ pos 0 (.kr 0 0) 0 ∗ pos 0 (.kr 0 1) 0)

/-- What device 1 does not touch. -/
def idle1 : sProp 𝕄 := iprop(pos 1 (.ks 0 1) 0 ∗ pos 1 (.ks 1 1) 0 ∗ pos 1 (.kr 1 0) 0 ∗ pos 1 (.kr 1 1) 0 ∗ (aK.view.loc ((1 : Dev nD) : Thread nD τ) ↦[restK]{fullShare} kC m 1) ∗ (aV.view.loc ((1 : Dev nD) : Thread nD τ) ↦[restV]{fullShare} vC m 1))

/-- What the other devices do not touch. -/
def idlen (c : Dev nD) : sProp 𝕄 :=
  iprop((bigSep Finset.univ fun t => pos c (.ks 0 t) 0) ∗ (bigSep Finset.univ fun t => pos c (.ks 1 t) 0) ∗ part aK c (kC m c) ∗ part aV c (vC m c))
def W0_0 : sProp 𝕄 :=
  iprop(all0 (fun t => pkK0 m t) ∗ all0 (fun t => pkV0 m t) ∗ part (col0 aK 0) 0 (kC m 0) ∗ part (col0 aV 0) 0 (vC m 0) ∗ anyp (row0 bK) 0 ∗ anyp (row0 bV) 0 ∗ all0 (fun t => pos 0 (.ks 0 t) 0) ∗ all0 (fun t => pos 0 (.ks 1 t) 0) ∗ crd 0 (.kr 1 0) ∗ pos 0 (.kr 1 0) 0 ∗ crd 0 (.kr 1 1) ∗ pos 0 (.kr 1 1) 0 ∗ idle0 (F := F))
def W0_1 : sProp 𝕄 :=
  iprop(all1 (fun t => pkK1 m t) ∗ all1 (fun t => pkV1 m t) ∗ part (col1 aK 1) 1 (kC m 1) ∗ part (col1 aV 1) 1 (vC m 1) ∗ anyp (row1 bK) 1 ∗ anyp (row1 bV) 1 ∗ all1 (fun t => pos 1 (.ks 0 t) 0) ∗ all1 (fun t => pos 1 (.ks 1 t) 0) ∗ crd 1 (.kr 0 0) ∗ pos 1 (.kr 0 0) 0 ∗ crd 1 (.kr 0 1) ∗ pos 1 (.kr 0 1) 0 ∗ idle1 m)
def W0_n (c : Dev nD) : sProp 𝕄 :=
  iprop(crd c (.kr 0 0) ∗ crd c (.kr 0 1) ∗ crd c (.kr 1 0) ∗ crd c (.kr 1 1) ∗ pos c (.kr 0 0) 0 ∗ pos c (.kr 0 1) 0 ∗ pos c (.kr 1 0) 0 ∗ pos c (.kr 1 1) 0 ∗ idlen m c)
/-- What a device holds of the columns and their cells, before the handshake. -/
def W0 (c : Dev nD) : sProp 𝕄 := if c = 0 then W0_0 m else if c = 1 then W0_1 m else W0_n m c
theorem W0_z : W0 m 0 = W0_0 m := if_pos rfl
theorem W0_o : W0 m 1 = W0_1 m := (if_neg (by decide)).trans (if_pos rfl)
theorem W0_r {c : Dev nD} (h0 : c ≠ 0) (h1 : c ≠ 1) : W0 m c = W0_n m c := (if_neg h0).trans (if_neg h1)
def W1_0 : sProp 𝕄 :=
  iprop(all0 (fun t => pkV0 m t) ∗ part (col0 aK 0) 0 (kC m 0) ∗ part (col0 aV 0) 0 (vC m 0) ∗ part (row0 bK) 0 (KB m 0) ∗ anyp (row0 bV) 0 ∗ all0 (fun t => pos 0 (.ks 0 t) 0) ∗ all0 (fun t => pos 0 (.ks 1 t) 0) ∗ crd 0 (.kr 1 0) ∗ pos 0 (.kr 1 0) 0 ∗ crd 0 (.kr 1 1) ∗ pos 0 (.kr 1 1) 0 ∗ all0 (fun t => anyp (row0 bV) t) ∗ all0 (fun t => crd 0 (.ks 0 t)) ∗ idle0 (F := F))
def W1_1 : sProp 𝕄 :=
  iprop(part (col1 aK 1) 1 (kC m 1) ∗ part (col1 aV 1) 1 (vC m 1) ∗ part (row1 bK) 1 (KB m 1) ∗ part (row1 bV) 1 (VB m 1) ∗ all1 (fun t => crd 1 (.ks 0 t)) ∗ all1 (fun t => crd 1 (.ks 1 t)) ∗ all1 (fun t => pos 1 (.ks 0 t) 0) ∗ all1 (fun t => pos 1 (.ks 1 t) 0) ∗ crd 1 (.kr 0 0) ∗ pos 1 (.kr 0 0) 0 ∗ crd 1 (.kr 0 1) ∗ pos 1 (.kr 0 1) 0 ∗ idle1 m)
def W1_n (c : Dev nD) : sProp 𝕄 :=
  iprop(crd c (.kr 0 0) ∗ crd c (.kr 0 1) ∗ crd c (.kr 1 0) ∗ crd c (.kr 1 1) ∗ pos c (.kr 0 0) 0 ∗ pos c (.kr 0 1) 0 ∗ pos c (.kr 1 0) 0 ∗ pos c (.kr 1 1) 0 ∗ idlen m c)
/-- What a device holds of the columns and their cells, after it. -/
def W1 (c : Dev nD) : sProp 𝕄 := if c = 0 then W1_0 m else if c = 1 then W1_1 m else W1_n m c
theorem W1_z : W1 m 0 = W1_0 m := if_pos rfl
theorem W1_o : W1 m 1 = W1_1 m := (if_neg (by decide)).trans (if_pos rfl)
theorem W1_r {c : Dev nD} (h0 : c ≠ 0) (h1 : c ≠ 1) : W1 m c = W1_n m c := (if_neg h0).trans (if_neg h1)
def W2_0 : sProp 𝕄 :=
  iprop(part (col0 aK 0) 0 (kC m 0) ∗ part (col0 aV 0) 0 (vC m 0) ∗ part (row0 bV) 0 (VB m 0) ∗ all0 (fun t => part (col0 aK t) 0 (kC m 0)) ∗ all0 (fun t => crd 0 (.ks 1 t)) ∗ all0 (fun t => pos 0 (.ks 0 t) 1) ∗ all0 (fun t => pos 0 (.ks 1 t) 0) ∗ pos 0 (.kr 1 0) 1 ∗ crd 0 (.kr 1 1) ∗ pos 0 (.kr 1 1) 0 ∗ idle0 (F := F))
def W2_1 : sProp 𝕄 :=
  iprop(part (col1 aK 1) 1 (kC m 1) ∗ part (col1 aV 1) 1 (vC m 1) ∗ part (row1 bV) 1 (VB m 1) ∗ all1 (fun t => crd 1 (.ks 0 t)) ∗ all1 (fun t => crd 1 (.ks 1 t)) ∗ all1 (fun t => pos 1 (.ks 0 t) 0) ∗ all1 (fun t => pos 1 (.ks 1 t) 0) ∗ pos 1 (.kr 0 0) 1 ∗ crd 1 (.kr 0 1) ∗ pos 1 (.kr 0 1) 0 ∗ idle1 m)
def W2_n (c : Dev nD) : sProp 𝕄 :=
  iprop(crd c (.kr 0 1) ∗ crd c (.kr 1 1) ∗ pos c (.kr 0 0) 1 ∗ pos c (.kr 0 1) 0 ∗ pos c (.kr 1 0) 1 ∗ pos c (.kr 1 1) 0 ∗ idlen m c)
/-- What a device holds of the columns and their cells, once the keys are in. -/
def W2 (c : Dev nD) : sProp 𝕄 := if c = 0 then W2_0 m else if c = 1 then W2_1 m else W2_n m c
theorem W2_z : W2 m 0 = W2_0 m := if_pos rfl
theorem W2_o : W2 m 1 = W2_1 m := (if_neg (by decide)).trans (if_pos rfl)
theorem W2_r {c : Dev nD} (h0 : c ≠ 0) (h1 : c ≠ 1) : W2 m c = W2_n m c := (if_neg h0).trans (if_neg h1)
def W3_0 : sProp 𝕄 :=
  iprop(part (col0 aK 0) 0 (kC m 0) ∗ part (col0 aV 0) 0 (vC m 0) ∗ part (row0 bV) 0 (VB m 0) ∗ all0 (fun t => part (col0 aK t) 0 (kC m 0)) ∗ all0 (fun t => part (col0 aV t) 0 (vC m 0)) ∗ all0 (fun t => pos 0 (.ks 0 t) 1) ∗ all0 (fun t => pos 0 (.ks 1 t) 1) ∗ pos 0 (.kr 1 0) 1 ∗ crd 0 (.kr 1 1) ∗ pos 0 (.kr 1 1) 0 ∗ idle0 (F := F))
def W3_1 : sProp 𝕄 :=
  iprop(part (col1 aK 1) 1 (kC m 1) ∗ part (col1 aV 1) 1 (vC m 1) ∗ part (row1 bV) 1 (VB m 1) ∗ all1 (fun t => crd 1 (.ks 0 t)) ∗ all1 (fun t => crd 1 (.ks 1 t)) ∗ all1 (fun t => pos 1 (.ks 0 t) 0) ∗ all1 (fun t => pos 1 (.ks 1 t) 0) ∗ pos 1 (.kr 0 0) 1 ∗ crd 1 (.kr 0 1) ∗ pos 1 (.kr 0 1) 0 ∗ idle1 m)
def W3_n (c : Dev nD) : sProp 𝕄 :=
  iprop(crd c (.kr 0 1) ∗ crd c (.kr 1 1) ∗ pos c (.kr 0 0) 1 ∗ pos c (.kr 0 1) 0 ∗ pos c (.kr 1 0) 1 ∗ pos c (.kr 1 1) 0 ∗ idlen m c)
/-- What a device holds of the columns and their cells, before the values are in. -/
def W3 (c : Dev nD) : sProp 𝕄 := if c = 0 then W3_0 m else if c = 1 then W3_1 m else W3_n m c
theorem W3_z : W3 m 0 = W3_0 m := if_pos rfl
theorem W3_o : W3 m 1 = W3_1 m := (if_neg (by decide)).trans (if_pos rfl)
theorem W3_r {c : Dev nD} (h0 : c ≠ 0) (h1 : c ≠ 1) : W3 m c = W3_n m c := (if_neg h0).trans (if_neg h1)
def W4_0 : sProp 𝕄 :=
  iprop(part (col0 aK 0) 0 (kC m 0) ∗ part (col0 aV 0) 0 (vC m 0) ∗ all0 (fun t => part (col0 aK t) 0 (kC m 0)) ∗ all0 (fun t => part (col0 aV t) 0 (vC m 0)) ∗ all0 (fun t => pos 0 (.ks 0 t) 1) ∗ all0 (fun t => pos 0 (.ks 1 t) 1) ∗ pos 0 (.kr 1 0) 1 ∗ pos 0 (.kr 1 1) 1 ∗ idle0 (F := F))
def W4_1 : sProp 𝕄 :=
  iprop(part (col1 aK 1) 1 (kC m 1) ∗ part (col1 aV 1) 1 (vC m 1) ∗ all1 (fun t => part (col1 aK t) 1 (kC m 1)) ∗ all1 (fun t => part (col1 aV t) 1 (vC m 1)) ∗ all1 (fun t => pos 1 (.ks 0 t) 1) ∗ all1 (fun t => pos 1 (.ks 1 t) 1) ∗ pos 1 (.kr 0 0) 1 ∗ pos 1 (.kr 0 1) 1 ∗ idle1 m)
def W4_n (c : Dev nD) : sProp 𝕄 :=
  iprop(pos c (.kr 0 0) 1 ∗ pos c (.kr 0 1) 1 ∗ pos c (.kr 1 0) 1 ∗ pos c (.kr 1 1) 1 ∗ idlen m c)
/-- What a device holds of the columns and their cells, once they are. -/
def W4 (c : Dev nD) : sProp 𝕄 := if c = 0 then W4_0 m else if c = 1 then W4_1 m else W4_n m c
theorem W4_z : W4 m 0 = W4_0 m := if_pos rfl
theorem W4_o : W4 m 1 = W4_1 m := (if_neg (by decide)).trans (if_pos rfl)
theorem W4_r {c : Dev nD} (h0 : c ≠ 0) (h1 : c ≠ 1) : W4 m c = W4_n m c := (if_neg h0).trans (if_neg h1)

/-- What a device still owes after part 19. -/
def o19 (c : Dev nD) : List (Dev nD × Option Own) := if c = 0 then dV0 else dRS c
theorem o19_z : o19 0 = dV0 := if_pos rfl
theorem o19_r {c : Dev nD} (h0 : c ≠ 0) : o19 c = dRS c := if_neg h0

theorem part19 (c : Dev nD) {Q : _ → sProp 𝕄} :
    recs m K ⊢ iprop(levAts L lv -∗ bars -∗ opened c -∗ ow c ((nx 6 c, none) :: (nx 7 c, none) :: dXfer c) -∗ tok c (nx 6 c, none) -∗ tok c (nx 7 c, none)
      -∗ barPay c (nx 6 c) -∗ barPay c (nx 7 c) -∗ cred (tallyAt (kcell (c, none)) () 7) -∗ atPos ER (kcell (c, none)) 0 ∅ 0 -∗ W0 m c -∗ part aX c (xC m c) -∗ part aQ c (qC m c)
      -∗ (ow c (o19 c) -∗ atPos ER (kcell (c, none)) 1 ∅ 0 -∗ ops -∗ peers c -∗ W1 m c -∗ part aX c (xC m c) -∗ part aQ c (qC m c) -∗ Q ⟨k0_pay4 (F := F), q0 m c, x1 m c⟩)
      -∗ wp frame (wpE (defs₀ (F := F)) 𝒱₀ (c : Dev nD) none) Set.univ (k0_part19 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c (wd c) (SemArray.scalar (sig.barrier 0 rfl)) (Scalar.addi (wd c) 6#32) 8#32) Q) := by
  by_cases h0 : c = 0
  · subst h0
    rw [W0_z, W1_z, o19_z]
    unfold W0_0 W1_0
    iintro #HI #Hl #HB #Ho HO T6 T7 P6 P7 Hc Ha HW HX HQ Hk
    icases HW with ⟨pkK, pkV, ownK, ownV, anyK, anyV, psK0, psV0, crK, prK0, crV, prV0, idle⟩
    iapply (part19_0 m K) $$ HI Hl HB Ho HO T6 T7 P6 P7 Hc Ha pkK ownK anyK HX HQ
    iintro HO Ha #Hop Hpe peerV csK ownK rowK HX HQ
    iapply Hk $$ HO Ha Hop Hpe [pkV ownK ownV rowK anyV psK0 psV0 crK prK0 crV prV0 peerV csK idle] HX HQ
    isplitl [pkV]; · iexact pkV
    isplitl [ownK]; · iexact ownK
    isplitl [ownV]; · iexact ownV
    isplitl [rowK]; · iexact rowK
    isplitl [anyV]; · iexact anyV
    isplitl [psK0]; · iexact psK0
    isplitl [psV0]; · iexact psV0
    isplitl [crK]; · iexact crK
    isplitl [prK0]; · iexact prK0
    isplitl [crV]; · iexact crV
    isplitl [prV0]; · iexact prV0
    isplitl [peerV]; · iexact peerV
    isplitl [csK]; · iexact csK
    iexact idle
  by_cases h1 : c = 1
  · subst h1
    rw [W0_o, W1_o, o19_r h0]
    unfold W0_1 W1_1
    iintro #HI #Hl #HB #Ho HO T6 T7 P6 P7 Hc Ha HW HX HQ Hk
    icases HW with ⟨pkK, pkV, ownK, ownV, anyK, anyV, psK0, psV0, crK, prK0, crV, prV0, idle⟩
    iapply (part19_1 m K) $$ HI Hl HB Ho HO T6 T7 P6 P7 Hc Ha pkK pkV ownK ownV anyK anyV HX HQ
    iintro HO Ha #Hop Hpe csK csV ownK ownV rowK rowV HX HQ
    iapply Hk $$ HO Ha Hop Hpe [ownK ownV rowK rowV csK csV psK0 psV0 crK prK0 crV prV0 idle] HX HQ
    isplitl [ownK]; · iexact ownK
    isplitl [ownV]; · iexact ownV
    isplitl [rowK]; · iexact rowK
    isplitl [rowV]; · iexact rowV
    isplitl [csK]; · iexact csK
    isplitl [csV]; · iexact csV
    isplitl [psK0]; · iexact psK0
    isplitl [psV0]; · iexact psV0
    isplitl [crK]; · iexact crK
    isplitl [prK0]; · iexact prK0
    isplitl [crV]; · iexact crV
    isplitl [prV0]; · iexact prV0
    iexact idle
  rw [W0_r m h0 h1, W1_r m h0 h1, o19_r h0]
  unfold W0_n W1_n
  iintro #HI #Hl #HB #Ho HO T6 T7 P6 P7 Hc Ha HW HX HQ Hk
  icases HW with ⟨cr00, cr01, cr10, cr11, p000, p010, p100, p110, idle⟩
  iapply (part19_n m K c h0 h1) $$ HI Hl HB Ho HO T6 T7 P6 P7 Hc Ha HX HQ
  iintro HO Ha #Hop Hpe HX HQ
  iapply Hk $$ HO Ha Hop Hpe [cr00 cr01 cr10 cr11 p000 p010 p100 p110 idle] HX HQ
  isplitl [cr00]; · iexact cr00
  isplitl [cr01]; · iexact cr01
  isplitl [cr10]; · iexact cr10
  isplitl [cr11]; · iexact cr11
  isplitl [p000]; · iexact p000
  isplitl [p010]; · iexact p010
  isplitl [p100]; · iexact p100
  isplitl [p110]; · iexact p110
  iexact idle

theorem part20 (c : Dev nD) {Q : _ → sProp 𝕄} :
    recs m K ⊢ iprop(levAts L lv -∗ ops -∗ ow c (o19 c) -∗ W1 m c -∗ part aQ c (qC m c)
      -∗ (ow c (dRS c) -∗ W2 m c -∗ part bK c (KB m c) -∗ part aQ c (qC m c) -∗ Q ⟨q1 m c, p00 m c, k0_pay9 (q0 m c) (kH m c 0 1), k0_pay10 (F := F)⟩)
      -∗ wp frame (wpE (defs₀ (F := F)) 𝒱₀ (c : Dev nD) none) Set.univ (k0_part20 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c (wd c) (k0_pay4 (F := F)) (q0 m c) (x1 m c)) Q) := by
  by_cases h0 : c = 0
  · subst h0
    rw [W1_z, W2_z, o19_z]
    unfold W1_0 W2_0
    iintro #HI #Hl #Hop HO HW HQ Hk
    icases HW with ⟨pkV, ownK, ownV, rowK, anyV, psK0, psV0, crK, prK0, crV, prV0, peerV, csK, idle⟩
    iapply (part20_0 m K) $$ HI Hl Hop HO csK psK0 pkV peerV ownV anyV crK prK0 rowK HQ
    iintro HO psK1 colsK csV ownV rowV prK1 HK HQ
    iapply Hk $$ HO [ownK ownV rowV colsK csV psK1 psV0 prK1 crV prV0 idle] HK HQ
    isplitl [ownK]; · iexact ownK
    isplitl [ownV]; · iexact ownV
    isplitl [rowV]; · iexact rowV
    isplitl [colsK]; · iexact colsK
    isplitl [csV]; · iexact csV
    isplitl [psK1]; · iexact psK1
    isplitl [psV0]; · iexact psV0
    isplitl [prK1]; · iexact prK1
    isplitl [crV]; · iexact crV
    isplitl [prV0]; · iexact prV0
    iexact idle
  by_cases h1 : c = 1
  · subst h1
    rw [W1_o, W2_o, o19_r h0]
    unfold W1_1 W2_1
    iintro #HI #Hl #Hop HO HW HQ Hk
    icases HW with ⟨ownK, ownV, rowK, rowV, csK, csV, psK0, psV0, crK, prK0, crV, prV0, idle⟩
    iapply (part20_1 m K) $$ HI Hl HO crK prK0 rowK HQ
    iintro HO prK1 HK HQ
    iapply Hk $$ HO [ownK ownV rowV csK csV psK0 psV0 prK1 crV prV0 idle] HK HQ
    isplitl [ownK]; · iexact ownK
    isplitl [ownV]; · iexact ownV
    isplitl [rowV]; · iexact rowV
    isplitl [csK]; · iexact csK
    isplitl [csV]; · iexact csV
    isplitl [psK0]; · iexact psK0
    isplitl [psV0]; · iexact psV0
    isplitl [prK1]; · iexact prK1
    isplitl [crV]; · iexact crV
    isplitl [prV0]; · iexact prV0
    iexact idle
  rw [W1_r m h0 h1, W2_r m h0 h1, o19_r h0]
  unfold W1_n W2_n
  iintro #HI #Hl #Hop HO HW HQ Hk
  icases HW with ⟨cr00, cr01, cr10, cr11, p000, p010, p100, p110, idle⟩
  iapply (part20_n m K c h0 h1) $$ HI Hl HO cr00 p000 cr10 p100 HQ
  iintro HO p001 p101 HK HQ
  iapply Hk $$ HO [cr01 cr11 p001 p010 p101 p110 idle] HK HQ
  isplitl [cr01]; · iexact cr01
  isplitl [cr11]; · iexact cr11
  isplitl [p001]; · iexact p001
  isplitl [p010]; · iexact p010
  isplitl [p101]; · iexact p101
  isplitl [p110]; · iexact p110
  iexact idle

theorem part26 (c : Dev nD) {Q : _ → sProp 𝕄} :
    recs m K ⊢ iprop(levAts L lv -∗ ow c (dRS c) -∗ W2 m c -∗ part bK c (KB m c)
      -∗ (ow c (dRS c) -∗ W3 m c -∗ part bK c (KB m c) -∗ Q ⟨p15 m c, p16 m c, p17 m c, Scalar.extui (Scalar.cmpi .eq (wd c) 1#32), 0#32⟩)
      -∗ wp frame (wpE (defs₀ (F := F)) 𝒱₀ (c : Dev nD) none) Set.univ (k0_part26 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd c) (k0_pay4 (F := F)) (q1 m c) (k0_pay31 (k0_pay4 (F := F)) (q1 m c) (kH m c 1 5)) (k0_pay32 (k0_pay4 (F := F)) (q1 m c) (kH m c 1 5))) Q) := by
  by_cases h0 : c = 0
  · subst h0
    rw [W2_z, W3_z]
    unfold W2_0 W3_0
    iintro #HI #Hl HO HW HK Hk
    icases HW with ⟨ownK, ownV, rowV, colsK, csV, psK1, psV0, prK1, crV, prV0, idle⟩
    iapply (part26_0 m K) $$ HI Hl HO csV psV0 HK
    iintro HO psV1 colsV HK
    iapply Hk $$ HO [ownK ownV rowV colsK colsV psK1 psV1 prK1 crV prV0 idle] HK
    isplitl [ownK]; · iexact ownK
    isplitl [ownV]; · iexact ownV
    isplitl [rowV]; · iexact rowV
    isplitl [colsK]; · iexact colsK
    isplitl [colsV]; · iexact colsV
    isplitl [psK1]; · iexact psK1
    isplitl [psV1]; · iexact psV1
    isplitl [prK1]; · iexact prK1
    isplitl [crV]; · iexact crV
    isplitl [prV0]; · iexact prV0
    iexact idle
  by_cases h1 : c = 1
  · subst h1
    rw [W2_o, W3_o]
    unfold W2_1 W3_1
    iintro #HI #Hl HO HW HK Hk
    icases HW with ⟨ownK, ownV, rowV, csK, csV, psK0, psV0, prK1, crV, prV0, idle⟩
    iapply (part26_n m 1 h0) $$ HK
    iintro HK
    iapply Hk $$ HO [ownK ownV rowV csK csV psK0 psV0 prK1 crV prV0 idle] HK
    isplitl [ownK]; · iexact ownK
    isplitl [ownV]; · iexact ownV
    isplitl [rowV]; · iexact rowV
    isplitl [csK]; · iexact csK
    isplitl [csV]; · iexact csV
    isplitl [psK0]; · iexact psK0
    isplitl [psV0]; · iexact psV0
    isplitl [prK1]; · iexact prK1
    isplitl [crV]; · iexact crV
    isplitl [prV0]; · iexact prV0
    iexact idle
  rw [W2_r m h0 h1, W3_r m h0 h1]
  unfold W2_n W3_n
  iintro #HI #Hl HO HW HK Hk
  icases HW with ⟨cr01, cr11, p001, p010, p101, p110, idle⟩
  iapply (part26_n m c h0) $$ HK
  iintro HK
  iapply Hk $$ HO [cr01 cr11 p001 p010 p101 p110 idle] HK
  isplitl [cr01]; · iexact cr01
  isplitl [cr11]; · iexact cr11
  isplitl [p001]; · iexact p001
  isplitl [p010]; · iexact p010
  isplitl [p101]; · iexact p101
  isplitl [p110]; · iexact p110
  iexact idle

theorem part27 (c : Dev nD) {Q : _ → sProp 𝕄} :
    recs m K ⊢ iprop(levAts L lv -∗ ow c (dRS c) -∗ W3 m c
      -∗ (ow c (dRS c) -∗ W4 m c -∗ part bV c (VB m c) -∗ Q ⟨k0_pay36 (p00 m c) (vH m c 0 0), k0_pay37 (p01 m c) (vH m c 0 1), k0_pay38 (p02 m c) (vH m c 0 2), k0_pay39 (p03 m c) (vH m c 0 3), k0_pay40 (p04 m c) (vH m c 0 4), k0_pay41 (vH m c 0 5), constant S512x64 .f32 0x00000000#32⟩)
      -∗ wp frame (wpE (defs₀ (F := F)) 𝒱₀ (c : Dev nD) none) Set.univ (k0_part27 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (wd c) (p00 m c) (p01 m c) (p02 m c) (p03 m c) (p04 m c) (Scalar.extui (Scalar.cmpi .eq (wd c) 1#32)) 0#32) Q) := by
  by_cases h0 : c = 0
  · subst h0
    rw [W3_z, W4_z]
    unfold W3_0 W4_0
    iintro #HI #Hl HO HW Hk
    icases HW with ⟨ownK, ownV, rowV, colsK, colsV, psK1, psV1, prK1, crV, prV0, idle⟩
    iapply (part27_0 m K) $$ HI Hl HO crV prV0 rowV
    iintro HO prV1 HV
    iapply Hk $$ HO [ownK ownV colsK colsV psK1 psV1 prK1 prV1 idle] HV
    isplitl [ownK]; · iexact ownK
    isplitl [ownV]; · iexact ownV
    isplitl [colsK]; · iexact colsK
    isplitl [colsV]; · iexact colsV
    isplitl [psK1]; · iexact psK1
    isplitl [psV1]; · iexact psV1
    isplitl [prK1]; · iexact prK1
    isplitl [prV1]; · iexact prV1
    iexact idle
  by_cases h1 : c = 1
  · subst h1
    rw [W3_o, W4_o]
    unfold W3_1 W4_1
    iintro #HI #Hl HO HW Hk
    icases HW with ⟨ownK, ownV, rowV, csK, csV, psK0, psV0, prK1, crV, prV0, idle⟩
    iapply (part27_1 m K) $$ HI Hl HO csK psK0 csV psV0 crV prV0 rowV
    iintro HO psK1 psV1 colsK colsV prV1 HV
    iapply Hk $$ HO [ownK ownV colsK colsV psK1 psV1 prK1 prV1 idle] HV
    isplitl [ownK]; · iexact ownK
    isplitl [ownV]; · iexact ownV
    isplitl [colsK]; · iexact colsK
    isplitl [colsV]; · iexact colsV
    isplitl [psK1]; · iexact psK1
    isplitl [psV1]; · iexact psV1
    isplitl [prK1]; · iexact prK1
    isplitl [prV1]; · iexact prV1
    iexact idle
  rw [W3_r m h0 h1, W4_r m h0 h1]
  unfold W3_n W4_n
  iintro #HI #Hl HO HW Hk
  icases HW with ⟨cr01, cr11, p001, p010, p101, p110, idle⟩
  iapply (part27_n m K c h0 h1) $$ HI Hl HO cr01 p010 cr11 p110
  iintro HO p011 p111 HV
  iapply Hk $$ HO [p001 p011 p101 p111 idle] HV
  isplitl [p001]; · iexact p001
  isplitl [p011]; · iexact p011
  isplitl [p101]; · iexact p101
  isplitl [p111]; · iexact p111
  iexact idle

end Cert.KernelIdeal.Proto
-- ==== Proof.KernelIdeal.Mid.lean ====
module
public import proofs.«01_k».proof.Proof.KernelIdeal.Access
@[expose] public section

/-!
# The partial product

The parts of the body between the arrival of the keys and the exchange: they load the key and the value window, and
store the two batches of the partial product.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem part21 (c : Dev nD) {Q : _ → sProp 𝕄} :
    part bK c (KB m c) ⊢ iprop((part bK c (KB m c) -∗ Q ⟨p01 m c, p02 m c, k0_pay13 (k0_pay4 (F := F)) (q0 m c) (kH m c 0 3), k0_pay14 (k0_pay4 (F := F)) (q0 m c) (kH m c 0 3)⟩)
      -∗ wp frame (wpE (defs₀ (F := F)) 𝒱₀ (c : Dev nD) none) Set.univ (k0_part21 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (k0_pay4 (F := F)) (q0 m c) (k0_pay9 (q0 m c) (kH m c 0 1)) (k0_pay10 (F := F))) Q) := by
  simp only [k0_part21_eq_skeleton]; unfold k0_part21_skel
  simp only [Prog.lift, Prog.bind_op, Prog.bind_ret, Prog.pure_eq_ret]
  iintro HK Hk
  iapply (load_step (a := bK) c) $$ HK
  iintro HK
  iapply (load_step (a := bK) c) $$ HK
  iintro HK
  rw [wp_ret]
  iapply fupd_intro
  change Entails' _ (Q ⟨p01 m c, p02 m c, k0_pay13 (k0_pay4 (F := F)) (q0 m c) (kH m c 0 3), k0_pay14 (k0_pay4 (F := F)) (q0 m c) (kH m c 0 3)⟩)
  iapply Hk $$ HK

theorem part22 (c : Dev nD) {Q : _ → sProp 𝕄} :
    part bK c (KB m c) ⊢ iprop((part bK c (KB m c) -∗ Q ⟨p03 m c, p04 m c, p05 m c, k0_pay18 (q0 m c) (kH m c 0 6), k0_pay19 (F := F)⟩)
      -∗ wp frame (wpE (defs₀ (F := F)) 𝒱₀ (c : Dev nD) none) Set.univ (k0_part22 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (k0_pay4 (F := F)) (q0 m c) (k0_pay13 (k0_pay4 (F := F)) (q0 m c) (kH m c 0 3)) (k0_pay14 (k0_pay4 (F := F)) (q0 m c) (kH m c 0 3))) Q) := by
  simp only [k0_part22_eq_skeleton]; unfold k0_part22_skel
  simp only [Prog.lift, Prog.bind_op, Prog.bind_ret, Prog.pure_eq_ret]
  iintro HK Hk
  iapply (load_step (a := bK) c) $$ HK
  iintro HK
  iapply (load_step (a := bK) c) $$ HK
  iintro HK
  iapply (load_step (a := bK) c) $$ HK
  iintro HK
  rw [wp_ret]
  iapply fupd_intro
  change Entails' _ (Q ⟨p03 m c, p04 m c, p05 m c, k0_pay18 (q0 m c) (kH m c 0 6), k0_pay19 (F := F)⟩)
  iapply Hk $$ HK

theorem part23 (c : Dev nD) {Q : _ → sProp 𝕄} :
    part bK c (KB m c) ⊢ iprop((part bK c (KB m c) -∗ Q ⟨p06 m c, p07 m c, k0_pay22 (k0_pay4 (F := F)) (q1 m c) (kH m c 1 0), k0_pay23 (k0_pay4 (F := F)) (q1 m c) (kH m c 1 0)⟩)
      -∗ wp frame (wpE (defs₀ (F := F)) 𝒱₀ (c : Dev nD) none) Set.univ (k0_part23 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (k0_pay4 (F := F)) (q0 m c) (q1 m c) (k0_pay18 (q0 m c) (kH m c 0 6)) (k0_pay19 (F := F))) Q) := by
  simp only [k0_part23_eq_skeleton]; unfold k0_part23_skel
  simp only [Prog.lift, Prog.bind_op, Prog.bind_ret, Prog.pure_eq_ret]
  iintro HK Hk
  iapply (load_step (a := bK) c) $$ HK
  iintro HK
  iapply (load_step (a := bK) c) $$ HK
  iintro HK
  rw [wp_ret]
  iapply fupd_intro
  change Entails' _ (Q ⟨p06 m c, p07 m c, k0_pay22 (k0_pay4 (F := F)) (q1 m c) (kH m c 1 0), k0_pay23 (k0_pay4 (F := F)) (q1 m c) (kH m c 1 0)⟩)
  iapply Hk $$ HK

theorem part24 (c : Dev nD) {Q : _ → sProp 𝕄} :
    part bK c (KB m c) ⊢ iprop((part bK c (KB m c) -∗ Q ⟨p10 m c, p11 m c, p12 m c, k0_pay27 (q1 m c) (kH m c 1 3), k0_pay28 (F := F)⟩)
      -∗ wp frame (wpE (defs₀ (F := F)) 𝒱₀ (c : Dev nD) none) Set.univ (k0_part24 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (k0_pay4 (F := F)) (q1 m c) (k0_pay22 (k0_pay4 (F := F)) (q1 m c) (kH m c 1 0)) (k0_pay23 (k0_pay4 (F := F)) (q1 m c) (kH m c 1 0))) Q) := by
  simp only [k0_part24_eq_skeleton]; unfold k0_part24_skel
  simp only [Prog.lift, Prog.bind_op, Prog.bind_ret, Prog.pure_eq_ret]
  iintro HK Hk
  iapply (load_step (a := bK) c) $$ HK
  iintro HK
  iapply (load_step (a := bK) c) $$ HK
  iintro HK
  iapply (load_step (a := bK) c) $$ HK
  iintro HK
  rw [wp_ret]
  iapply fupd_intro
  change Entails' _ (Q ⟨p10 m c, p11 m c, p12 m c, k0_pay27 (q1 m c) (kH m c 1 3), k0_pay28 (F := F)⟩)
  iapply Hk $$ HK

theorem part25 (c : Dev nD) {Q : _ → sProp 𝕄} :
    part bK c (KB m c) ⊢ iprop((part bK c (KB m c) -∗ Q ⟨p13 m c, p14 m c, k0_pay31 (k0_pay4 (F := F)) (q1 m c) (kH m c 1 5), k0_pay32 (k0_pay4 (F := F)) (q1 m c) (kH m c 1 5)⟩)
      -∗ wp frame (wpE (defs₀ (F := F)) 𝒱₀ (c : Dev nD) none) Set.univ (k0_part25 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (k0_pay4 (F := F)) (q1 m c) (k0_pay27 (q1 m c) (kH m c 1 3)) (k0_pay28 (F := F))) Q) := by
  simp only [k0_part25_eq_skeleton]; unfold k0_part25_skel
  simp only [Prog.lift, Prog.bind_op, Prog.bind_ret, Prog.pure_eq_ret]
  iintro HK Hk
  iapply (load_step (a := bK) c) $$ HK
  iintro HK
  iapply (load_step (a := bK) c) $$ HK
  iintro HK
  rw [wp_ret]
  iapply fupd_intro
  change Entails' _ (Q ⟨p13 m c, p14 m c, k0_pay31 (k0_pay4 (F := F)) (q1 m c) (kH m c 1 5), k0_pay32 (k0_pay4 (F := F)) (q1 m c) (kH m c 1 5)⟩)
  iapply Hk $$ HK

theorem part28 (c : Dev nD) (f : Buf (Elt F) (aO.view.loc (c : Thread nD τ))) {Q : _ → sProp 𝕄} :
    part bV c (VB m c) ⊢ iprop(part aW c (wC m c) -∗ part aO c f
      -∗ (part bV c (VB m c) -∗ part aW c (wC m c) -∗ part aO c ((aO.access rO0).write (Elt F) f (s0 m c) Finset.univ) -∗ Q ⟨k0_pay43 (p10 m c) (vH m c 1 0), k0_pay44 (p11 m c) (vH m c 1 1), k0_pay45 (p12 m c) (vH m c 1 2), vH m c 1 3⟩)
      -∗ wp frame (wpE (defs₀ (F := F)) 𝒱₀ (c : Dev nD) none) Set.univ (k0_part28 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 (p05 m c) (p06 m c) (p07 m c) (p10 m c) (p11 m c) (p12 m c) (k0_pay36 (p00 m c) (vH m c 0 0)) (k0_pay37 (p01 m c) (vH m c 0 1)) (k0_pay38 (p02 m c) (vH m c 0 2)) (k0_pay39 (p03 m c) (vH m c 0 3)) (k0_pay40 (p04 m c) (vH m c 0 4)) (k0_pay41 (vH m c 0 5)) (constant S512x64 .f32 0x00000000#32)) Q) := by
  simp only [k0_part28_eq_skeleton]; unfold k0_part28_skel
  simp only [Prog.lift, Prog.bind_op, Prog.bind_ret, Prog.pure_eq_ret]
  iintro HV HW HO Hk
  iapply (load_step (a := bV) c) $$ HV
  iintro HV
  iapply (load_step (a := bV) c) $$ HV
  iintro HV
  iapply (load_step (a := aW) c) $$ HW
  iintro HW
  iapply (load_step (a := aO) c) $$ HO
  iintro HO
  iapply (store_as (a := aO) c ((aO.access rO0).write (Elt F) f (s0 m c) Finset.univ)) $$ HO []
  · ipureintro; exact rfl
  iintro HO
  iapply (load_step (a := bV) c) $$ HV
  iintro HV
  iapply (load_step (a := bV) c) $$ HV
  iintro HV
  iapply (load_step (a := bV) c) $$ HV
  iintro HV
  iapply (load_step (a := bV) c) $$ HV
  iintro HV
  rw [wp_ret]
  iapply fupd_intro
  change Entails' _ (Q ⟨k0_pay43 (p10 m c) (vH m c 1 0), k0_pay44 (p11 m c) (vH m c 1 1), k0_pay45 (p12 m c) (vH m c 1 2), vH m c 1 3⟩)
  iapply Hk $$ HV HW HO

theorem part29 (c : Dev nD) (w2 : BitVec 32) (f : Buf (Elt F) (aO.view.loc (c : Thread nD τ))) {Q : _ → sProp 𝕄} :
    part bV c (VB m c) ⊢ iprop(part aW c (wC m c) -∗ part aO c ((aO.access rO0).write (Elt F) f (s0 m c) Finset.univ)
      -∗ (part bV c (VB m c) -∗ part aW c (wC m c) -∗ part aO c (A0 m c) -∗ ∀ (w w' w'' : BitVec 32), Q ⟨w, w', w'', 1#32⟩)
      -∗ wp frame (wpE (defs₀ (F := F)) 𝒱₀ (c : Dev nD) none) Set.univ (k0_part29 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 w2 (p13 m c) (p14 m c) (p15 m c) (p16 m c) (p17 m c) (k0_pay43 (p10 m c) (vH m c 1 0)) (k0_pay44 (p11 m c) (vH m c 1 1)) (k0_pay45 (p12 m c) (vH m c 1 2)) (vH m c 1 3)) Q) := by
  simp only [k0_part29_eq_skeleton]; unfold k0_part29_skel
  simp only [Prog.lift, Prog.bind_op, Prog.bind_ret, Prog.pure_eq_ret]
  iintro HV HW HO Hk
  iapply (load_step (a := bV) c) $$ HV
  iintro HV
  iapply (load_step (a := bV) c) $$ HV
  iintro HV
  iapply (load_step (a := bV) c) $$ HV
  iintro HV
  iapply (load_step (a := bV) c) $$ HV
  iintro HV
  iapply (load_step (a := aW) c) $$ HW
  iintro HW
  iapply (load_step (a := aO) c) $$ HO
  iintro HO
  iapply (store_as (a := aO) c (A0 m c)) $$ HO []
  · ipureintro; exact A0_eq m c f
  iintro HO
  rw [wp_ret]
  iapply fupd_intro
  iapply Hk $$ HV HW HO

end Cert.KernelIdeal.Proto
-- ==== Proof.KernelIdeal.Exchange.lean ====
module
public import proofs.«01_k».proof.Proof.KernelIdeal.Sends
public import proofs.«01_k».proof.Proof.KernelIdeal.Access
@[expose] public section

/-!
# The exchange among partners

The sends and waits of the reduce-scatter and of the all-gather.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

theorem pay_rss0 (c : Dev nD) : pay m c (.rss 0) = anyp snd0 c := by dsimp only [pay]; rw [if_pos rfl]
theorem pay_rsr0 (c : Dev nD) : pay m c (.rsr 0) = part seg0 c (R0 m c) := by dsimp only [pay]; rw [if_pos rfl]
theorem pay_ags0 (c : Dev nD) : pay m c (.ags 0) = part (gat0 c) c (AG m) := by dsimp only [pay]; rw [if_pos rfl]
theorem pay_agr0 (c : Dev nD) : pay m c (.agr 0) = part (gat0 (q 0 c)) c (AG m) := by dsimp only [pay]; rw [if_pos rfl]
theorem amt_rss0 (c : Dev nD) : amt c (some (.rss 0)) = seg0.view.dmaCredit := by dsimp only [amt]; rw [if_pos rfl]
theorem amt_rsr0 (c : Dev nD) : amt c (some (.rsr 0)) = seg0.view.dmaCredit := by dsimp only [amt]; rw [if_pos rfl]
theorem amt_ags0 (c : Dev nD) : amt c (some (.ags 0)) = (gat0 c).view.dmaCredit := by dsimp only [amt]; rw [if_pos rfl]
theorem amt_agr0 (c : Dev nD) : amt c (some (.agr 0)) = (gat0 c).view.dmaCredit := by dsimp only [amt]; rw [if_pos rfl]
theorem agc0 (c d : Dev nD) : (gat0 c).view.dmaCredit = (gat0 d).view.dmaCredit := rfl

/-- The device's rows go to its partner of the first halving. -/
theorem send_rs0 (c e : Dev nD) (hd : e = q 2 c)
    {src dst : Memref sig .tc .vmem S2x256x768 .bf16} (hsr : src = snd0) (hds : dst = seg0)
    {hsc : dst.view.ref.isScScratch = false} {sS sR : SemLoc sig} (hsS : sS = osem (.rss 0)) (hsR : sR = osem (.rsr 0))
    {hsrc : src.view.WordExact} {hdst : dst.view.WordExact} {hsem : DmaTarget.Typed (nD := nD) (τ := τ) .vmem sR (.remote (Dev.tc e) dst sS hsc)}
    (l : List (Dev nD × Option Own)) (g : Cn F cc0_scratch3)
    {k : PUnit → Prog (TpuEff nD τ sig (Elt F) Λ₀ (.tc : Proc τ)) α} {Q : α → sProp 𝕄} :
    recs m K ⊢ iprop(ops -∗ ow c ((q 2 c, some (.rsr 0)) :: l) -∗ tok c (c, some (.rss 0)) -∗ tok c (q 2 c, some (.rsr 0))
      -∗ part snd0 c (snd0.view.write (Elt F) g (v0 m c) Finset.univ) -∗ anyp seg0 (q 2 c)
      -∗ (ow c l -∗ crd c (.rss 0) -∗ wp frame (wpE (defs₀ (F := F)) 𝒱₀ (c : Dev nD) none) Set.univ (k ⟨⟩) Q)
      -∗ wp frame (wpE (defs₀ (F := F)) 𝒱₀ (c : Dev nD) none) Set.univ (.op (.enqueueDma src (.remote (Dev.tc e) dst sS hsc) sR hsrc hdst hsem) k) Q) := by
  subst hsr hds
  have hN : seg0.view.amount sR = amt (q 2 c) (some (.rsr 0)) := by rw [amt_rsr0, hsR]
  have hNS : amt c (some (.rss 0)) = amt (q 2 c) (some (.rsr 0)) := (amt_rss0 c).trans (amt_rsr0 (q 2 c)).symm
  have hpS : part snd0 c (snd0.view.write (Elt F) g (v0 m c) Finset.univ) ⊢ pay m c (.rss 0) :=
    (anyp_of snd0 c _).trans (Entails.of_eq (pay_rss0 m c).symm)
  have hpR : ∀ fd, part seg0 (q 2 c) (seg0.view.write (Elt F) fd (snd0.view.read (Elt F) (snd0.view.write (Elt F) g (v0 m c) Finset.univ)) Finset.univ)
      ⊢ pay m (q 2 c) (.rsr 0) := fun fd => by
    rw [snd0_read]; exact Entails.of_eq ((on_seg0 m c fd).trans (pay_rsr0 m (q 2 c)).symm)
  unfold anyp
  iintro #HI #Hop HO HtS HtR Hs ⟨%fd, Hd⟩ Hk
  iapply (send_step m K (src := snd0) (dst := seg0) c (q 2 c) (.rss 0) (.rsr 0) rfl rfl e hd hsS hsR hN hNS
    (snd0.view.write (Elt F) g (v0 m c) Finset.univ) fd l hpS (hpR fd)) $$ HI [] [] Hs Hd HO HtS HtR
  · iapply (ops_at c) $$ Hop
  · iapply (ops_at (q 2 c)) $$ Hop
  iintro Hc HO
  iapply Hk $$ HO Hc

theorem wait_rss0 (c : Dev nD) {sem : DmaSem sig} (hs : SemLoc.dma sem = osem (.rss 0))
    {src dst : Memref sig .tc .vmem S2x256x768 .bf16} {hsrc : src.view.WordExact} {hdst : dst.view.WordExact} (hds : dst = snd0)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd c (.rss 0) -∗ ow c l -∗ pos c (.rss 0) 0
      -∗ (ow c l -∗ pos c (.rss 0) 1 -∗ anyp snd0 c -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : snd0.view.dmaCredit = amt c (some (.rss 0)) := (amt_rss0 c).symm
  iintro #HI #Hl Hc HO Hp Hk
  iapply (wait_step m K c (.rss 0) rfl hs (dst := snd0) hN l hl) $$ HI Hl Hc HO Hp
  iintro HO Hp H
  iapply Hk $$ HO Hp
  iapply (Entails.of_eq (pay_rss0 m c)) $$ H

theorem wait_rsr0 (c : Dev nD) {sem : DmaSem sig} (hs : SemLoc.dma sem = osem (.rsr 0))
    {src dst : Memref sig .tc .vmem S2x256x768 .bf16} {hsrc : src.view.WordExact} {hdst : dst.view.WordExact} (hds : dst = seg0)
    (l : List (Dev nD × Option Own)) (hl : (l.map fun p => lvK p.2).all (fun n => decide (4 < n)) = true)
    {k : PUnit → Prog (TpuEff nD τ sig (Elt F) Λ₀ (.tc : Proc τ)) α} {Q : α → sProp 𝕄} :
    recs m K ⊢ iprop(levAts L lv -∗ crd c (.rsr 0) -∗ ow c l -∗ pos c (.rsr 0) 0
      -∗ (ow c l -∗ pos c (.rsr 0) 1 -∗ part seg0 c (R0 m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : seg0.view.dmaCredit = amt c (some (.rsr 0)) := (amt_rsr0 c).symm
  iintro #HI #Hl Hc HO Hp Hk
  iapply (wait_step m K c (.rsr 0) rfl hs (dst := seg0) hN l hl) $$ HI Hl Hc HO Hp
  iintro HO Hp H
  iapply Hk $$ HO Hp
  iapply (Entails.of_eq (pay_rsr0 m c)) $$ H

/-- The gathered rows go to the partner of the first doubling. -/
theorem send_ag0 (c e : Dev nD) (hd : e = q 0 c)
    {src dst : Memref sig .tc .vmem S2x64x768 .bf16} (hsr : src = gat0 c) (hds : dst = gat0 c)
    {hsc : dst.view.ref.isScScratch = false} {sS sR : SemLoc sig} (hsS : sS = osem (.ags 0)) (hsR : sR = osem (.agr 0))
    {hsrc : src.view.WordExact} {hdst : dst.view.WordExact} {hsem : DmaTarget.Typed (nD := nD) (τ := τ) .vmem sR (.remote (Dev.tc e) dst sS hsc)}
    (l : List (Dev nD × Option Own))
    {k : PUnit → Prog (TpuEff nD τ sig (Elt F) Λ₀ (.tc : Proc τ)) α} {Q : α → sProp 𝕄} :
    recs m K ⊢ iprop(ops -∗ ow c ((q 0 c, some (.agr 0)) :: l) -∗ tok c (c, some (.ags 0)) -∗ tok c (q 0 c, some (.agr 0))
      -∗ part (gat0 c) c (AG m) -∗ anyp (gat0 c) (q 0 c)
      -∗ (ow c l -∗ crd c (.ags 0) -∗ wp frame (wpE (defs₀ (F := F)) 𝒱₀ (c : Dev nD) none) Set.univ (k ⟨⟩) Q)
      -∗ wp frame (wpE (defs₀ (F := F)) 𝒱₀ (c : Dev nD) none) Set.univ (.op (.enqueueDma src (.remote (Dev.tc e) dst sS hsc) sR hsrc hdst hsem) k) Q) := by
  subst hsr hds
  have hN : (gat0 c).view.amount sR = amt (q 0 c) (some (.agr 0)) := by rw [amt_agr0, hsR]
  have hNS : amt c (some (.ags 0)) = amt (q 0 c) (some (.agr 0)) := (amt_ags0 c).trans ((agc0 c _).trans (amt_agr0 (q 0 c)).symm)
  have hpS : part (gat0 c) c (AG m) ⊢ pay m c (.ags 0) := Entails.of_eq (pay_ags0 m c).symm
  have hpR : ∀ fd, part (gat0 c) (q 0 c) ((gat0 c).view.write (Elt F) fd ((gat0 c).view.read (Elt F) (AG m)) Finset.univ)
      ⊢ pay m (q 0 c) (.agr 0) := fun fd => by
    have h := pay_agr0 m (q 0 c)
    rw [q_q] at h
    exact Entails.of_eq ((on_gat0 m c fd).trans h.symm)
  unfold anyp
  iintro #HI #Hop HO HtS HtR Hs ⟨%fd, Hd⟩ Hk
  iapply (send_step m K (src := gat0 c) (dst := gat0 c) c (q 0 c) (.ags 0) (.agr 0) rfl rfl e hd hsS hsR hN hNS
    (AG m) fd l hpS (hpR fd)) $$ HI [] [] Hs Hd HO HtS HtR
  · iapply (ops_at c) $$ Hop
  · iapply (ops_at (q 0 c)) $$ Hop
  iintro Hc HO
  iapply Hk $$ HO Hc

theorem wait_ags0 (c : Dev nD) {sem : DmaSem sig} (hs : SemLoc.dma sem = osem (.ags 0))
    {src dst : Memref sig .tc .vmem S2x64x768 .bf16} {hsrc : src.view.WordExact} {hdst : dst.view.WordExact} (hds : dst = gat0 c)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd c (.ags 0) -∗ ow c l -∗ pos c (.ags 0) 0
      -∗ (ow c l -∗ pos c (.ags 0) 1 -∗ part (gat0 c) c (AG m) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (gat0 c).view.dmaCredit = amt c (some (.ags 0)) := (amt_ags0 c).symm
  iintro #HI #Hl Hc HO Hp Hk
  iapply (wait_step m K c (.ags 0) rfl hs (dst := gat0 c) hN l hl) $$ HI Hl Hc HO Hp
  iintro HO Hp H
  iapply Hk $$ HO Hp
  iapply (Entails.of_eq (pay_ags0 m c)) $$ H

theorem wait_agr0 (c : Dev nD) {sem : DmaSem sig} (hs : SemLoc.dma sem = osem (.agr 0))
    {src dst : Memref sig .tc .vmem S2x64x768 .bf16} {hsrc : src.view.WordExact} {hdst : dst.view.WordExact} (hds : dst = gat0 c)
    (l : List (Dev nD × Option Own)) (hl : (l.map fun p => lvK p.2).all (fun n => decide (7 < n)) = true)
    {k : PUnit → Prog (TpuEff nD τ sig (Elt F) Λ₀ (.tc : Proc τ)) α} {Q : α → sProp 𝕄} :
    recs m K ⊢ iprop(levAts L lv -∗ crd c (.agr 0) -∗ ow c l -∗ pos c (.agr 0) 0
      -∗ (ow c l -∗ pos c (.agr 0) 1 -∗ part (gat0 (q 0 c)) c (AG m) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (gat0 c).view.dmaCredit = amt c (some (.agr 0)) := (amt_agr0 c).symm
  iintro #HI #Hl Hc HO Hp Hk
  iapply (wait_step m K c (.agr 0) rfl hs (dst := gat0 c) hN l hl) $$ HI Hl Hc HO Hp
  iintro HO Hp H
  iapply Hk $$ HO Hp
  iapply (Entails.of_eq (pay_agr0 m c)) $$ H

theorem pay_rss1 (c : Dev nD) : pay m c (.rss 1) = anyp snd1 c := by dsimp only [pay]; rw [if_neg (by decide), if_pos rfl]
theorem pay_rsr1 (c : Dev nD) : pay m c (.rsr 1) = part seg1 c (R1 m c) := by dsimp only [pay]; rw [if_neg (by decide), if_pos rfl]
theorem pay_ags1 (c : Dev nD) : pay m c (.ags 1) = part (gat1 c) c (AG m) := by dsimp only [pay]; rw [if_neg (by decide), if_pos rfl]
theorem pay_agr1 (c : Dev nD) : pay m c (.agr 1) = part (gat1 (q 1 c)) c (AG m) := by dsimp only [pay]; rw [if_neg (by decide), if_pos rfl]
theorem amt_rss1 (c : Dev nD) : amt c (some (.rss 1)) = seg1.view.dmaCredit := by dsimp only [amt]; rw [if_neg (by decide), if_pos rfl]
theorem amt_rsr1 (c : Dev nD) : amt c (some (.rsr 1)) = seg1.view.dmaCredit := by dsimp only [amt]; rw [if_neg (by decide), if_pos rfl]
theorem amt_ags1 (c : Dev nD) : amt c (some (.ags 1)) = (gat1 c).view.dmaCredit := by dsimp only [amt]; rw [if_neg (by decide), if_pos rfl]
theorem amt_agr1 (c : Dev nD) : amt c (some (.agr 1)) = (gat1 c).view.dmaCredit := by dsimp only [amt]; rw [if_neg (by decide), if_pos rfl]
theorem agc1 (c d : Dev nD) : (gat1 c).view.dmaCredit = (gat1 d).view.dmaCredit := rfl

/-- The device's rows go to its partner of the second halving. -/
theorem send_rs1 (c e : Dev nD) (hd : e = q 1 c)
    {src dst : Memref sig .tc .vmem S2x128x768 .bf16} (hsr : src = snd1) (hds : dst = seg1)
    {hsc : dst.view.ref.isScScratch = false} {sS sR : SemLoc sig} (hsS : sS = osem (.rss 1)) (hsR : sR = osem (.rsr 1))
    {hsrc : src.view.WordExact} {hdst : dst.view.WordExact} {hsem : DmaTarget.Typed (nD := nD) (τ := τ) .vmem sR (.remote (Dev.tc e) dst sS hsc)}
    (l : List (Dev nD × Option Own)) (g : Cn F cc0_scratch3)
    {k : PUnit → Prog (TpuEff nD τ sig (Elt F) Λ₀ (.tc : Proc τ)) α} {Q : α → sProp 𝕄} :
    recs m K ⊢ iprop(ops -∗ ow c ((q 1 c, some (.rsr 1)) :: l) -∗ tok c (c, some (.rss 1)) -∗ tok c (q 1 c, some (.rsr 1))
      -∗ part snd1 c (snd1.view.write (Elt F) g (v1 m c) Finset.univ) -∗ anyp seg1 (q 1 c)
      -∗ (ow c l -∗ crd c (.rss 1) -∗ wp frame (wpE (defs₀ (F := F)) 𝒱₀ (c : Dev nD) none) Set.univ (k ⟨⟩) Q)
      -∗ wp frame (wpE (defs₀ (F := F)) 𝒱₀ (c : Dev nD) none) Set.univ (.op (.enqueueDma src (.remote (Dev.tc e) dst sS hsc) sR hsrc hdst hsem) k) Q) := by
  subst hsr hds
  have hN : seg1.view.amount sR = amt (q 1 c) (some (.rsr 1)) := by rw [amt_rsr1, hsR]
  have hNS : amt c (some (.rss 1)) = amt (q 1 c) (some (.rsr 1)) := (amt_rss1 c).trans (amt_rsr1 (q 1 c)).symm
  have hpS : part snd1 c (snd1.view.write (Elt F) g (v1 m c) Finset.univ) ⊢ pay m c (.rss 1) :=
    (anyp_of snd1 c _).trans (Entails.of_eq (pay_rss1 m c).symm)
  have hpR : ∀ fd, part seg1 (q 1 c) (seg1.view.write (Elt F) fd (snd1.view.read (Elt F) (snd1.view.write (Elt F) g (v1 m c) Finset.univ)) Finset.univ)
      ⊢ pay m (q 1 c) (.rsr 1) := fun fd => by
    rw [snd1_read]; exact Entails.of_eq ((on_seg1 m c fd).trans (pay_rsr1 m (q 1 c)).symm)
  unfold anyp
  iintro #HI #Hop HO HtS HtR Hs ⟨%fd, Hd⟩ Hk
  iapply (send_step m K (src := snd1) (dst := seg1) c (q 1 c) (.rss 1) (.rsr 1) rfl rfl e hd hsS hsR hN hNS
    (snd1.view.write (Elt F) g (v1 m c) Finset.univ) fd l hpS (hpR fd)) $$ HI [] [] Hs Hd HO HtS HtR
  · iapply (ops_at c) $$ Hop
  · iapply (ops_at (q 1 c)) $$ Hop
  iintro Hc HO
  iapply Hk $$ HO Hc

theorem wait_rss1 (c : Dev nD) {sem : DmaSem sig} (hs : SemLoc.dma sem = osem (.rss 1))
    {src dst : Memref sig .tc .vmem S2x128x768 .bf16} {hsrc : src.view.WordExact} {hdst : dst.view.WordExact} (hds : dst = snd1)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd c (.rss 1) -∗ ow c l -∗ pos c (.rss 1) 0
      -∗ (ow c l -∗ pos c (.rss 1) 1 -∗ anyp snd1 c -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : snd1.view.dmaCredit = amt c (some (.rss 1)) := (amt_rss1 c).symm
  iintro #HI #Hl Hc HO Hp Hk
  iapply (wait_step m K c (.rss 1) rfl hs (dst := snd1) hN l hl) $$ HI Hl Hc HO Hp
  iintro HO Hp H
  iapply Hk $$ HO Hp
  iapply (Entails.of_eq (pay_rss1 m c)) $$ H

theorem wait_rsr1 (c : Dev nD) {sem : DmaSem sig} (hs : SemLoc.dma sem = osem (.rsr 1))
    {src dst : Memref sig .tc .vmem S2x128x768 .bf16} {hsrc : src.view.WordExact} {hdst : dst.view.WordExact} (hds : dst = seg1)
    (l : List (Dev nD × Option Own)) (hl : (l.map fun p => lvK p.2).all (fun n => decide (5 < n)) = true)
    {k : PUnit → Prog (TpuEff nD τ sig (Elt F) Λ₀ (.tc : Proc τ)) α} {Q : α → sProp 𝕄} :
    recs m K ⊢ iprop(levAts L lv -∗ crd c (.rsr 1) -∗ ow c l -∗ pos c (.rsr 1) 0
      -∗ (ow c l -∗ pos c (.rsr 1) 1 -∗ part seg1 c (R1 m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : seg1.view.dmaCredit = amt c (some (.rsr 1)) := (amt_rsr1 c).symm
  iintro #HI #Hl Hc HO Hp Hk
  iapply (wait_step m K c (.rsr 1) rfl hs (dst := seg1) hN l hl) $$ HI Hl Hc HO Hp
  iintro HO Hp H
  iapply Hk $$ HO Hp
  iapply (Entails.of_eq (pay_rsr1 m c)) $$ H

/-- The gathered rows go to the partner of the second doubling. -/
theorem send_ag1 (c e : Dev nD) (hd : e = q 1 c)
    {src dst : Memref sig .tc .vmem S2x128x768 .bf16} (hsr : src = gat1 c) (hds : dst = gat1 c)
    {hsc : dst.view.ref.isScScratch = false} {sS sR : SemLoc sig} (hsS : sS = osem (.ags 1)) (hsR : sR = osem (.agr 1))
    {hsrc : src.view.WordExact} {hdst : dst.view.WordExact} {hsem : DmaTarget.Typed (nD := nD) (τ := τ) .vmem sR (.remote (Dev.tc e) dst sS hsc)}
    (l : List (Dev nD × Option Own))
    {k : PUnit → Prog (TpuEff nD τ sig (Elt F) Λ₀ (.tc : Proc τ)) α} {Q : α → sProp 𝕄} :
    recs m K ⊢ iprop(ops -∗ ow c ((q 1 c, some (.agr 1)) :: l) -∗ tok c (c, some (.ags 1)) -∗ tok c (q 1 c, some (.agr 1))
      -∗ part (gat1 c) c (AG m) -∗ anyp (gat1 c) (q 1 c)
      -∗ (ow c l -∗ crd c (.ags 1) -∗ wp frame (wpE (defs₀ (F := F)) 𝒱₀ (c : Dev nD) none) Set.univ (k ⟨⟩) Q)
      -∗ wp frame (wpE (defs₀ (F := F)) 𝒱₀ (c : Dev nD) none) Set.univ (.op (.enqueueDma src (.remote (Dev.tc e) dst sS hsc) sR hsrc hdst hsem) k) Q) := by
  subst hsr hds
  have hN : (gat1 c).view.amount sR = amt (q 1 c) (some (.agr 1)) := by rw [amt_agr1, hsR]
  have hNS : amt c (some (.ags 1)) = amt (q 1 c) (some (.agr 1)) := (amt_ags1 c).trans ((agc1 c _).trans (amt_agr1 (q 1 c)).symm)
  have hpS : part (gat1 c) c (AG m) ⊢ pay m c (.ags 1) := Entails.of_eq (pay_ags1 m c).symm
  have hpR : ∀ fd, part (gat1 c) (q 1 c) ((gat1 c).view.write (Elt F) fd ((gat1 c).view.read (Elt F) (AG m)) Finset.univ)
      ⊢ pay m (q 1 c) (.agr 1) := fun fd => by
    have h := pay_agr1 m (q 1 c)
    rw [q_q] at h
    exact Entails.of_eq ((on_gat1 m c fd).trans h.symm)
  unfold anyp
  iintro #HI #Hop HO HtS HtR Hs ⟨%fd, Hd⟩ Hk
  iapply (send_step m K (src := gat1 c) (dst := gat1 c) c (q 1 c) (.ags 1) (.agr 1) rfl rfl e hd hsS hsR hN hNS
    (AG m) fd l hpS (hpR fd)) $$ HI [] [] Hs Hd HO HtS HtR
  · iapply (ops_at c) $$ Hop
  · iapply (ops_at (q 1 c)) $$ Hop
  iintro Hc HO
  iapply Hk $$ HO Hc

theorem wait_ags1 (c : Dev nD) {sem : DmaSem sig} (hs : SemLoc.dma sem = osem (.ags 1))
    {src dst : Memref sig .tc .vmem S2x128x768 .bf16} {hsrc : src.view.WordExact} {hdst : dst.view.WordExact} (hds : dst = gat1 c)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd c (.ags 1) -∗ ow c l -∗ pos c (.ags 1) 0
      -∗ (ow c l -∗ pos c (.ags 1) 1 -∗ part (gat1 c) c (AG m) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (gat1 c).view.dmaCredit = amt c (some (.ags 1)) := (amt_ags1 c).symm
  iintro #HI #Hl Hc HO Hp Hk
  iapply (wait_step m K c (.ags 1) rfl hs (dst := gat1 c) hN l hl) $$ HI Hl Hc HO Hp
  iintro HO Hp H
  iapply Hk $$ HO Hp
  iapply (Entails.of_eq (pay_ags1 m c)) $$ H

theorem wait_agr1 (c : Dev nD) {sem : DmaSem sig} (hs : SemLoc.dma sem = osem (.agr 1))
    {src dst : Memref sig .tc .vmem S2x128x768 .bf16} {hsrc : src.view.WordExact} {hdst : dst.view.WordExact} (hds : dst = gat1 c)
    (l : List (Dev nD × Option Own)) (hl : (l.map fun p => lvK p.2).all (fun n => decide (8 < n)) = true)
    {k : PUnit → Prog (TpuEff nD τ sig (Elt F) Λ₀ (.tc : Proc τ)) α} {Q : α → sProp 𝕄} :
    recs m K ⊢ iprop(levAts L lv -∗ crd c (.agr 1) -∗ ow c l -∗ pos c (.agr 1) 0
      -∗ (ow c l -∗ pos c (.agr 1) 1 -∗ part (gat1 (q 1 c)) c (AG m) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (gat1 c).view.dmaCredit = amt c (some (.agr 1)) := (amt_agr1 c).symm
  iintro #HI #Hl Hc HO Hp Hk
  iapply (wait_step m K c (.agr 1) rfl hs (dst := gat1 c) hN l hl) $$ HI Hl Hc HO Hp
  iintro HO Hp H
  iapply Hk $$ HO Hp
  iapply (Entails.of_eq (pay_agr1 m c)) $$ H

theorem pay_rss2 (c : Dev nD) : pay m c (.rss 2) = anyp snd2 c := by dsimp only [pay]; rw [if_neg (by decide), if_neg (by decide)]
theorem pay_rsr2 (c : Dev nD) : pay m c (.rsr 2) = part seg2 c (R2 m c) := by dsimp only [pay]; rw [if_neg (by decide), if_neg (by decide)]
theorem pay_ags2 (c : Dev nD) : pay m c (.ags 2) = part (gat2 c) c (AG m) := by dsimp only [pay]; rw [if_neg (by decide), if_neg (by decide)]
theorem pay_agr2 (c : Dev nD) : pay m c (.agr 2) = part (gat2 (q 2 c)) c (AG m) := by dsimp only [pay]; rw [if_neg (by decide), if_neg (by decide)]
theorem amt_rss2 (c : Dev nD) : amt c (some (.rss 2)) = seg2.view.dmaCredit := by dsimp only [amt]; rw [if_neg (by decide), if_neg (by decide)]
theorem amt_rsr2 (c : Dev nD) : amt c (some (.rsr 2)) = seg2.view.dmaCredit := by dsimp only [amt]; rw [if_neg (by decide), if_neg (by decide)]
theorem amt_ags2 (c : Dev nD) : amt c (some (.ags 2)) = (gat2 c).view.dmaCredit := by dsimp only [amt]; rw [if_neg (by decide), if_neg (by decide)]
theorem amt_agr2 (c : Dev nD) : amt c (some (.agr 2)) = (gat2 c).view.dmaCredit := by dsimp only [amt]; rw [if_neg (by decide), if_neg (by decide)]
theorem agc2 (c d : Dev nD) : (gat2 c).view.dmaCredit = (gat2 d).view.dmaCredit := rfl

/-- The device's rows go to its partner of the third halving. -/
theorem send_rs2 (c e : Dev nD) (hd : e = q 0 c)
    {src dst : Memref sig .tc .vmem S2x64x768 .bf16} (hsr : src = snd2) (hds : dst = seg2)
    {hsc : dst.view.ref.isScScratch = false} {sS sR : SemLoc sig} (hsS : sS = osem (.rss 2)) (hsR : sR = osem (.rsr 2))
    {hsrc : src.view.WordExact} {hdst : dst.view.WordExact} {hsem : DmaTarget.Typed (nD := nD) (τ := τ) .vmem sR (.remote (Dev.tc e) dst sS hsc)}
    (l : List (Dev nD × Option Own)) (g : Cn F cc0_scratch3)
    {k : PUnit → Prog (TpuEff nD τ sig (Elt F) Λ₀ (.tc : Proc τ)) α} {Q : α → sProp 𝕄} :
    recs m K ⊢ iprop(ops -∗ ow c ((q 0 c, some (.rsr 2)) :: l) -∗ tok c (c, some (.rss 2)) -∗ tok c (q 0 c, some (.rsr 2))
      -∗ part snd2 c (snd2.view.write (Elt F) g (v2 m c) Finset.univ) -∗ anyp seg2 (q 0 c)
      -∗ (ow c l -∗ crd c (.rss 2) -∗ wp frame (wpE (defs₀ (F := F)) 𝒱₀ (c : Dev nD) none) Set.univ (k ⟨⟩) Q)
      -∗ wp frame (wpE (defs₀ (F := F)) 𝒱₀ (c : Dev nD) none) Set.univ (.op (.enqueueDma src (.remote (Dev.tc e) dst sS hsc) sR hsrc hdst hsem) k) Q) := by
  subst hsr hds
  have hN : seg2.view.amount sR = amt (q 0 c) (some (.rsr 2)) := by rw [amt_rsr2, hsR]
  have hNS : amt c (some (.rss 2)) = amt (q 0 c) (some (.rsr 2)) := (amt_rss2 c).trans (amt_rsr2 (q 0 c)).symm
  have hpS : part snd2 c (snd2.view.write (Elt F) g (v2 m c) Finset.univ) ⊢ pay m c (.rss 2) :=
    (anyp_of snd2 c _).trans (Entails.of_eq (pay_rss2 m c).symm)
  have hpR : ∀ fd, part seg2 (q 0 c) (seg2.view.write (Elt F) fd (snd2.view.read (Elt F) (snd2.view.write (Elt F) g (v2 m c) Finset.univ)) Finset.univ)
      ⊢ pay m (q 0 c) (.rsr 2) := fun fd => by
    rw [snd2_read]; exact Entails.of_eq ((on_seg2 m c fd).trans (pay_rsr2 m (q 0 c)).symm)
  unfold anyp
  iintro #HI #Hop HO HtS HtR Hs ⟨%fd, Hd⟩ Hk
  iapply (send_step m K (src := snd2) (dst := seg2) c (q 0 c) (.rss 2) (.rsr 2) rfl rfl e hd hsS hsR hN hNS
    (snd2.view.write (Elt F) g (v2 m c) Finset.univ) fd l hpS (hpR fd)) $$ HI [] [] Hs Hd HO HtS HtR
  · iapply (ops_at c) $$ Hop
  · iapply (ops_at (q 0 c)) $$ Hop
  iintro Hc HO
  iapply Hk $$ HO Hc

theorem wait_rss2 (c : Dev nD) {sem : DmaSem sig} (hs : SemLoc.dma sem = osem (.rss 2))
    {src dst : Memref sig .tc .vmem S2x64x768 .bf16} {hsrc : src.view.WordExact} {hdst : dst.view.WordExact} (hds : dst = snd2)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd c (.rss 2) -∗ ow c l -∗ pos c (.rss 2) 0
      -∗ (ow c l -∗ pos c (.rss 2) 1 -∗ anyp snd2 c -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : snd2.view.dmaCredit = amt c (some (.rss 2)) := (amt_rss2 c).symm
  iintro #HI #Hl Hc HO Hp Hk
  iapply (wait_step m K c (.rss 2) rfl hs (dst := snd2) hN l hl) $$ HI Hl Hc HO Hp
  iintro HO Hp H
  iapply Hk $$ HO Hp
  iapply (Entails.of_eq (pay_rss2 m c)) $$ H

theorem wait_rsr2 (c : Dev nD) {sem : DmaSem sig} (hs : SemLoc.dma sem = osem (.rsr 2))
    {src dst : Memref sig .tc .vmem S2x64x768 .bf16} {hsrc : src.view.WordExact} {hdst : dst.view.WordExact} (hds : dst = seg2)
    (l : List (Dev nD × Option Own)) (hl : (l.map fun p => lvK p.2).all (fun n => decide (6 < n)) = true)
    {k : PUnit → Prog (TpuEff nD τ sig (Elt F) Λ₀ (.tc : Proc τ)) α} {Q : α → sProp 𝕄} :
    recs m K ⊢ iprop(levAts L lv -∗ crd c (.rsr 2) -∗ ow c l -∗ pos c (.rsr 2) 0
      -∗ (ow c l -∗ pos c (.rsr 2) 1 -∗ part seg2 c (R2 m c) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : seg2.view.dmaCredit = amt c (some (.rsr 2)) := (amt_rsr2 c).symm
  iintro #HI #Hl Hc HO Hp Hk
  iapply (wait_step m K c (.rsr 2) rfl hs (dst := seg2) hN l hl) $$ HI Hl Hc HO Hp
  iintro HO Hp H
  iapply Hk $$ HO Hp
  iapply (Entails.of_eq (pay_rsr2 m c)) $$ H

/-- The gathered rows go to the partner of the third doubling. -/
theorem send_ag2 (c e : Dev nD) (hd : e = q 2 c)
    {src dst : Memref sig .tc .vmem S2x256x768 .bf16} (hsr : src = gat2 c) (hds : dst = gat2 c)
    {hsc : dst.view.ref.isScScratch = false} {sS sR : SemLoc sig} (hsS : sS = osem (.ags 2)) (hsR : sR = osem (.agr 2))
    {hsrc : src.view.WordExact} {hdst : dst.view.WordExact} {hsem : DmaTarget.Typed (nD := nD) (τ := τ) .vmem sR (.remote (Dev.tc e) dst sS hsc)}
    (l : List (Dev nD × Option Own))
    {k : PUnit → Prog (TpuEff nD τ sig (Elt F) Λ₀ (.tc : Proc τ)) α} {Q : α → sProp 𝕄} :
    recs m K ⊢ iprop(ops -∗ ow c ((q 2 c, some (.agr 2)) :: l) -∗ tok c (c, some (.ags 2)) -∗ tok c (q 2 c, some (.agr 2))
      -∗ part (gat2 c) c (AG m) -∗ anyp (gat2 c) (q 2 c)
      -∗ (ow c l -∗ crd c (.ags 2) -∗ wp frame (wpE (defs₀ (F := F)) 𝒱₀ (c : Dev nD) none) Set.univ (k ⟨⟩) Q)
      -∗ wp frame (wpE (defs₀ (F := F)) 𝒱₀ (c : Dev nD) none) Set.univ (.op (.enqueueDma src (.remote (Dev.tc e) dst sS hsc) sR hsrc hdst hsem) k) Q) := by
  subst hsr hds
  have hN : (gat2 c).view.amount sR = amt (q 2 c) (some (.agr 2)) := by rw [amt_agr2, hsR]
  have hNS : amt c (some (.ags 2)) = amt (q 2 c) (some (.agr 2)) := (amt_ags2 c).trans ((agc2 c _).trans (amt_agr2 (q 2 c)).symm)
  have hpS : part (gat2 c) c (AG m) ⊢ pay m c (.ags 2) := Entails.of_eq (pay_ags2 m c).symm
  have hpR : ∀ fd, part (gat2 c) (q 2 c) ((gat2 c).view.write (Elt F) fd ((gat2 c).view.read (Elt F) (AG m)) Finset.univ)
      ⊢ pay m (q 2 c) (.agr 2) := fun fd => by
    have h := pay_agr2 m (q 2 c)
    rw [q_q] at h
    exact Entails.of_eq ((on_gat2 m c fd).trans h.symm)
  unfold anyp
  iintro #HI #Hop HO HtS HtR Hs ⟨%fd, Hd⟩ Hk
  iapply (send_step m K (src := gat2 c) (dst := gat2 c) c (q 2 c) (.ags 2) (.agr 2) rfl rfl e hd hsS hsR hN hNS
    (AG m) fd l hpS (hpR fd)) $$ HI [] [] Hs Hd HO HtS HtR
  · iapply (ops_at c) $$ Hop
  · iapply (ops_at (q 2 c)) $$ Hop
  iintro Hc HO
  iapply Hk $$ HO Hc

theorem wait_ags2 (c : Dev nD) {sem : DmaSem sig} (hs : SemLoc.dma sem = osem (.ags 2))
    {src dst : Memref sig .tc .vmem S2x256x768 .bf16} {hsrc : src.view.WordExact} {hdst : dst.view.WordExact} (hds : dst = gat2 c)
    (l : List (Dev nD × Option Own)) (hl : (l.map fun p => lvK p.2).all (fun n => decide (0 < n)) = true)
    {k : PUnit → Prog (TpuEff nD τ sig (Elt F) Λ₀ (.tc : Proc τ)) α} {Q : α → sProp 𝕄} :
    recs m K ⊢ iprop(levAts L lv -∗ crd c (.ags 2) -∗ ow c l -∗ pos c (.ags 2) 0
      -∗ (ow c l -∗ pos c (.ags 2) 1 -∗ part (gat2 c) c (AG m) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (gat2 c).view.dmaCredit = amt c (some (.ags 2)) := (amt_ags2 c).symm
  iintro #HI #Hl Hc HO Hp Hk
  iapply (wait_step m K c (.ags 2) rfl hs (dst := gat2 c) hN l hl) $$ HI Hl Hc HO Hp
  iintro HO Hp H
  iapply Hk $$ HO Hp
  iapply (Entails.of_eq (pay_ags2 m c)) $$ H

theorem wait_agr2 (c : Dev nD) {sem : DmaSem sig} (hs : SemLoc.dma sem = osem (.agr 2))
    {src dst : Memref sig .tc .vmem S2x256x768 .bf16} {hsrc : src.view.WordExact} {hdst : dst.view.WordExact} (hds : dst = gat2 c)
    (l : List (Dev nD × Option Own)) (hl : (l.map fun p => lvK p.2).all (fun n => decide (9 < n)) = true)
    {k : PUnit → Prog (TpuEff nD τ sig (Elt F) Λ₀ (.tc : Proc τ)) α} {Q : α → sProp 𝕄} :
    recs m K ⊢ iprop(levAts L lv -∗ crd c (.agr 2) -∗ ow c l -∗ pos c (.agr 2) 0
      -∗ (ow c l -∗ pos c (.agr 2) 1 -∗ part (gat2 (q 2 c)) c (AG m) -∗ wp frame (wpE (defs₀ (F := F)) 𝒱₀ (c : Dev nD) none) Set.univ (k ⟨⟩) Q)
      -∗ wp frame (wpE (defs₀ (F := F)) 𝒱₀ (c : Dev nD) none) Set.univ (.op (.waitDma2 sem src dst hsrc hdst) k) Q) := by
  subst hds
  have hN : (gat2 c).view.dmaCredit = amt c (some (.agr 2)) := (amt_agr2 c).symm
  iintro #HI #Hl Hc HO Hp Hk
  iapply (wait_step m K c (.agr 2) rfl hs (dst := gat2 c) hN l hl) $$ HI Hl Hc HO Hp
  iintro HO Hp H
  iapply Hk $$ HO Hp
  iapply (Entails.of_eq (pay_agr2 m c)) $$ H

end Cert.KernelIdeal.Proto
-- ==== Proof.KernelIdeal.Tail.lean ====
module
public import proofs.«01_k».proof.Proof.KernelIdeal.Exchange
@[expose] public section

/-!
# The reduce-scatter and the all-gather

The parts of the body that exchange the partial products: three halvings, after which each device holds its rows of the
sum, and three doublings, after which every device holds all of them.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)
/-- What the device still owes after 1 of these sends. -/
abbrev dR1 (c : Dev nD) : List (Dev nD × Option Own) := [(q 1 c, some (.rsr 1)), (q 0 c, some (.rsr 2)), (q 0 c, some (.agr 0)), (q 1 c, some (.agr 1)), (q 2 c, some (.agr 2))]
/-- What the device still owes after 2 of these sends. -/
abbrev dR2 (c : Dev nD) : List (Dev nD × Option Own) := [(q 0 c, some (.rsr 2)), (q 0 c, some (.agr 0)), (q 1 c, some (.agr 1)), (q 2 c, some (.agr 2))]
/-- What the device still owes after 3 of these sends. -/
abbrev dR3 (c : Dev nD) : List (Dev nD × Option Own) := [(q 0 c, some (.agr 0)), (q 1 c, some (.agr 1)), (q 2 c, some (.agr 2))]
/-- What the device still owes after 4 of these sends. -/
abbrev dR4 (c : Dev nD) : List (Dev nD × Option Own) := [(q 1 c, some (.agr 1)), (q 2 c, some (.agr 2))]
/-- What the device still owes after 5 of these sends. -/
abbrev dR5 (c : Dev nD) : List (Dev nD × Option Own) := [(q 2 c, some (.agr 2))]
/-- What the device still owes after 6 of these sends. -/
abbrev dR6 (c : Dev nD) : List (Dev nD × Option Own) := []

theorem snd1_sub : snd1.view.set ⊆ bS.view.set := by rw [show bS.view.set = Finset.univ from View.set_whole _]; exact Finset.subset_univ _
/-- The sending buffer beyond the part in use. -/
def rest1 (c : Dev nD) : sProp 𝕄 :=
  iprop(∃ f : Buf (Elt F) (bS.view.loc (c : Thread nD τ)), bS.view.loc (c : Thread nD τ) ↦[bS.view.set \ snd1.view.set]{fullShare} f)
theorem cut_snd1 (c : Dev nD) (g : Cn F cc0_scratch3) : part bS c g ⊢ iprop(part snd1 c g ∗ rest1 (F := F) c) := by
  refine (snd_split snd1.view.set snd1_sub c g).1.trans ?_
  unfold rest1
  iintro ⟨H, H'⟩
  isplitl [H]; · iexact H
  iexists g; iexact H'
theorem join_snd1 (c : Dev nD) : anyp snd1 c ⊢ iprop(rest1 (F := F) c -∗ anyp bS c) := by
  unfold rest1
  iintro H ⟨%f, H'⟩
  ihave H := (anyp_open snd1 c) $$ H
  icases H with ⟨%g, H⟩
  iapply (snd_join snd1.view.set snd1_sub c f g)
  isplitl [H]; · iexact H
  iexact H'

theorem snd2_sub : snd2.view.set ⊆ bS.view.set := by rw [show bS.view.set = Finset.univ from View.set_whole _]; exact Finset.subset_univ _
/-- The sending buffer beyond the part in use. -/
def rest2 (c : Dev nD) : sProp 𝕄 :=
  iprop(∃ f : Buf (Elt F) (bS.view.loc (c : Thread nD τ)), bS.view.loc (c : Thread nD τ) ↦[bS.view.set \ snd2.view.set]{fullShare} f)
theorem cut_snd2 (c : Dev nD) (g : Cn F cc0_scratch3) : part bS c g ⊢ iprop(part snd2 c g ∗ rest2 (F := F) c) := by
  refine (snd_split snd2.view.set snd2_sub c g).1.trans ?_
  unfold rest2
  iintro ⟨H, H'⟩
  isplitl [H]; · iexact H
  iexists g; iexact H'
theorem join_snd2 (c : Dev nD) : anyp snd2 c ⊢ iprop(rest2 (F := F) c -∗ anyp bS c) := by
  unfold rest2
  iintro H ⟨%f, H'⟩
  ihave H := (anyp_open snd2 c) $$ H
  icases H with ⟨%g, H⟩
  iapply (snd_join snd2.view.set snd2_sub c f g)
  isplitl [H]; · iexact H
  iexact H'

theorem cut_snd0 (c : Dev nD) (g : Cn F cc0_scratch3) : (part bS c g : sProp 𝕄) ⊢ part snd0 c g :=
  Entails.of_eq (congrArg (fun S => (bS.view.loc (c : Thread nD τ) ↦[S]{fullShare} g : sProp 𝕄)) snd0_set)
theorem join_snd0 (c : Dev nD) : (anyp snd0 c : sProp 𝕄) ⊢ anyp bS c := by
  unfold anyp
  iintro ⟨%f, H⟩
  iexists f
  iapply (Entails.of_eq (congrArg (fun S => (bS.view.loc (c : Thread nD τ) ↦[S]{fullShare} f : sProp 𝕄)) snd0_set).symm) $$ H

theorem load_seg0 (c : Dev nD)
    {hl : bR.view.LoadsAt (Rect.unit (s := S2x448x768) ![0, 0, 0] S2x256x768.size inb_S2x448x768_S2x256x768_0_0_0).toLoadRect}
    {k : (S2x256x768.Idx → Elt F .bf16) → Prog (TpuEff nD τ sig (Elt F) Λ₀ (.tc : Proc τ)) α} {Q : α → sProp 𝕄} :
    part seg0 c (R0 m c) ⊢ iprop((part seg0 c (R0 m c) -∗ wp frame (wpE (defs₀ (F := F)) 𝒱₀ (c : Dev nD) none) Set.univ (k (v0 m (q 2 c))) Q)
      -∗ wp frame (wpE (defs₀ (F := F)) 𝒱₀ (c : Dev nD) none) Set.univ (.op (.load bR (Rect.unit (s := S2x448x768) ![0, 0, 0] S2x256x768.size inb_S2x448x768_S2x256x768_0_0_0).toLoadRect hl) k) Q) := by
  have h := load_sub (a := bR) (r := Rect.unit (s := S2x448x768) ![0, 0, 0] S2x256x768.size inb_S2x448x768_S2x256x768_0_0_0) (hl := hl) c
    (S := seg0.view.set) rfl (f := R0 m c) (k := k) (Q := Q)
  rw [show (bR.access (Rect.unit (s := S2x448x768) ![0, 0, 0] S2x256x768.size inb_S2x448x768_S2x256x768_0_0_0)).read (Elt F) (R0 m c)
    = v0 m (q 2 c) from read_R0 m c] at h
  exact h

theorem load_seg1 (c : Dev nD)
    {hl : bR.view.LoadsAt (Rect.unit (s := S2x448x768) ![0, 256, 0] S2x128x768.size inb_S2x448x768_S2x128x768_0_256_0).toLoadRect}
    {k : (S2x128x768.Idx → Elt F .bf16) → Prog (TpuEff nD τ sig (Elt F) Λ₀ (.tc : Proc τ)) α} {Q : α → sProp 𝕄} :
    part seg1 c (R1 m c) ⊢ iprop((part seg1 c (R1 m c) -∗ wp frame (wpE (defs₀ (F := F)) 𝒱₀ (c : Dev nD) none) Set.univ (k (v1 m (q 1 c))) Q)
      -∗ wp frame (wpE (defs₀ (F := F)) 𝒱₀ (c : Dev nD) none) Set.univ (.op (.load bR (Rect.unit (s := S2x448x768) ![0, 256, 0] S2x128x768.size inb_S2x448x768_S2x128x768_0_256_0).toLoadRect hl) k) Q) := by
  have h := load_sub (a := bR) (r := Rect.unit (s := S2x448x768) ![0, 256, 0] S2x128x768.size inb_S2x448x768_S2x128x768_0_256_0) (hl := hl) c
    (S := seg1.view.set) rfl (f := R1 m c) (k := k) (Q := Q)
  rw [show (bR.access (Rect.unit (s := S2x448x768) ![0, 256, 0] S2x128x768.size inb_S2x448x768_S2x128x768_0_256_0)).read (Elt F) (R1 m c)
    = v1 m (q 1 c) from read_R1 m c] at h
  exact h

theorem load_seg2 (c : Dev nD)
    {hl : bR.view.LoadsAt (Rect.unit (s := S2x448x768) ![0, 384, 0] S2x64x768.size inb_S2x448x768_S2x64x768_0_384_0).toLoadRect}
    {k : (S2x64x768.Idx → Elt F .bf16) → Prog (TpuEff nD τ sig (Elt F) Λ₀ (.tc : Proc τ)) α} {Q : α → sProp 𝕄} :
    part seg2 c (R2 m c) ⊢ iprop((part seg2 c (R2 m c) -∗ wp frame (wpE (defs₀ (F := F)) 𝒱₀ (c : Dev nD) none) Set.univ (k (v2 m (q 0 c))) Q)
      -∗ wp frame (wpE (defs₀ (F := F)) 𝒱₀ (c : Dev nD) none) Set.univ (.op (.load bR (Rect.unit (s := S2x448x768) ![0, 384, 0] S2x64x768.size inb_S2x448x768_S2x64x768_0_384_0).toLoadRect hl) k) Q) := by
  have h := load_sub (a := bR) (r := Rect.unit (s := S2x448x768) ![0, 384, 0] S2x64x768.size inb_S2x448x768_S2x64x768_0_384_0) (hl := hl) c
    (S := seg2.view.set) rfl (f := R2 m c) (k := k) (Q := Q)
  rw [show (bR.access (Rect.unit (s := S2x448x768) ![0, 384, 0] S2x64x768.size inb_S2x448x768_S2x64x768_0_384_0)).read (Elt F) (R2 m c)
    = v2 m (q 0 c) from read_R2 m c] at h
  exact h

theorem load_own (c : Dev nD) {hl : bA.view.LoadsAt (r6 c).toLoadRect} (f : Buf (Elt F) (bA.view.loc (c : Thread nD τ)))
    {k : ((r6 c).shape.Idx → Elt F .bf16) → Prog (TpuEff nD τ sig (Elt F) Λ₀ (.tc : Proc τ)) α} {Q : α → sProp 𝕄} :
    part (gat0 c) c f ⊢ iprop((part (gat0 c) c f -∗ wp frame (wpE (defs₀ (F := F)) 𝒱₀ (c : Dev nD) none) Set.univ (k ((bA.access (r6 c)).read (Elt F) f)) Q)
      -∗ wp frame (wpE (defs₀ (F := F)) 𝒱₀ (c : Dev nD) none) Set.univ (.op (.load bA (r6 c).toLoadRect hl) k) Q) :=
  load_sub (a := bA) (r := r6 c) (hl := hl) c (S := (gat0 c).view.set) (r6_set c) (f := f) (k := k) (Q := Q)
theorem store_own (c : Dev nD) {w : (r6 c).shape.Idx → Elt F .bf16} (hw : w = v3 m c)
    {hx : (bA.access (r6 c)).Stores Finset.univ} {hm : (Finset.univ : Finset (r6 c).shape.Idx) = Finset.univ ∨ ∀ a, (r6 c).stride a = 1}
    (f : Buf (Elt F) (bA.view.loc (c : Thread nD τ)))
    {k : PUnit → Prog (TpuEff nD τ sig (Elt F) Λ₀ (.tc : Proc τ)) α} {Q : α → sProp 𝕄} :
    part (gat0 c) c f ⊢ iprop((part (gat0 c) c (AG m) -∗ wp frame (wpE (defs₀ (F := F)) 𝒱₀ (c : Dev nD) none) Set.univ (k ⟨⟩) Q)
      -∗ wp frame (wpE (defs₀ (F := F)) 𝒱₀ (c : Dev nD) none) Set.univ (.op (.store bA (r6 c) w Finset.univ hx hm) k) Q) := by
  subst hw
  have h := store_sub (a := bA) (r := r6 c) (w := v3 m c) (hx := hx) (hm := hm) c (S := (gat0 c).view.set) (r6_set c) (f := f) (k := k) (Q := Q)
  iintro H Hk
  iapply h $$ H
  iintro H
  iapply Hk
  iapply (Entails.of_eq (AG_own m c f)) $$ H

theorem part30 (c : Dev nD) (a1 a2 a3 a4 : BitVec 32) {Q : _ → sProp 𝕄} :
    recs m K ⊢ iprop(ops -∗ ow c (dRS c) -∗ tok c (c, some (.rss 0)) -∗ tok c (q 2 c, some (.rsr 0)) -∗ anyp seg0 (q 2 c) -∗ anyp bS c
      -∗ part aO c (A0 m c)
      -∗ (ow c (dR1 c) -∗ crd c (.rss 0) -∗ part aO c (A0 m c) -∗ ∀ (w w' : BitVec 32), Q ⟨w, w'⟩)
      -∗ wp frame (wpE (defs₀ (F := F)) 𝒱₀ (c : Dev nD) none) Set.univ (k0_part30 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 a2 a3 a4) Q) := by
  simp only [k0_part30_eq_skeleton]; unfold k0_part30_skel
  simp only [Prog.lift, Prog.bind_op, Prog.bind_ret, Prog.pure_eq_ret]
  iintro #HI #Hop HO' HtS HtR Hd HS HO Hk
  ihave HS := (anyp_open bS c) $$ HS
  icases HS with ⟨%g, HS⟩
  iapply (load_step (a := aO) c) $$ HO
  iintro HO
  iapply (load_step (a := bS) c) $$ HS
  iintro HS
  iapply (store_as (a := bS) c (snd0.view.write (Elt F) g (v0 m c) Finset.univ)) $$ HS []
  · ipureintro; exact rfl
  iintro HS
  ihave HS := (cut_snd0 c _) $$ HS
  iapply (send_rs0 m K c _ (dev36_eq c) rfl rfl rfl rfl (dR1 c) g) $$ HI Hop HO' HtS HtR HS Hd
  iintro HO' Hc
  rw [wp_ret]
  iapply fupd_intro
  iapply Hk $$ HO' Hc HO

theorem part31 (c : Dev nD) (a1 a2 a3 : BitVec 32) {Q : _ → sProp 𝕄} :
    recs m K ⊢ iprop(levAts L lv -∗ ow c (dR1 c) -∗ crd c (.rss 0) -∗ pos c (.rss 0) 0 -∗ crd c (.rsr 0) -∗ pos c (.rsr 0) 0
      -∗ part aO c (A0 m c)
      -∗ (ow c (dR1 c) -∗ pos c (.rss 0) 1 -∗ pos c (.rsr 0) 1 -∗ part aO c (A1 m c) -∗ part seg0 c (R0 m c)
        -∗ (∃ g, part bS c (snd1.view.write (Elt F) g (v1 m c) Finset.univ)) -∗ ∀ (w : BitVec 32), Q w)
      -∗ wp frame (wpE (defs₀ (F := F)) 𝒱₀ (c : Dev nD) none) Set.univ (k0_part31 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 a2 a3) Q) := by
  simp only [k0_part31_eq_skeleton]; unfold k0_part31_skel
  simp only [Prog.lift, Prog.bind_op, Prog.bind_ret, Prog.pure_eq_ret]
  iintro #HI #Hl HO' Hc HpS HcR HpR HO Hk
  iapply (wait_rss0 m K c rfl rfl (dR1 c) rfl) $$ HI Hl Hc HO' HpS
  iintro HO' HpS HS
  iapply (wait_rsr0 m K c rfl rfl (dR1 c) rfl) $$ HI Hl HcR HO' HpR
  iintro HO' HpR HR
  ihave HS := (join_snd0 c) $$ HS
  iapply (load_step (a := aO) c) $$ HO
  iintro HO
  iapply (load_seg0 m c) $$ HR
  iintro HR
  iapply (load_step (a := aO) c) $$ HO
  iintro HO
  iapply (store_as (a := aO) c (A1 m c)) $$ HO []
  · ipureintro; exact rfl
  iintro HO
  iapply (load_step (a := aO) c) $$ HO
  iintro HO
  ihave HS := (anyp_open bS c) $$ HS
  icases HS with ⟨%g, HS⟩
  iapply (load_step (a := bS) c) $$ HS
  iintro HS
  iapply (store_as (a := bS) c (snd1.view.write (Elt F) g (v1 m c) Finset.univ)) $$ HS []
  · ipureintro; exact rfl
  iintro HS
  rw [wp_ret]
  iapply fupd_intro
  iapply Hk $$ HO' HpS HpR HO HR [HS]
  iexists g; iexact HS

theorem part32 (c : Dev nD) (a1 a2 : BitVec 32) {Q : _ → sProp 𝕄} :
    recs m K ⊢ iprop(levAts L lv -∗ ops -∗ ow c (dR1 c) -∗ tok c (c, some (.rss 1)) -∗ tok c (q 1 c, some (.rsr 1)) -∗ anyp seg1 (q 1 c)
      -∗ (∃ g, part bS c (snd1.view.write (Elt F) g (v1 m c) Finset.univ))
      -∗ pos c (.rss 1) 0 -∗ crd c (.rsr 1) -∗ pos c (.rsr 1) 0
      -∗ (ow c (dR2 c) -∗ pos c (.rss 1) 1 -∗ pos c (.rsr 1) 1 -∗ part seg1 c (R1 m c) -∗ anyp bS c -∗ Q ⟨⟩)
      -∗ wp frame (wpE (defs₀ (F := F)) 𝒱₀ (c : Dev nD) none) Set.univ (k0_part32 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 a2) Q) := by
  simp only [k0_part32_eq_skeleton]; unfold k0_part32_skel
  simp only [Prog.lift, Prog.bind_op, Prog.bind_ret, Prog.pure_eq_ret]
  iintro #HI #Hl #Hop HO' HtS HtR Hd ⟨%g, HS⟩ HpS HcR HpR Hk
  ihave HS := (cut_snd1 c _) $$ HS
  icases HS with ⟨HS, HX⟩
  iapply (send_rs1 m K c _ (dev37_eq c) rfl rfl rfl rfl (dR2 c) g) $$ HI Hop HO' HtS HtR HS Hd
  iintro HO' Hc
  iapply (wait_rss1 m K c rfl rfl (dR2 c) rfl) $$ HI Hl Hc HO' HpS
  iintro HO' HpS HS
  iapply (wait_rsr1 m K c rfl rfl (dR2 c) rfl) $$ HI Hl HcR HO' HpR
  iintro HO' HpR HR
  ihave HS := (join_snd1 c) $$ HS HX
  rw [wp_ret]
  iapply fupd_intro
  iapply Hk $$ HO' HpS HpR HR HS

theorem part33 (c : Dev nD) (a1 a2 : BitVec 32) {Q : _ → sProp 𝕄} :
    part aO c (A1 m c) ⊢ iprop(part seg1 c (R1 m c) -∗ anyp bS c
      -∗ (part aO c (A2 m c) -∗ part seg1 c (R1 m c)
        -∗ (∃ g, part bS c (snd2.view.write (Elt F) g (v2 m c) Finset.univ)) -∗ ∀ (w w' : BitVec 32), Q ⟨w, w'⟩)
      -∗ wp frame (wpE (defs₀ (F := F)) 𝒱₀ (c : Dev nD) none) Set.univ (k0_part33 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 a2) Q) := by
  simp only [k0_part33_eq_skeleton]; unfold k0_part33_skel
  simp only [Prog.lift, Prog.bind_op, Prog.bind_ret, Prog.pure_eq_ret]
  iintro HO HR HS Hk
  iapply (load_step (a := aO) c) $$ HO
  iintro HO
  iapply (load_seg1 m c) $$ HR
  iintro HR
  iapply (load_step (a := aO) c) $$ HO
  iintro HO
  iapply (store_as (a := aO) c (A2 m c)) $$ HO []
  · ipureintro; exact rfl
  iintro HO
  iapply (load_step (a := aO) c) $$ HO
  iintro HO
  ihave HS := (anyp_open bS c) $$ HS
  icases HS with ⟨%g, HS⟩
  iapply (load_step (a := bS) c) $$ HS
  iintro HS
  iapply (store_as (a := bS) c (snd2.view.write (Elt F) g (v2 m c) Finset.univ)) $$ HS []
  · ipureintro; exact rfl
  iintro HS
  rw [wp_ret]
  iapply fupd_intro
  iapply Hk $$ HO HR [HS]
  iexists g; iexact HS

/-- The rows that the device has summed up, before their last cast. -/
def w3 (c : Dev nD) : FVec F S2x64x768 .bf16 := k0_pay53 (aO.view.readAt (Elt F) (r6 c).toLoadRect (A3 m c))

theorem part34 (c : Dev nD) (a1 a2 : BitVec 32) {Q : _ → sProp 𝕄} :
    recs m K ⊢ iprop(levAts L lv -∗ ops -∗ ow c (dR2 c) -∗ tok c (c, some (.rss 2)) -∗ tok c (q 0 c, some (.rsr 2)) -∗ anyp seg2 (q 0 c)
      -∗ (∃ g, part bS c (snd2.view.write (Elt F) g (v2 m c) Finset.univ))
      -∗ pos c (.rss 2) 0 -∗ crd c (.rsr 2) -∗ pos c (.rsr 2) 0 -∗ part aO c (A2 m c)
      -∗ (ow c (dR3 c) -∗ pos c (.rss 2) 1 -∗ pos c (.rsr 2) 1 -∗ part seg2 c (R2 m c) -∗ anyp bS c -∗ part aO c (A3 m c) -∗ Q (w3 m c))
      -∗ wp frame (wpE (defs₀ (F := F)) 𝒱₀ (c : Dev nD) none) Set.univ (k0_part34 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 a2) Q) := by
  simp only [k0_part34_eq_skeleton]; unfold k0_part34_skel
  simp only [Prog.lift, Prog.bind_op, Prog.bind_ret, Prog.pure_eq_ret]
  iintro #HI #Hl #Hop HO' HtS HtR Hd ⟨%g, HS⟩ HpS HcR HpR HO Hk
  ihave HS := (cut_snd2 c _) $$ HS
  icases HS with ⟨HS, HX⟩
  iapply (send_rs2 m K c _ (dev38_eq c) rfl rfl rfl rfl (dR3 c) g) $$ HI Hop HO' HtS HtR HS Hd
  iintro HO' Hc
  iapply (wait_rss2 m K c rfl rfl (dR3 c) rfl) $$ HI Hl Hc HO' HpS
  iintro HO' HpS HS
  iapply (wait_rsr2 m K c rfl rfl (dR3 c) rfl) $$ HI Hl HcR HO' HpR
  iintro HO' HpR HR
  ihave HS := (join_snd2 c) $$ HS HX
  iapply (load_step (a := aO) c) $$ HO
  iintro HO
  iapply (load_seg2 m c) $$ HR
  iintro HR
  iapply (load_step (a := aO) c) $$ HO
  iintro HO
  iapply (store_as (a := aO) c (A3 m c)) $$ HO []
  · ipureintro; exact rfl
  iintro HO
  iapply (load_step (a := aO) c) $$ HO
  iintro HO
  rw [wp_ret]
  iapply fupd_intro
  change Entails' _ (Q (w3 m c))
  iapply Hk $$ HO' HpS HpR HR HS HO

theorem part35 (c : Dev nD) (a1 : BitVec 32) {Q : _ → sProp 𝕄} :
    recs m K ⊢ iprop(levAts L lv -∗ ops -∗ ow c (dR3 c) -∗ tok c (c, some (.ags 0)) -∗ tok c (q 0 c, some (.agr 0)) -∗ anyp (gat0 c) (q 0 c)
      -∗ anyp (gat0 c) c -∗ pos c (.ags 0) 0 -∗ crd c (.agr 0) -∗ pos c (.agr 0) 0
      -∗ (ow c (dR4 c) -∗ pos c (.ags 0) 1 -∗ pos c (.agr 0) 1 -∗ part (gat1 c) c (AG m) -∗ ∀ (w : BitVec 32), Q ⟨w, 64#32⟩)
      -∗ wp frame (wpE (defs₀ (F := F)) 𝒱₀ (c : Dev nD) none) Set.univ (k0_part35 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 (w3 m c)) Q) := by
  simp only [k0_part35_eq_skeleton]; unfold k0_part35_skel
  simp only [Prog.lift, Prog.bind_op, Prog.bind_ret, Prog.pure_eq_ret]
  iintro #HI #Hl #Hop HO' HtS HtR Hd HA HpS HcR HpR Hk
  ihave HA := (anyp_open (gat0 c) c) $$ HA
  icases HA with ⟨%g, HA⟩
  iapply (load_own c g) $$ HA
  iintro HA
  iapply (store_own m c rfl g) $$ HA
  iintro HA
  iapply (send_ag0 m K c _ (dev39_eq c) rfl rfl rfl rfl (dR4 c)) $$ HI Hop HO' HtS HtR HA Hd
  iintro HO' Hc
  iapply (wait_ags0 m K c rfl rfl (dR4 c) rfl) $$ HI Hl Hc HO' HpS
  iintro HO' HpS HA
  iapply (wait_agr0 m K c rfl rfl (dR4 c) rfl) $$ HI Hl HcR HO' HpR
  iintro HO' HpR HB
  ihave HA := (gat_cut1 c c (AG m)).2 $$ [HA HB]
  · isplitl [HA]; · iexact HA
    iexact HB
  rw [wp_ret]
  iapply fupd_intro
  iapply Hk $$ HO' HpS HpR HA

theorem part36 (c : Dev nD) (a1 a2 a3 a4 : BitVec 32) {Q : _ → sProp 𝕄} :
    recs m K ⊢ iprop(levAts L lv -∗ ops -∗ ow c (dR4 c) -∗ tok c (c, some (.ags 1)) -∗ tok c (q 1 c, some (.agr 1)) -∗ anyp (gat1 c) (q 1 c)
      -∗ part (gat1 c) c (AG m) -∗ pos c (.ags 1) 0 -∗ crd c (.agr 1) -∗ pos c (.agr 1) 0
      -∗ (ow c (dR5 c) -∗ pos c (.ags 1) 1 -∗ pos c (.agr 1) 1 -∗ part (gat2 c) c (AG m) -∗ Q ⟨⟩)
      -∗ wp frame (wpE (defs₀ (F := F)) 𝒱₀ (c : Dev nD) none) Set.univ (k0_part36 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1 a2 a3 a4) Q) := by
  simp only [k0_part36_eq_skeleton]; unfold k0_part36_skel
  simp only [Prog.lift, Prog.bind_op, Prog.bind_ret, Prog.pure_eq_ret]
  iintro #HI #Hl #Hop HO' HtS HtR Hd HA HpS HcR HpR Hk
  iapply (send_ag1 m K c _ (dev40_eq c) rfl rfl rfl rfl (dR5 c)) $$ HI Hop HO' HtS HtR HA Hd
  iintro HO' Hc
  iapply (wait_ags1 m K c rfl rfl (dR5 c) rfl) $$ HI Hl Hc HO' HpS
  iintro HO' HpS HA
  iapply (wait_agr1 m K c rfl rfl (dR5 c) rfl) $$ HI Hl HcR HO' HpR
  iintro HO' HpR HB
  ihave HA := (gat_cut2 c c (AG m)).2 $$ [HA HB]
  · isplitl [HA]; · iexact HA
    iexact HB
  rw [wp_ret]
  iapply fupd_intro
  iapply Hk $$ HO' HpS HpR HA

theorem part37 (c : Dev nD) (a1 : BitVec 32) {Q : _ → sProp 𝕄} :
    recs m K ⊢ iprop(levAts L lv -∗ ops -∗ ow c (dR5 c) -∗ tok c (c, some (.ags 2)) -∗ tok c (q 2 c, some (.agr 2)) -∗ anyp (gat2 c) (q 2 c)
      -∗ part (gat2 c) c (AG m) -∗ pos c (.ags 2) 0 -∗ crd c (.agr 2) -∗ pos c (.agr 2) 0 -∗ part aO c (A3 m c)
      -∗ (ow c [] -∗ pos c (.ags 2) 1 -∗ pos c (.agr 2) 1 -∗ part bA c (AG m) -∗ part aO c (A3 m c) -∗ Q (OUT m))
      -∗ wp frame (wpE (defs₀ (F := F)) 𝒱₀ (c : Dev nD) none) Set.univ (k0_part37 (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10 c a1) Q) := by
  simp only [k0_part37_eq_skeleton]; unfold k0_part37_skel
  simp only [Prog.lift, Prog.bind_op, Prog.bind_ret, Prog.pure_eq_ret]
  iintro #HI #Hl #Hop HO' HtS HtR Hd HA HpS HcR HpR HO Hk
  iapply (send_ag2 m K c _ (dev41_eq c) rfl rfl rfl rfl []) $$ HI Hop HO' HtS HtR HA Hd
  iintro HO' Hc
  iapply (wait_ags2 m K c rfl rfl (dR6 c) rfl) $$ HI Hl Hc HO' HpS
  iintro HO' HpS HA
  iapply (wait_agr2 m K c rfl rfl (dR6 c) rfl) $$ HI Hl HcR HO' HpR
  iintro HO' HpR HB
  ihave HA := (gat_cut3 c c (AG m)).2 $$ [HA HB]
  · isplitl [HA]; · iexact HA
    iexact HB
  iapply (load_step (a := bA) c) $$ HA
  iintro HA
  iapply (load_step (a := aO) c) $$ HO
  iintro HO
  rw [wp_ret]
  iapply fupd_intro
  change Entails' _ (Q (OUT m))
  iapply Hk $$ HO' HpS HpR HA HO

end Cert.KernelIdeal.Proto
-- ==== Proof.KernelIdeal.Body.lean ====
module
public import proofs.«01_k».proof.Proof.KernelIdeal.States
public import proofs.«01_k».proof.Proof.KernelIdeal.Mid
public import proofs.«01_k».proof.Proof.KernelIdeal.Tail
@[expose] public section

/-!
# The body

One device's run of the body: what it starts from, and what it leaves.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

/-- A device's places at the cells of the key and value copies. -/
def kv (c : Dev nD) (f : Own → ℕ) : sProp 𝕄 :=
  iprop((bigSep Finset.univ fun t => pos c (.ks 0 t) (f (.ks 0 t))) ∗ (bigSep Finset.univ fun t => pos c (.ks 1 t) (f (.ks 1 t)))
    ∗ pos c (.kr 0 0) (f (.kr 0 0)) ∗ pos c (.kr 0 1) (f (.kr 0 1)) ∗ pos c (.kr 1 0) (f (.kr 1 0)) ∗ pos c (.kr 1 1) (f (.kr 1 1)))
/-- The round that an own cell is left at. -/
def endR (c : Dev nD) (k : Own) : ℕ := if used c k then 1 else 0

/-- The tokens and the units for the key and value copies. -/
def ext_0 : sProp 𝕄 :=
  iprop(all0 (fun t => tok 0 (0, some (.ks 0 t))) ∗ all0 (fun t => tok 0 (t, some (.kr 0 0)))
    ∗ all0 (fun t => tok 0 (0, some (.ks 1 t))) ∗ all0 (fun t => tok 0 (t, some (.kr 0 1))) ∗ crd 0 (.kr 1 0) ∗ crd 0 (.kr 1 1))
def ext_1 : sProp 𝕄 :=
  iprop(all1 (fun t => tok 1 (1, some (.ks 0 t))) ∗ all1 (fun t => tok 1 (t, some (.kr 1 0)))
    ∗ all1 (fun t => tok 1 (1, some (.ks 1 t))) ∗ all1 (fun t => tok 1 (t, some (.kr 1 1))) ∗ crd 1 (.kr 0 0) ∗ crd 1 (.kr 0 1))
def ext_n (c : Dev nD) : sProp 𝕄 :=
  iprop(crd c (.kr 0 0) ∗ crd c (.kr 0 1) ∗ crd c (.kr 1 0) ∗ crd c (.kr 1 1))
def ext (c : Dev nD) : sProp 𝕄 := if c = 0 then ext_0 else if c = 1 then ext_1 else ext_n c
theorem ext_z : ext (F := F) 0 = ext_0 := if_pos rfl
theorem ext_o : ext (F := F) 1 = ext_1 := (if_neg (by decide)).trans (if_pos rfl)
theorem ext_r {c : Dev nD} (h0 : c ≠ 0) (h1 : c ≠ 1) : ext (F := F) c = ext_n c := (if_neg h0).trans (if_neg h1)

/-- The rows of the key and the value window that a device fills itself. -/
def keepK (c : Dev nD) : sProp 𝕄 :=
  if c = 0 then iprop(anyp (F := F) (row0 bK) c ∗ anyp (row0 bV) c) else if c = 1 then iprop(anyp (F := F) (row1 bK) c ∗ anyp (row1 bV) c) else iprop(emp)

theorem any_rows_K (c : Dev nD) : (anyp bK c : sProp 𝕄) ⊢ iprop(anyp (row0 bK) c ∗ anyp (row1 bK) c) := by
  iintro H
  ihave H := (anyp_open bK c) $$ H
  icases H with ⟨%f, H⟩
  ihave H := (rows_K c f).1 $$ H
  icases H with ⟨H0, H1⟩
  isplitl [H0]; · iapply (anyp_of (row0 bK) c f) $$ H0
  iapply (anyp_of (row1 bK) c f) $$ H1
theorem any_rows_V (c : Dev nD) : (anyp bV c : sProp 𝕄) ⊢ iprop(anyp (row0 bV) c ∗ anyp (row1 bV) c) := by
  iintro H
  ihave H := (anyp_open bV c) $$ H
  icases H with ⟨%f, H⟩
  ihave H := (rows_V c f).1 $$ H
  icases H with ⟨H0, H1⟩
  isplitl [H0]; · iapply (anyp_of (row0 bV) c f) $$ H0
  iapply (anyp_of (row1 bV) c f) $$ H1

theorem split_kv (c : Dev nD) : iprop(anyp bK c ∗ anyp bV c) ⊢ (iprop(keepK c ∗ giveK c) : sProp 𝕄) := by
  unfold keepK giveK
  iintro ⟨HK, HV⟩
  ihave HK := (any_rows_K c) $$ HK
  ihave HV := (any_rows_V c) $$ HV
  icases HK with ⟨K0, K1⟩
  icases HV with ⟨V0, V1⟩
  by_cases h0 : c = 0
  · have h1 : ¬ c = 1 := by rw [h0]; decide
    rw [if_pos h0, if_neg h1]
    isplitl [K0 V0]
    · isplitl [K0]; · iexact K0
      iexact V0
    isplitr; · rw [if_pos h0]; iempintro
    isplitl [K1]; · iexact K1
    iexact V1
  rw [if_neg h0]
  by_cases h1 : c = 1
  · rw [if_pos h1, if_neg h0]
    isplitl [K1 V1]
    · isplitl [K1]; · iexact K1
      iexact V1
    isplitl [K0 V0]
    · isplitl [K0]; · iexact K0
      iexact V0
    rw [if_pos h1]; iempintro
  rw [if_neg h1, if_neg h0]
  isplitr; · iempintro
  isplitl [K0 V0]
  · isplitl [K0]; · iexact K0
    iexact V0
  rw [if_neg h1]
  isplitl [K1]; · iexact K1
  iexact V1

theorem pk_sep0 (A B C : Dev nD → sProp 𝕄) : iprop(all0 A ∗ all0 B ∗ all0 C) ⊢ all0 fun t => iprop(A t ∗ B t ∗ C t) := by
  rw [← all0_eq, ← all0_eq, ← all0_eq, ← all0_eq]
  refine Entails.of_eq ?_
  rw [bigSep_sep', bigSep_sep']
theorem pk_sep1 (A B C : Dev nD → sProp 𝕄) : iprop(all1 A ∗ all1 B ∗ all1 C) ⊢ all1 fun t => iprop(A t ∗ B t ∗ C t) := by
  rw [← all1_eq, ← all1_eq, ← all1_eq, ← all1_eq]
  refine Entails.of_eq ?_
  rw [bigSep_sep', bigSep_sep']
theorem univ0 (Φ : Dev nD → sProp 𝕄) : bigSep Finset.univ Φ = iprop(Φ 0 ∗ all0 Φ) := by
  rw [bigSep_erase' (Finset.mem_univ 0), all0_eq]
theorem univ1 (Φ : Dev nD → sProp 𝕄) : bigSep Finset.univ Φ = iprop(Φ 1 ∗ all1 Φ) := by
  rw [bigSep_erase' (Finset.mem_univ 1), all1_eq]
theorem pkK0_of : iprop(all0 (fun t => tok 0 (0, some (.ks 0 t))) ∗ all0 (fun t => tok 0 (t, some (.kr 0 0))) ∗ all0 (fun t => part (col0 aK t) 0 (kC m 0)))
    ⊢ all0 fun t => pkK0 m t := pk_sep0 _ _ _
theorem pkV0_of : iprop(all0 (fun t => tok 0 (0, some (.ks 1 t))) ∗ all0 (fun t => tok 0 (t, some (.kr 0 1))) ∗ all0 (fun t => part (col0 aV t) 0 (vC m 0)))
    ⊢ all0 fun t => pkV0 m t := pk_sep0 _ _ _
theorem pkK1_of : iprop(all1 (fun t => tok 1 (1, some (.ks 0 t))) ∗ all1 (fun t => tok 1 (t, some (.kr 1 0))) ∗ all1 (fun t => part (col1 aK t) 1 (kC m 1)))
    ⊢ all1 fun t => pkK1 m t := pk_sep1 _ _ _
theorem pkV1_of : iprop(all1 (fun t => tok 1 (1, some (.ks 1 t))) ∗ all1 (fun t => tok 1 (t, some (.kr 1 1))) ∗ all1 (fun t => part (col1 aV t) 1 (vC m 1)))
    ⊢ all1 fun t => pkV1 m t := pk_sep1 _ _ _

theorem endR_n (c : Dev nD) (h0 : c ≠ 0) (h1 : c ≠ 1) (ci : Fin 2) (t : Fin 8) : endR c (.ks ci t) = 0 := by
  revert c ci t; decide +kernel
theorem endR_kr (c : Dev nD) (h0 : c ≠ 0) (h1 : c ≠ 1) (r ci : Fin 2) : endR c (.kr r ci) = 1 := by
  revert c r ci; decide +kernel
theorem endR_0 (ci : Fin 2) (t : Fin 8) (h : t ≠ 0) : endR 0 (.ks ci t) = 1 := by revert ci t; decide +kernel
theorem endR_1 (ci : Fin 2) (t : Fin 8) (h : t ≠ 1) : endR 1 (.ks ci t) = 1 := by revert ci t; decide +kernel
theorem ks_end0 (ci : Fin 2) : all0 (fun t => pos (F := F) 0 (.ks ci t) 1) = all0 fun t => pos 0 (.ks ci t) (endR 0 (.ks ci t)) := by
  rw [← all0_eq, ← all0_eq]
  exact bigSep_congr fun t ht => by rw [endR_0 ci t (Finset.mem_erase.mp ht).1]
theorem ks_end1 (ci : Fin 2) : all1 (fun t => pos (F := F) 1 (.ks ci t) 1) = all1 fun t => pos 1 (.ks ci t) (endR 1 (.ks ci t)) := by
  rw [← all1_eq, ← all1_eq]
  exact bigSep_congr fun t ht => by rw [endR_1 ci t (Finset.mem_erase.mp ht).1]
theorem ks_endn (c : Dev nD) (h0 : c ≠ 0) (h1 : c ≠ 1) (ci : Fin 2) :
    (bigSep Finset.univ fun t => pos (F := F) c (.ks ci t) 0) = bigSep Finset.univ fun t => pos c (.ks ci t) (endR c (.ks ci t)) :=
  bigSep_congr fun t _ => by rw [endR_n c h0 h1 ci t]

theorem start (c : Dev nD) : iprop(ext c ∗ kv c (fun _ => 0) ∗ keepK c ∗ part aK c (kC m c) ∗ part aV c (vC m c)) ⊢ W0 m c := by
  by_cases h0 : c = 0
  · subst h0
    rw [ext_z, W0_z, show keepK (F := F) 0 = iprop(anyp (row0 bK) 0 ∗ anyp (row0 bV) 0) from if_pos rfl]
    unfold ext_0 kv W0_0 idle0
    rw [univ0, univ0, cols_K, cols_V, univ0, univ0]
    iintro ⟨⟨T0, T1, T2, T3, crK, crV⟩, ⟨⟨I0, psK0⟩, ⟨I1, psV0⟩, I2, I3, prK0, prV0⟩, ⟨anyK, anyV⟩, ⟨ownK, cK⟩, ownV, cV⟩
    ihave pkK := (pkK0_of m) $$ [T0 T1 cK]
    · isplitl [T0]; · iexact T0
      isplitl [T1]; · iexact T1
      iexact cK
    ihave pkV := (pkV0_of m) $$ [T2 T3 cV]
    · isplitl [T2]; · iexact T2
      isplitl [T3]; · iexact T3
      iexact cV
    isplitl [pkK]; · iexact pkK
    isplitl [pkV]; · iexact pkV
    isplitl [ownK]; · iexact ownK
    isplitl [ownV]; · iexact ownV
    isplitl [anyK]; · iexact anyK
    isplitl [anyV]; · iexact anyV
    isplitl [psK0]; · iexact psK0
    isplitl [psV0]; · iexact psV0
    isplitl [crK]; · iexact crK
    isplitl [prK0]; · iexact prK0
    isplitl [crV]; · iexact crV
    isplitl [prV0]; · iexact prV0
    isplitl [I0]; · iexact I0
    isplitl [I1]; · iexact I1
    isplitl [I2]; · iexact I2
    iexact I3
  by_cases h1 : c = 1
  · subst h1
    rw [ext_o, W0_o, show keepK (F := F) 1 = iprop(anyp (row1 bK) 1 ∗ anyp (row1 bV) 1) from (if_neg (by decide)).trans (if_pos rfl)]
    unfold ext_1 kv W0_1 idle1
    rw [univ1, univ1]
    iintro ⟨⟨T0, T1, T2, T3, crK, crV⟩, ⟨⟨I0, psK0⟩, ⟨I1, psV0⟩, prK0, prV0, I2, I3⟩, ⟨anyK, anyV⟩, HK, HV⟩
    ihave HK := (cols1_K 1 (kC m 1)).1 $$ HK
    ihave HV := (cols1_V 1 (vC m 1)).1 $$ HV
    rw [univ1, univ1]
    icases HK with ⟨⟨ownK, cK⟩, I4⟩
    icases HV with ⟨⟨ownV, cV⟩, I5⟩
    ihave pkK := (pkK1_of m) $$ [T0 T1 cK]
    · isplitl [T0]; · iexact T0
      isplitl [T1]; · iexact T1
      iexact cK
    ihave pkV := (pkV1_of m) $$ [T2 T3 cV]
    · isplitl [T2]; · iexact T2
      isplitl [T3]; · iexact T3
      iexact cV
    isplitl [pkK]; · iexact pkK
    isplitl [pkV]; · iexact pkV
    isplitl [ownK]; · iexact ownK
    isplitl [ownV]; · iexact ownV
    isplitl [anyK]; · iexact anyK
    isplitl [anyV]; · iexact anyV
    isplitl [psK0]; · iexact psK0
    isplitl [psV0]; · iexact psV0
    isplitl [crK]; · iexact crK
    isplitl [prK0]; · iexact prK0
    isplitl [crV]; · iexact crV
    isplitl [prV0]; · iexact prV0
    isplitl [I0]; · iexact I0
    isplitl [I1]; · iexact I1
    isplitl [I2]; · iexact I2
    isplitl [I3]; · iexact I3
    isplitl [I4]; · iexact I4
    iexact I5
  rw [ext_r h0 h1, W0_r m h0 h1]
  unfold ext_n kv W0_n idlen
  iintro ⟨⟨cr00, cr01, cr10, cr11⟩, ⟨I0, I1, p000, p010, p100, p110⟩, -, HK, HV⟩
  isplitl [cr00]; · iexact cr00
  isplitl [cr01]; · iexact cr01
  isplitl [cr10]; · iexact cr10
  isplitl [cr11]; · iexact cr11
  isplitl [p000]; · iexact p000
  isplitl [p010]; · iexact p010
  isplitl [p100]; · iexact p100
  isplitl [p110]; · iexact p110
  isplitl [I0]; · iexact I0
  isplitl [I1]; · iexact I1
  isplitl [HK]; · iexact HK
  iexact HV

theorem finish (c : Dev nD) : W4 m c ⊢ iprop(kv c (endR c) ∗ part aK c (kC m c) ∗ part aV c (vC m c)) := by
  by_cases h0 : c = 0
  · subst h0
    rw [W4_z]
    unfold W4_0 kv idle0
    rw [univ0, univ0, cols_K, cols_V, univ0, univ0, ks_end0, ks_end0]
    iintro ⟨ownK, ownV, colsK, colsV, psK1, psV1, prK1, prV1, I0, I1, I2, I3⟩
    isplitl [psK1 psV1 prK1 prV1 I0 I1 I2 I3]
    · isplitl [I0 psK1]
      · isplitl [I0]; · iexact I0
        iexact psK1
      isplitl [I1 psV1]
      · isplitl [I1]; · iexact I1
        iexact psV1
      isplitl [I2]; · iexact I2
      isplitl [I3]; · iexact I3
      isplitl [prK1]; · iexact prK1
      iexact prV1
    isplitl [ownK colsK]
    · isplitl [ownK]; · iexact ownK
      iexact colsK
    isplitl [ownV]; · iexact ownV
    iexact colsV
  by_cases h1 : c = 1
  · subst h1
    rw [W4_o]
    unfold W4_1 kv idle1
    rw [univ1, univ1, ks_end1, ks_end1]
    iintro ⟨ownK, ownV, colsK, colsV, psK1, psV1, prK1, prV1, I0, I1, I2, I3, I4, I5⟩
    isplitl [psK1 psV1 prK1 prV1 I0 I1 I2 I3]
    · isplitl [I0 psK1]
      · isplitl [I0]; · iexact I0
        iexact psK1
      isplitl [I1 psV1]
      · isplitl [I1]; · iexact I1
        iexact psV1
      isplitl [prK1]; · iexact prK1
      isplitl [prV1]; · iexact prV1
      isplitl [I2]; · iexact I2
      iexact I3
    isplitl [ownK colsK I4]
    · iapply (cols1_K 1 (kC m 1)).2
      rw [univ1]
      isplitl [ownK colsK]
      · isplitl [ownK]; · iexact ownK
        iexact colsK
      iexact I4
    iapply (cols1_V 1 (vC m 1)).2
    rw [univ1]
    isplitl [ownV colsV]
    · isplitl [ownV]; · iexact ownV
      iexact colsV
    iexact I5
  rw [W4_r m h0 h1]
  unfold W4_n kv idlen
  rw [ks_endn c h0 h1, ks_endn c h0 h1, endR_kr c h0 h1, endR_kr c h0 h1, endR_kr c h0 h1, endR_kr c h0 h1]
  iintro ⟨p001, p011, p101, p111, I0, I1, HK, HV⟩
  isplitl [p001 p011 p101 p111 I0 I1]
  · isplitl [I0]; · iexact I0
    isplitl [I1]; · iexact I1
    isplitl [p001]; · iexact p001
    isplitl [p011]; · iexact p011
    isplitl [p101]; · iexact p101
    iexact p111
  isplitl [HK]; · iexact HK
  iexact HV

/-- A device's places at the cells of the exchange. -/
def tailPos (c : Dev nD) (n : ℕ) : sProp 𝕄 :=
  iprop(pos c (.rss 0) n ∗ pos c (.rss 1) n ∗ pos c (.rss 2) n ∗ pos c (.rsr 0) n ∗ pos c (.rsr 1) n ∗ pos c (.rsr 2) n ∗ pos c (.ags 0) n ∗ pos c (.ags 1) n ∗ pos c (.ags 2) n ∗ pos c (.agr 0) n ∗ pos c (.agr 1) n ∗ pos c (.agr 2) n)
/-- The units that the exchange brings. -/
def tailCrd (c : Dev nD) : sProp 𝕄 :=
  iprop(crd c (.rsr 0) ∗ crd c (.rsr 1) ∗ crd c (.rsr 2) ∗ crd c (.agr 0) ∗ crd c (.agr 1) ∗ crd c (.agr 2))
/-- The tokens for the exchange. -/
def tailTok (c : Dev nD) : sProp 𝕄 :=
  iprop(tok c (c, some (.rss 0)) ∗ tok c (c, some (.rss 1)) ∗ tok c (c, some (.rss 2)) ∗ tok c (q 2 c, some (.rsr 0)) ∗ tok c (q 1 c, some (.rsr 1)) ∗ tok c (q 0 c, some (.rsr 2)) ∗ tok c (c, some (.ags 0)) ∗ tok c (c, some (.ags 1)) ∗ tok c (c, some (.ags 2)) ∗ tok c (q 0 c, some (.agr 0)) ∗ tok c (q 1 c, some (.agr 1)) ∗ tok c (q 2 c, some (.agr 2)))
/-- The tokens for the handshake. -/
def barTok (c : Dev nD) : sProp 𝕄 :=
  iprop(tok c (nx 1 c, none) ∗ tok c (nx 2 c, none) ∗ tok c (nx 3 c, none) ∗ tok c (nx 4 c, none) ∗ tok c (nx 5 c, none) ∗ tok c (nx 6 c, none) ∗ tok c (nx 7 c, none))

/-- The last store fills the output buffer. -/
theorem out_write (c : Dev nD) (f : Buf (Elt F) (aO.view.loc (c : Thread nD τ))) :
    (aO.access (Rect.unit (s := S2x512x768) ![0, 0, 0] S2x512x768.size inb_S2x512x768_S2x512x768_0_0_0)).write (Elt F) f (OUT m) Finset.univ = OUT m :=
  Memref.write_access_unit_zero_univ _ _ (by decide) _ _ _

/-- One device runs the body: it starts with its tokens and its places, and ends with the output buffer filled. -/
theorem body (c : Dev nD) (f : Buf (Elt F) (aO.view.loc (c : Thread nD τ))) {Q : PUnit → sProp 𝕄} :
    recs m K ⊢ iprop(levAts L lv -∗ bars -∗ opened c -∗ ow c (dAll c) -∗ barTok c -∗ cred (tallyAt (kcell (c, none)) () 7)
      -∗ atPos ER (kcell (c, none)) 0 ∅ 0 -∗ ext c -∗ tailTok c -∗ tailCrd c -∗ kv c (fun _ => 0) -∗ tailPos c 0
      -∗ part aX c (xC m c) -∗ part aQ c (qC m c) -∗ part aK c (kC m c) -∗ part aV c (vC m c) -∗ part aW c (wC m c) -∗ part aO c f
      -∗ anyp bK c -∗ anyp bV c -∗ anyp bR c -∗ anyp bS c -∗ anyp bA c
      -∗ (ow c [] -∗ atPos ER (kcell (c, none)) 1 ∅ 0 -∗ kv c (endR c) -∗ tailPos c 1
        -∗ part aX c (xC m c) -∗ part aQ c (qC m c) -∗ part aK c (kC m c) -∗ part aV c (vC m c) -∗ part aW c (wC m c) -∗ part aO c (OUT m)
        -∗ anyp bK c -∗ anyp bV c -∗ anyp bR c -∗ anyp bS c -∗ anyp bA c -∗ Q ⟨⟩)
      -∗ wp frame (wpE (defs₀ (F := F)) 𝒱₀ (c : Dev nD) none) Set.univ (cc0_body (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10) Q) := by
  unfold cc0_body barTok tailTok tailCrd tailPos
  simp only [wp_bind]
  iintro #HI #Hl #HB #Ho HO ⟨T1, T2, T3, T4, T5, T6, T7⟩ Hc Ha He ⟨trss0, trss1, trss2, trsr0, trsr1, trsr2, tags0, tags1, tags2, tagr0, tagr1, tagr2⟩ ⟨crsr0, crsr1, crsr2, cagr0, cagr1, cagr2⟩ Hkv ⟨prss0, prss1, prss2, prsr0, prsr1, prsr2, pags0, pags1, pags2, pagr0, pagr1, pagr2⟩ HX HQ HK HV HW HOut HbK HbV HbR HbS HbA Hk
  ihave Hkg := (split_kv c) $$ [HbK HbV]
  · isplitl [HbK]; · iexact HbK
    iexact HbV
  icases Hkg with ⟨Hkeep, Hgive⟩
  ihave HW0 := (start m c) $$ [He Hkv Hkeep HK HV]
  · isplitl [He]; · iexact He
    isplitl [Hkv]; · iexact Hkv
    isplitl [Hkeep]; · iexact Hkeep
    isplitl [HK]; · iexact HK
    iexact HV
  ihave HbR := (segs_split c) $$ HbR
  icases HbR with ⟨S0, S1, S2⟩
  ihave HbA := (gat_split c) $$ HbA
  icases HbA with ⟨Gown, G0, G1, G2⟩
  ihave Hpay := (give_bar c) $$ [Hgive S0 S1 S2 G0 G1 G2]
  · isplitr; · iexact Ho
    isplitl [Hgive]; · iexact Hgive
    unfold giveS
    isplitl [S0 G2]
    · isplitl [S0]; · iexact S0
      iexact G2
    isplitl [S1 G1]
    · isplitl [S1]; · iexact S1
      iexact G1
    isplitl [S2]; · iexact S2
    iexact G0
  ihave Hpay := (Entails.of_eq (erase_seven c (fun d => barPay c d))) $$ Hpay
  icases Hpay with ⟨B1, B2, B3, B4, B5, B6, B7⟩
  iapply (part18 m K c) $$ HI HB HO T1 T2 T3 T4 T5 B1 B2 B3 B4 B5
  iintro HO
  try dsimp only
  iapply (part19 m K c) $$ HI Hl HB Ho HO T6 T7 B6 B7 Hc Ha HW0 HX HQ
  iintro HO Ha #Hop Hpe HW1 HX HQ
  try dsimp only
  iapply (part20 m K c) $$ HI Hl Hop HO HW1 HQ
  iintro HO HW2 HbK HQ
  try dsimp only
  iapply (part21 m c) $$ HbK
  iintro HbK
  try dsimp only
  iapply (part22 m c) $$ HbK
  iintro HbK
  try dsimp only
  iapply (part23 m c) $$ HbK
  iintro HbK
  try dsimp only
  iapply (part24 m c) $$ HbK
  iintro HbK
  try dsimp only
  iapply (part25 m c) $$ HbK
  iintro HbK
  try dsimp only
  iapply (part26 m K c) $$ HI Hl HO HW2 HbK
  iintro HO HW3 HbK
  try dsimp only
  iapply (part27 m K c) $$ HI Hl HO HW3
  iintro HO HW4 HbV
  try dsimp only
  iapply (part28 m c f) $$ HbV HW HOut
  iintro HbV HW HOut
  try dsimp only
  iapply (part29 m c _ f) $$ HbV HW HOut
  iintro HbV HW HOut %w1 %w2 %w3
  try dsimp only
  unfold peers
  icases Hpe with ⟨⟨R0, G2⟩, ⟨R1, G1⟩, R2, G0⟩
  iapply (part30 m K c) $$ HI Hop HO trss0 trsr0 R0 HbS HOut
  iintro HO crss HOut %w4 %w5
  try dsimp only
  iapply (part31 m K c) $$ HI Hl HO crss prss0 crsr0 prsr0 HOut
  iintro HO prss0 prsr0 HOut R0 HbS %w6
  try dsimp only
  iapply (part32 m K c) $$ HI Hl Hop HO trss1 trsr1 R1 HbS prss1 crsr1 prsr1
  iintro HO prss1 prsr1 R1 HbS
  try dsimp only
  iapply (part33 m c) $$ HOut R1 HbS
  iintro HOut R1 HbS %w7 %w8
  try dsimp only
  iapply (part34 m K c) $$ HI Hl Hop HO trss2 trsr2 R2 HbS prss2 crsr2 prsr2 HOut
  iintro HO prss2 prsr2 R2 HbS HOut
  try dsimp only
  iapply (part35 m K c) $$ HI Hl Hop HO tags0 tagr0 G0 Gown pags0 cagr0 pagr0
  iintro HO pags0 pagr0 G %w9
  try dsimp only
  iapply (part36 m K c) $$ HI Hl Hop HO tags1 tagr1 G1 G pags1 cagr1 pagr1
  iintro HO pags1 pagr1 G
  try dsimp only
  iapply (part37 m K c) $$ HI Hl Hop HO tags2 tagr2 G2 G pags2 cagr2 pagr2 HOut
  iintro HO pags2 pagr2 HbA HOut
  simp only [Prog.lift, Prog.bind_op, Prog.bind_ret, Prog.pure_eq_ret]
  iapply (store_as (a := aO) c (OUT m)) $$ HOut []
  · ipureintro; exact out_write m c _
  iintro HOut
  rw [wp_ret]
  iapply fupd_intro
  rw [wp_ret]
  iapply fupd_intro
  ihave Hend := (finish m c) $$ HW4
  icases Hend with ⟨Hkv, HK, HV⟩
  ihave HbR := (segs_join c) $$ [R0 R1 R2]
  · isplitl [R0]; · iapply (anyp_of seg0 c _) $$ R0
    isplitl [R1]; · iapply (anyp_of seg1 c _) $$ R1
    iapply (anyp_of seg2 c _) $$ R2
  ihave HbK := (anyp_of bK c _) $$ HbK
  ihave HbV := (anyp_of bV c _) $$ HbV
  ihave HbA := (anyp_of bA c _) $$ HbA
  iapply Hk $$ HO Ha Hkv [prss0 prss1 prss2 prsr0 prsr1 prsr2 pags0 pags1 pags2 pagr0 pagr1 pagr2] HX HQ HK HV HW HOut HbK HbV HbR HbS HbA
  isplitl [prss0]; · iexact prss0
  isplitl [prss1]; · iexact prss1
  isplitl [prss2]; · iexact prss2
  isplitl [prsr0]; · iexact prsr0
  isplitl [prsr1]; · iexact prsr1
  isplitl [prsr2]; · iexact prsr2
  isplitl [pags0]; · iexact pags0
  isplitl [pags1]; · iexact pags1
  isplitl [pags2]; · iexact pags2
  isplitl [pagr0]; · iexact pagr0
  isplitl [pagr1]; · iexact pagr1
  iexact pagr2

end Cert.KernelIdeal.Proto
-- ==== Proof.KernelIdeal.Region.lean ====
module
public import proofs.«01_k».proof.Proof.KernelIdeal.Body
public import Idealize.ShloMosaic.Lib.Pipeline.RegionTalk
@[expose] public section

/-!
# The kernel's region on one device

What enters the region and what leaves it, the body as the pipeline calls it, and the region as one segment of the
program.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

open Idealize.ShloMosaic.Pipeline (Dat Cfg Window BodyObligation)

/-- A device's places at all of its cells. -/
def poss (c : Dev nD) (f : Own → ℕ) : sProp 𝕄 := bigSep Finset.univ fun k : Own => pos c k (f k)

theorem bigSep_own (Φ : Own → sProp 𝕄) : bigSep Finset.univ Φ = iprop(Φ (.ks 0 0) ∗ Φ (.ks 0 1) ∗ Φ (.ks 0 2) ∗ Φ (.ks 0 3) ∗ Φ (.ks 0 4) ∗ Φ (.ks 0 5) ∗ Φ (.ks 0 6) ∗ Φ (.ks 0 7) ∗ Φ (.ks 1 0) ∗ Φ (.ks 1 1) ∗ Φ (.ks 1 2) ∗ Φ (.ks 1 3) ∗ Φ (.ks 1 4) ∗ Φ (.ks 1 5) ∗ Φ (.ks 1 6) ∗ Φ (.ks 1 7) ∗ Φ (.kr 0 0) ∗ Φ (.kr 0 1) ∗ Φ (.kr 1 0) ∗ Φ (.kr 1 1) ∗ Φ (.rss 0) ∗ Φ (.rss 1) ∗ Φ (.rss 2) ∗ Φ (.rsr 0) ∗ Φ (.rsr 1) ∗ Φ (.rsr 2) ∗ Φ (.ags 0) ∗ Φ (.ags 1) ∗ Φ (.ags 2) ∗ Φ (.agr 0) ∗ Φ (.agr 1) ∗ Φ (.agr 2)) :=
  bigSep_univ_eq_bigSepL [(.ks 0 0 : Own), (.ks 0 1 : Own), (.ks 0 2 : Own), (.ks 0 3 : Own), (.ks 0 4 : Own), (.ks 0 5 : Own), (.ks 0 6 : Own), (.ks 0 7 : Own), (.ks 1 0 : Own), (.ks 1 1 : Own), (.ks 1 2 : Own), (.ks 1 3 : Own), (.ks 1 4 : Own), (.ks 1 5 : Own), (.ks 1 6 : Own), (.ks 1 7 : Own), (.kr 0 0 : Own), (.kr 0 1 : Own), (.kr 1 0 : Own), (.kr 1 1 : Own), (.rss 0 : Own), (.rss 1 : Own), (.rss 2 : Own), (.rsr 0 : Own), (.rsr 1 : Own), (.rsr 2 : Own), (.ags 0 : Own), (.ags 1 : Own), (.ags 2 : Own), (.agr 0 : Own), (.agr 1 : Own), (.agr 2 : Own)] (by decide) (by decide) Φ
theorem bigSep_dev (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Dev nD), (1 : Dev nD), (2 : Dev nD), (3 : Dev nD), (4 : Dev nD), (5 : Dev nD), (6 : Dev nD), (7 : Dev nD)] (by decide) (by decide) Φ

theorem assoc_eq (P Q R : sProp 𝕄) : iprop((P ∗ Q) ∗ R) = iprop(P ∗ Q ∗ R) := equiv_iff.mp ⟨BI.sep_assoc, BI.sep_assoc'⟩
theorem poss_eq (c : Dev nD) (f : Own → ℕ) (n : ℕ) (h : ∀ s, f (.rss s) = n ∧ f (.rsr s) = n ∧ f (.ags s) = n ∧ f (.agr s) = n) :
    (poss c f : sProp 𝕄) = iprop(kv c f ∗ tailPos c n) := by
  unfold poss kv tailPos
  rw [bigSep_own, bigSep_dev, bigSep_dev]
  simp only [(h _).1, (h _).2.1, (h _).2.2.1, (h _).2.2.2]
  simp only [assoc_eq]

/-- What device `c` was dealt beside its cells: for the handshake, for the key and value copies, for the exchange. -/
def deal (c : Dev nD) : sProp 𝕄 :=
  iprop(bars ∗ barTok c ∗ cred (tallyAt (kcell (c, none)) () 7) ∗ atPos ER (kcell (c, none)) 0 ∅ 0 ∗ ext c ∗ tailTok c ∗ tailCrd c)
/-- The device's share of the launch: the records, the right to open its cells, its tokens and units. -/
def Tk (c : Dev nD) : sProp 𝕄 :=
  iprop((∃ K, recs m K) ∗ (bigSep Finset.univ fun k : Own => openTok ER (kcell (c, some k))) ∗ deal c)
/-- The same with its cells open. -/
def Xk (c : Dev nD) : sProp 𝕄 :=
  iprop((∃ K, recs m K) ∗ levAts L lv ∗ opened c ∗ poss c (fun _ => 0) ∗ deal c)
/-- What is left of it: the handshake's counter back at zero. -/
def Yk (c : Dev nD) : sProp 𝕄 := semVal (kcell (c, none)) 0

theorem pair_split {I : Type} (s : Finset I) (Φ Ψ : I → sProp 𝕄) : bigSep s (fun i => iprop(Φ i ∗ Ψ i)) ⊢ iprop(bigSep s Φ ∗ bigSep s Ψ) := Entails.of_eq (bigSep_sep' s Φ Ψ)
theorem pair_join {I : Type} (s : Finset I) (Φ Ψ : I → sProp 𝕄) : iprop(bigSep s Φ ∗ bigSep s Ψ) ⊢ bigSep s (fun i => iprop(Φ i ∗ Ψ i)) := Entails.of_eq (bigSep_sep' s Φ Ψ).symm

theorem hopen (c : Dev nD) : iprop(Tk m c ∗ Pipeline.ownSems0 osem c ∗ levAts L lv) ⊢ (|={Set.univ}=> Xk m c : sProp 𝕄) := by
  have h1 (K : Dev nD × Option Own → ℕ) (k : Own) : iprop(recs m K ∗ (openTok ER (kcell (c, some k)) ∗ semVal (kcell (c, some k)) 0))
      ⊢ (|={Set.univ}=> iprop(pos c k 0 ∗ reached ER (kcell (c, some k)) 0) : sProp 𝕄) := by
    unfold pos
    iintro ⟨#HI, Ht, Hs⟩
    iapply (Rounds.cell_open ER (Rd m) (g := kcell (c, some k)) (Set.mem_univ (K (c, some k))))
    isplitr; · iapply (recs_at m K (c, some k)) $$ HI
    isplitl [Ht]; · iexact Ht
    iexact Hs
  unfold Tk Xk Pipeline.ownSems0
  iintro ⟨⟨⟨%K, #HI⟩, Ht, Hd⟩, Hs, Hl⟩
  ihave Hp := (pair_join Finset.univ (fun k : Own => openTok ER (kcell (c, some k))) (fun k : Own => semVal (kcell (c, some k)) 0)) $$ [Ht Hs]
  · isplitl [Ht]; · iexact Ht
    iexact Hs
  ihave Hp := (bigSep_with_persistent (R := recs m K) (Φ := fun k : Own => iprop(openTok ER (kcell (c, some k)) ∗ semVal (kcell (c, some k)) 0))
    (Ψ := fun k : Own => iprop(|={Set.univ}=> (pos c k 0 ∗ reached ER (kcell (c, some k)) 0))) (S := Finset.univ) fun k _ => h1 K k) $$ [Hp]
  · isplitr; · iexact HI
    iexact Hp
  ihave Hp := (bigSep_fupd _ _) $$ Hp
  imod Hp
  ihave Hp := (pair_split _ _ _) $$ Hp
  icases Hp with ⟨Hp, Ho⟩
  imodintro
  isplitr; · iexists K; iexact HI
  isplitl [Hl]; · iexact Hl
  isplitl [Ho]; · unfold opened; iexact Ho
  isplitl [Hp]; · unfold poss; iexact Hp
  iexact Hd

theorem hclose (c : Dev nD) : recs m K ⊢ iprop(poss c (endR c) -∗ |={Set.univ}=> Pipeline.ownSems0 osem c : sProp 𝕄) := by
  have h1 (k : Own) : iprop(recs m K ∗ pos c k (endR c k)) ⊢ (|={Set.univ}=> semVal (kcell (c, some k)) 0 : sProp 𝕄) := by
    iintro ⟨#HI, Hp⟩
    iapply (show recs m K ⊢ iprop(pos c k (endR c k) -∗ |={Set.univ}=> semVal (kcell (c, some k)) 0 : sProp 𝕄) from close_own m K c k) $$ HI Hp
  unfold poss Pipeline.ownSems0
  iintro #HI Hp
  ihave Hp := (bigSep_with_persistent (R := recs m K) (Φ := fun k : Own => pos c k (endR c k))
    (Ψ := fun k : Own => iprop(|={Set.univ}=> semVal (kcell (c, some k)) 0)) (S := Finset.univ) fun k _ => h1 k) $$ [Hp]
  · isplitr; · iexact HI
    iexact Hp
  iapply (bigSep_fupd Finset.univ (fun k : Own => semVal (kcell (c, some k)) 0)) $$ Hp

/-- The scratch buffers, contents not said. -/
def scr (c : Dev nD) : sProp 𝕄 := iprop(anyp bK c ∗ anyp bV c ∗ anyp bR c ∗ anyp bS c ∗ anyp bA c)

theorem scr_eq (c : Dev nD) : (Pipeline.scopedRest (Ix := Unit) (Name := ℕ) (U := UU) (Lvl := ℕ) (Val := Elt F) spec0 c : sProp 𝕄) = scr c := by
  rw [scopedRest0_eq]
  unfold scr anyp part
  simp only [Memref.view_whole, View.set_whole]

/-- The region's invariant before the body and after it. -/
def Φ₀ (c : Dev nD) : sProp 𝕄 := iprop(Xk m c ∗ scr c ∗ ∃ r, prngReg c r)
def Φ₁ (c : Dev nD) : sProp 𝕄 := iprop(Yk c ∗ Pipeline.ownSems0 osem c ∗ scr c ∗ ∃ r, prngReg c r)

/-- The region's data. -/
def dats (_ : Fin 1) (c : Dev nD) : Dat τ (Elt F) Unit ℕ UU ℕ cfg0 c where
  A w := V m c (Pipeline.arrRef spec0 w)
  after w _ := match w with
    | ⟨0, _⟩ => xC m c
    | ⟨1, _⟩ => qC m c
    | ⟨2, _⟩ => kC m c
    | ⟨3, _⟩ => vC m c
    | ⟨4, _⟩ => wC m c
    | ⟨5, _⟩ => OUT m
  Φ t := match t with
    | ⟨0, _⟩ => Φ₀ m c
    | ⟨_ + 1, _⟩ => Φ₁ c
  q _ := fullShare
  owed t := match t with
    | ⟨0, _⟩ => owe (dAll c)
    | ⟨_ + 1, _⟩ => 0

/-- A staged block, held whole at contents `X`. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

theorem stg_open (c : Dev nD) (b : Ref sig .tc) (X : b.ty.Contents (Elt F)) : (stg c b X : sProp 𝕄) ⊢ part (Memref.whole b) c X := by
  unfold stg owns
  iintro ⟨%f, %h, H⟩
  have h' : f = X := h
  subst h'
  iexact H
theorem stg_of (c : Dev nD) (b : Ref sig .tc) (X : b.ty.Contents (Elt F)) : (part (Memref.whole b) c X : sProp 𝕄) ⊢ stg c b X := by
  unfold stg owns
  iintro H
  iexists X
  isplitr; · (ipureintro; rfl)
  iexact H

theorem owesAt_intro (c : Dev nD) (t : Fin (cfg0.N + 1)) (O) (h : (dats m 0 c).owed t = O) (W) :
    owes (c : Thread nD τ) O W ⊢ ((dats m 0 c).owesAt () t : sProp 𝕄) := by
  unfold Dat.owesAt Pipeline.owesWithin
  rw [h]
  iintro H
  iexists W
  isplitr; · ipureintro; exact fun _ _ => Or.inl trivial
  iexact H
theorem owesAt_elim (c : Dev nD) (t : Fin (cfg0.N + 1)) (O) (h : (dats m 0 c).owed t = O) :
    ((dats m 0 c).owesAt () t : sProp 𝕄) ⊢ iprop(∃ W, owes (c : Thread nD τ) O W) := by
  unfold Dat.owesAt Pipeline.owesWithin
  rw [h]
  iintro ⟨%W, -, H⟩
  iexists W
  iexact H

theorem before_0 (c : Dev nD) (d) : (dats m 0 c).before (0 : Fin 6) t0_0 d = xC m c := by
  unfold Dat.before; rw [if_pos (fetch0_0 t0_0)]; rfl
theorem open_0 (c : Dev nD) (d) : stg c cc0_stg0_0 ((dats m 0 c).before (0 : Fin 6) t0_0 d) ⊢ part (Memref.whole cc0_stg0_0) c (xC m c) := by
  rw [before_0]; exact stg_open c cc0_stg0_0 _
theorem before_1 (c : Dev nD) (d) : (dats m 0 c).before (1 : Fin 6) t0_0 d = qC m c := by
  unfold Dat.before; rw [if_pos (fetch0_1 t0_0)]; rfl
theorem open_1 (c : Dev nD) (d) : stg c cc0_stg1_0 ((dats m 0 c).before (1 : Fin 6) t0_0 d) ⊢ part (Memref.whole cc0_stg1_0) c (qC m c) := by
  rw [before_1]; exact stg_open c cc0_stg1_0 _
theorem before_2 (c : Dev nD) (d) : (dats m 0 c).before (2 : Fin 6) t0_0 d = kC m c := by
  unfold Dat.before; rw [if_pos (fetch0_2 t0_0)]; rfl
theorem open_2 (c : Dev nD) (d) : stg c cc0_stg2_0 ((dats m 0 c).before (2 : Fin 6) t0_0 d) ⊢ part (Memref.whole cc0_stg2_0) c (kC m c) := by
  rw [before_2]; exact stg_open c cc0_stg2_0 _
theorem before_3 (c : Dev nD) (d) : (dats m 0 c).before (3 : Fin 6) t0_0 d = vC m c := by
  unfold Dat.before; rw [if_pos (fetch0_3 t0_0)]; rfl
theorem open_3 (c : Dev nD) (d) : stg c cc0_stg3_0 ((dats m 0 c).before (3 : Fin 6) t0_0 d) ⊢ part (Memref.whole cc0_stg3_0) c (vC m c) := by
  rw [before_3]; exact stg_open c cc0_stg3_0 _
theorem before_4 (c : Dev nD) (d) : (dats m 0 c).before (4 : Fin 6) t0_0 d = wC m c := by
  unfold Dat.before; rw [if_pos (fetch0_4 t0_0)]; rfl
theorem open_4 (c : Dev nD) (d) : stg c cc0_stg4_0 ((dats m 0 c).before (4 : Fin 6) t0_0 d) ⊢ part (Memref.whole cc0_stg4_0) c (wC m c) := by
  rw [before_4]; exact stg_open c cc0_stg4_0 _

/-- What the pipeline hands the body, and what it wants back. -/
def bodyPre (c : Dev nD) : sProp 𝕄 :=
  iprop(Φ₀ m c ∗ (dats m 0 c).owesAt () t0_0.castSucc ∗ (∃ d, stg c cc0_stg0_0 ((dats m 0 c).before (0 : Fin 6) t0_0 d)) ∗ (∃ d, stg c cc0_stg1_0 ((dats m 0 c).before (1 : Fin 6) t0_0 d)) ∗ (∃ d, stg c cc0_stg2_0 ((dats m 0 c).before (2 : Fin 6) t0_0 d)) ∗ (∃ d, stg c cc0_stg3_0 ((dats m 0 c).before (3 : Fin 6) t0_0 d)) ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () t0_0.succ ∗ stg c cc0_stg0_0 (xC m c) ∗ stg c cc0_stg1_0 (qC m c) ∗ stg c cc0_stg2_0 (kC m c) ∗ stg c cc0_stg3_0 (vC m c) ∗ stg c cc0_stg4_0 (wC m c) ∗ stg c cc0_stg5_0 (OUT m))

theorem bodyRun (c : Dev nD) : bodyPre m c ⊢ wp frame (wpE (defs₀ (F := F)) 𝒱₀ (c : Dev nD) none) Set.univ (cc0_body (F := F) aX (Memref.isWhole_whole _) aQ (Memref.isWhole_whole _) aK (Memref.isWhole_whole _) aV (Memref.isWhole_whole _) aW (Memref.isWhole_whole _) aO (Memref.isWhole_whole _) bK (Memref.isWhole_whole _) bV (Memref.isWhole_whole _) bR (Memref.isWhole_whole _) bS (Memref.isWhole_whole _) bA (Memref.isWhole_whole _) cc0_scratch5 cc0_scratch6 cc0_scratch7 cc0_scratch8 cc0_scratch9 cc0_scratch10) (fun _ => bodyPost m c) := by
  unfold bodyPre Φ₀ Xk deal scr
  iintro ⟨⟨⟨⟨%K, #HI⟩, #Hl, #Ho, Hp, #HB, T, Hc, Ha, He, tT, tC⟩, ⟨bk, bv, br, bs, ba⟩, Hr⟩, HO, ⟨%d0, h0⟩, ⟨%d1, h1⟩, ⟨%d2, h2⟩, ⟨%d3, h3⟩, ⟨%d4, h4⟩, ⟨%d5, h5⟩⟩
  ihave Hp := (Entails.of_eq (poss_eq c (fun _ => 0) 0 (fun _ => ⟨rfl, rfl, rfl, rfl⟩))) $$ Hp
  icases Hp with ⟨Hkv, Hp⟩
  ihave HO := (owesAt_elim m c t0_0.castSucc (owe (dAll c)) rfl) $$ HO
  ihave h0 := (open_0 m c d0) $$ h0
  ihave h1 := (open_1 m c d1) $$ h1
  ihave h2 := (open_2 m c d2) $$ h2
  ihave h3 := (open_3 m c d3) $$ h3
  ihave h4 := (open_4 m c d4) $$ h4
  ihave h5 := (stg_open c cc0_stg5_0 _) $$ h5
  iapply (wp_fupd frame _ Set.univ)
  iapply (body m K c _) $$ HI Hl HB Ho [HO] T Hc Ha He tT tC Hkv Hp h0 h1 h2 h3 h4 h5 bk bv br bs ba
  · unfold ow; iexact HO
  iintro HO Ha Hkv Hp h0 h1 h2 h3 h4 h5 bk bv br bs ba
  ihave Hp := (Entails.of_eq (poss_eq c (endR c) 1 (fun s => ⟨rfl, rfl, rfl, rfl⟩)).symm) $$ [Hkv Hp]
  · isplitl [Hkv]; · iexact Hkv
    iexact Hp
  imod (hclose m K c) $$ HI Hp with Hs
  imod (close_bar m K c) $$ HI Ha with Hb
  imodintro
  unfold bodyPost Φ₁ Yk scr ow
  icases HO with ⟨%W, HO⟩
  isplitl [Hs Hb bk bv br bs ba Hr]
  · isplitl [Hb]; · iexact Hb
    isplitl [Hs]; · iexact Hs
    isplitl [bk bv br bs ba]
    · isplitl [bk]; · iexact bk
      isplitl [bv]; · iexact bv
      isplitl [br]; · iexact br
      isplitl [bs]; · iexact bs
      iexact ba
    iexact Hr
  isplitl [HO]; · iapply (owesAt_intro m c t0_0.succ (owe []) rfl W) $$ HO
  isplitl [h0]; · iapply (stg_of c cc0_stg0_0 _) $$ h0
  isplitl [h1]; · iapply (stg_of c cc0_stg1_0 _) $$ h1
  isplitl [h2]; · iapply (stg_of c cc0_stg2_0 _) $$ h2
  isplitl [h3]; · iapply (stg_of c cc0_stg3_0 _) $$ h3
  isplitl [h4]; · iapply (stg_of c cc0_stg4_0 _) $$ h4
  iapply (stg_of c cc0_stg5_0 _) $$ h5

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- The body as the pipeline calls it. -/
theorem body_obligation (c : Dev nD) : BodyObligation (dats (F := F) m 0 c) (defs₀ (F := F)) 𝒱₀ () Set.univ := fun t => by
  rw [fin_N0 t]
  rw [bigSep_W, bigSep_W]
  exact bodyRun m c

end Cert.KernelIdeal.Proto
-- ==== Proof.KernelIdeal.Segments.lean ====
module
public import proofs.«01_k».proof.Proof.KernelIdeal.Region
public import Idealize.ShloMosaic.Lib.Pipeline.RegionTalk
public import Idealize.ShloMosaic.Lib.Pipeline.ValueKit.Geometry
@[expose] public section

/-!
# The program's two segments

The host reshapes the keys and the values, then the region runs.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

open Idealize.ShloMosaic.Pipeline (Dat Cfg Window BodyObligation)

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c :=
  match p with
  | ⟨0, _⟩ => dats m 0 c

/-- A device's buffers at launch, when the region is entered, and when it is left. -/
abbrev C₀ (c : Dev nD) : Valuation τ sig (Elt F) := fun b => m (c, b)
abbrev C₁ (c : Dev nD) : Valuation τ sig (Elt F) := StableHlo.after hostOps0 (C₀ m c)
def C₂ (c : Dev nD) : Valuation τ sig (Elt F) := Function.update (C₁ m c) (Proc.devRef .tc main_v3) (OUT m)

theorem C₂_out (c : Dev nD) : C₂ m c (Proc.devRef .tc main_v3) = OUT m := Function.update_self ..
theorem C₂_ne (c : Dev nD) {b : DevRef τ sig} (h : b ≠ Proc.devRef .tc main_v3) : C₂ m c b = C₁ m c b := Function.update_of_ne h _ _

/-- The arrays of the windows, and the other buffers that outlive the region. -/
abbrev arrs : Finset (DevRef τ sig) := Pipeline.arrRefs (τ := τ) spec0
abbrev bufs : Finset (DevRef τ sig) := Pipeline.ucRefs τ sig
abbrev rest : Finset (DevRef τ sig) := bufs \ arrs
theorem arrs_sub : arrs ⊆ bufs := Pipeline.arrRefs_sub_ucRefs spec0 (by decide)
theorem out_mem : Proc.devRef .tc main_v3 ∈ arrs :=
  Finset.mem_map.mpr ⟨main_v3, Finset.mem_image.mpr ⟨(5 : Fin 6), Finset.mem_univ _, rfl⟩, rfl⟩
theorem rest_eq (c : Dev nD) : ∀ b ∈ rest \ (∅ : Finset (DevRef τ sig)), C₂ m c b = C₁ m c b := fun b hb =>
  C₂_ne m c fun h => (Finset.mem_sdiff.mp (Finset.mem_sdiff.mp hb).1).2 (h ▸ out_mem)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem num_ge : ∀ k : Own, 6 ≤ num k := by decide
/-- The semaphores of the staging buffers are none of the kernel's own. -/
theorem kd_stage (s : Fin sig.nDmaSem) (h : s.val < 6) : kd (.dma s) = none := by
  unfold kd
  refine dif_neg ?_
  rintro ⟨k, hk⟩
  cases k with
  | none => cases hk
  | some k =>
    have e : s.val = num k := congrArg Fin.val (SemLoc.dma.inj hk)
    have h6 := num_ge k
    omega
theorem stage_num : ∀ (w : Fin 6) (s : Fin (spec0 w).nbuf), ((spec0 w).sem s).val < 6 := by decide
theorem lv_stage (c : Dev nD) (w : Fin 6) (s : Fin (spec0 w).nbuf) : lv ((c : Thread nD τ), .dma ((spec0 w).sem s)) () ≤ 0 := by
  dsimp only [lv]; rw [kd_stage _ (stage_num w s)]
theorem all_pos : ∀ c : Dev nD, ∀ p ∈ dAll c, 0 < lvK p.2 := by decide +kernel
theorem cut (c : Dev nD) (t : Fin (cfg0.N + 1)) (g : GSem nD τ sig) (i : Unit) (h : 0 < (dats (F := F) m 0 c).owed t g i) :
    i ∈ L g ∧ (0 : ℕ) < lv g i := by
  obtain ⟨n, hn⟩ := t
  cases n with
  | zero =>
    obtain ⟨p, hp, rfl⟩ := owe_pos (l := dAll c) h
    rw [lv_kcell]
    exact ⟨by rw [L_tc]; exact Finset.mem_singleton_self _, all_pos c p hp⟩
  | succ n => exact absurd h (Nat.lt_irrefl 0)

theorem held_none (c : Dev nD) (W : Valuation τ sig (Elt F)) : (StableHlo.held (c : Thread nD τ) ∅ W : sProp 𝕄) = iprop(emp) := BI.bigSep_empty

theorem hin (c : Dev nD) : iprop(Pipeline.scopedRest (Pipeline.pin (pcfgs (F := F)) adm 0).spec c ∗ (∃ r, prngReg c r) ∗ StableHlo.held (c.tc : Thread nD τ) ∅ (C₁ m c) ∗ Xk m c)
    ⊢ (pdats m 0 c).Φ 0 := by
  show iprop(Pipeline.scopedRest spec0 c ∗ (∃ r, prngReg c r) ∗ StableHlo.held (c.tc : Thread nD τ) ∅ (C₁ m c) ∗ Xk m c) ⊢ Φ₀ m c
  rw [scr_eq]
  unfold Φ₀
  iintro ⟨Hs, Hp, -, HX⟩
  isplitl [HX]; · iexact HX
  isplitl [Hs]; · iexact Hs
  iexact Hp
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (C₂ m c) ∗ Pipeline.ownSems0 osem c ∗ Yk c) := by
  show Φ₁ c ⊢ iprop(Pipeline.scopedRest spec0 c ∗ (∃ r, prngReg c r) ∗ StableHlo.held (c.tc : Thread nD τ) ∅ (C₂ m c) ∗ Pipeline.ownSems0 osem c ∗ Yk c)
  rw [scr_eq, held_none]
  unfold Φ₁
  iintro ⟨HY, Ho, Hs, Hp⟩
  isplitl [Hs]; · iexact Hs
  isplitl [Hp]; · iexact Hp
  isplitr; · iempintro
  isplitl [Ho]; · iexact Ho
  iexact HY

theorem enter_eq (c : Dev nD) (w : Fin 6) : (dats m 0 c).arrAt w 0 = C₁ m c (Proc.devRef .tc (Pipeline.arrRef spec0 w)) := rfl
theorem out_whole : (cfg0.win (5 : Fin 6)).WholeAt t0_0 := by decide +kernel
theorem out_arr (c : Dev nD) : (dats m 0 c).arrAt (5 : Fin 6) cfg0.N = OUT m :=
  (dats m 0 c).arrAt_eq_of_after_last (5 : Fin 6) t0_0 out_whole (OUT m) fun j => rfl
theorem leave_eq (c : Dev nD) (w : Fin 6) : (dats m 0 c).arrAt w cfg0.N = C₂ m c (Proc.devRef .tc (Pipeline.arrRef spec0 w)) :=
  match w with
  | 0 => ((dats m 0 c).arrAt_in (0 : Fin 6) rfl _).trans (C₂_ne m c (b := Proc.devRef .tc main_arg0) (by decide)).symm
  | 1 => ((dats m 0 c).arrAt_in (1 : Fin 6) rfl _).trans (C₂_ne m c (b := Proc.devRef .tc main_arg1) (by decide)).symm
  | 2 => ((dats m 0 c).arrAt_in (2 : Fin 6) rfl _).trans (C₂_ne m c (b := Proc.devRef .tc main_v1) (by decide)).symm
  | 3 => ((dats m 0 c).arrAt_in (3 : Fin 6) rfl _).trans (C₂_ne m c (b := Proc.devRef .tc main_v2) (by decide)).symm
  | 4 => ((dats m 0 c).arrAt_in (4 : Fin 6) rfl _).trans (C₂_ne m c (b := Proc.devRef .tc main_arg4) (by decide)).symm
  | 5 => (out_arr m c).trans (C₂_out m c).symm
  | ⟨n + 6, h⟩ => absurd h (by omega)

local notation "ℝ𝕊" => Pipeline.RegionSeg (pcfgs (F := F)) adm (pdats m) () defs₀ 𝒱₀ L lv

set_option backward.isDefEq.respectTransparency.types false in
/-- The region as a segment. -/
def reg : ℝ𝕊 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body_obligation m c).loose)
    (fun _ => 0) (fun c => owe (dAll c)) (fun c => (zero_add (owe (dAll c))).symm) (fun _ => rfl) (fun _ => rfl)
    (fun c w => by unfold Dat.share; split <;> rfl)
    (C₁ m) (C₂ m) (rest_eq m) (Tk m) Yk (Xk m) Yk (hopen m) (hin m) (hout m)
    (fun c => by iintro H; imodintro; iexact H)
    (fun _ => 0)
    ⟨fun c w s => by rw [L_tc]; exact Finset.mem_singleton_self _, fun c w s => lv_stage c w s, fun c t g i h => cut m c t g i h⟩
    (fun _ => iprop(emp)) (enter_eq m) (leave_eq m)

/-- What a device carries through the host's operations beside its buffers. -/
def R (c : Dev nD) : sProp 𝕄 := iprop((Tk m c ∗ ∃ r, prngReg c r) ∗ ∃ W, owes (c : Thread nD τ) (owe (dAll c)) W)

theorem reg_pre (c : Dev nD) : iprop(StableHlo.held (c : Thread nD τ) bufs (C₁ m c) ∗ R m c) ⊢ (reg m).pre c := by
  show _ ⊢ iprop(StableHlo.held (c.tc : Thread nD τ) arrs (C₁ m c) ∗ (∃ r, prngReg c r)
    ∗ (StableHlo.held (c.tc : Thread nD τ) rest (C₁ m c) ∗ emp) ∗ Tk m c ∗ ∃ Wd, owes (c : Thread nD τ) (0 + owe (dAll c)) Wd)
  rw [zero_add, StableHlo.held_sub_split (c : Thread nD τ) arrs_sub]
  unfold R
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO
theorem reg_post (c : Dev nD) : (reg m).post c
    ⊢ iprop((StableHlo.held (c : Thread nD τ) bufs (C₂ m c) ∗ semVal (kcell (c, none)) 0) ∗ ∃ W, owes (c : Thread nD τ) (0 : CellTallies nD τ sig Unit) W) := by
  show iprop(StableHlo.held (c.tc : Thread nD τ) arrs (C₂ m c) ∗ (∃ r, prngReg c r)
    ∗ (StableHlo.held (c.tc : Thread nD τ) rest (C₂ m c) ∗ emp) ∗ Yk c ∗ ∃ Wd, owes (c : Thread nD τ) (0 : CellTallies nD τ sig Unit) Wd) ⊢ _
  rw [StableHlo.held_sub_split (c : Thread nD τ) arrs_sub]
  unfold Yk
  iintro ⟨Ha, -, ⟨Hr, -⟩, Hb, HO⟩
  isplitr [HO]
  · isplitr [Hb]
    · isplitl [Ha]; · iexact Ha
      iexact Hr
    iexact Hb
  iexact HO

/-- The host's reshapes as a segment. -/
def host : Pipeline.HostSeg (Name := ℕ) (U := UU) (pcfgs (F := F)) defs₀ 𝒱₀ L lv :=
  Pipeline.HostSeg.ofOps _ _ _ _ _ bufs hostOps0
    (fun op h => Pipeline.sub_ucRefs op ((List.forall_iff_forall_mem.mp hostOps0_sub) op h))
    (List.forall_iff_forall_mem.mp hostOps0_fresh) (C₀ m) (R m)

def segs : List (Pipeline.Seg (pcfgs (F := F)) adm (pdats m) () defs₀ 𝒱₀ L lv) := [.host (host m), .region (reg m)]
theorem main_eq (c : Dev nD) : main (F := F) c = Pipeline.Seg.run (segs m) :=
  main_segs adm (pdats m) () 𝒱₀ L lv (host m) (reg m) rfl c

end Cert.KernelIdeal.Proto
-- ==== Proof.KernelIdeal.Launch.lean ====
module
public import proofs.«01_k».proof.Proof.KernelIdeal.Segments
@[expose] public section

/-!
# The launch and the run

At launch every cell gets its invariant, and every device its positions, the tokens of the payments it makes and the
units of what it is to receive. The run of the whole program follows.
-/

set_option maxRecDepth 16384

noncomputable section

namespace Cert.KernelIdeal.Proto

open Cert.KernelIdeal
open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable {α : Type} (K : Dev nD × Option Own → ℕ)

/-- The payments of a device, its own cells' included. -/
abbrev barL (c : Dev nD) : List (Dev nD × Option Own) := [(nx 1 c, none), (nx 2 c, none), (nx 3 c, none), (nx 4 c, none), (nx 5 c, none), (nx 6 c, none), (nx 7 c, none)]
abbrev extL0 : List (Dev nD × Option Own) := [(0, some (.ks 0 1)), (0, some (.ks 0 2)), (0, some (.ks 0 3)), (0, some (.ks 0 4)), (0, some (.ks 0 5)), (0, some (.ks 0 6)), (0, some (.ks 0 7)), (1, some (.kr 0 0)), (2, some (.kr 0 0)), (3, some (.kr 0 0)), (4, some (.kr 0 0)), (5, some (.kr 0 0)), (6, some (.kr 0 0)), (7, some (.kr 0 0)), (0, some (.ks 1 1)), (0, some (.ks 1 2)), (0, some (.ks 1 3)), (0, some (.ks 1 4)), (0, some (.ks 1 5)), (0, some (.ks 1 6)), (0, some (.ks 1 7)), (1, some (.kr 0 1)), (2, some (.kr 0 1)), (3, some (.kr 0 1)), (4, some (.kr 0 1)), (5, some (.kr 0 1)), (6, some (.kr 0 1)), (7, some (.kr 0 1))]
abbrev extL1 : List (Dev nD × Option Own) := [(1, some (.ks 0 0)), (1, some (.ks 0 2)), (1, some (.ks 0 3)), (1, some (.ks 0 4)), (1, some (.ks 0 5)), (1, some (.ks 0 6)), (1, some (.ks 0 7)), (0, some (.kr 1 0)), (2, some (.kr 1 0)), (3, some (.kr 1 0)), (4, some (.kr 1 0)), (5, some (.kr 1 0)), (6, some (.kr 1 0)), (7, some (.kr 1 0)), (1, some (.ks 1 0)), (1, some (.ks 1 2)), (1, some (.ks 1 3)), (1, some (.ks 1 4)), (1, some (.ks 1 5)), (1, some (.ks 1 6)), (1, some (.ks 1 7)), (0, some (.kr 1 1)), (2, some (.kr 1 1)), (3, some (.kr 1 1)), (4, some (.kr 1 1)), (5, some (.kr 1 1)), (6, some (.kr 1 1)), (7, some (.kr 1 1))]
def extL (c : Dev nD) : List (Dev nD × Option Own) := if c = 0 then extL0 else if c = 1 then extL1 else []
abbrev tailL (c : Dev nD) : List (Dev nD × Option Own) := [(c, some (.rss 0)), (c, some (.rss 1)), (c, some (.rss 2)), (q 2 c, some (.rsr 0)), (q 1 c, some (.rsr 1)), (q 0 c, some (.rsr 2)), (c, some (.ags 0)), (c, some (.ags 1)), (c, some (.ags 2)), (q 0 c, some (.agr 0)), (q 1 c, some (.agr 1)), (q 2 c, some (.agr 2))]
def pays (c : Dev nD) : List (Dev nD × Option Own) := barL c ++ extL c ++ tailL c

theorem pays_nodup : ∀ c : Dev nD, (pays c).Nodup := by decide +kernel
def tag (c : Dev nD) (p : Dev nD × Option Own) : Dev nD := if p.2 = none then c else 0
theorem pays_apart : ∀ c c' : Dev nD, c ≠ c' → ∀ p ∈ pays c, p ∈ pays c' → tag c p ≠ tag c' p := by decide +kernel

def payTok (c : Dev nD) (p : Dev nD × Option Own) : GSem nD τ sig × ℕ × Dev nD := (kcell p, 0, tag c p)
theorem payTok_inj (c : Dev nD) : Function.Injective (payTok c) := fun _ _ h => kcell_inj (congrArg Prod.fst h)
def payToks (c : Dev nD) : Finset (GSem nD τ sig × ℕ × Dev nD) := (pays c).toFinset.image (payTok c)
def talkToks : Finset (GSem nD τ sig × ℕ × Dev nD) := Finset.univ.biUnion payToks

theorem payToks_apart (c c' : Dev nD) (h : c ≠ c') : Disjoint (payToks c) (payToks c') := by
  rw [Finset.disjoint_left]
  intro x h1 h2
  obtain ⟨p, hp, rfl⟩ := Finset.mem_image.mp h1
  obtain ⟨p', hp', e⟩ := Finset.mem_image.mp h2
  have e' : p' = p := kcell_inj (congrArg Prod.fst e)
  subst e'
  exact pays_apart c c' h p' (List.mem_toFinset.mp hp) (List.mem_toFinset.mp hp') (congrArg (fun x => x.2.2) e).symm

def extTok (c : Dev nD) : sProp 𝕄 := bigSepL (extL c) (tok c)

theorem append_eq {I : Type} (l l' : List I) (Φ : I → sProp 𝕄) : bigSepL (l ++ l') Φ = iprop(bigSepL l Φ ∗ bigSepL l' Φ) := by
  induction l with
  | nil => exact (equiv_iff.mp emp_sep).symm
  | cons i l ih => rw [List.cons_append, bigSepL_cons, bigSepL_cons, ih]; exact (assoc_eq _ _ _).symm

theorem toks_eq : bigSep talkToks (fun x => (dutyTok ER x.1 x.2.1 x.2.2 : sProp 𝕄))
    = bigSep Finset.univ fun c : Dev nD => iprop(barTok c ∗ extTok c ∗ tailTok c) := by
  unfold talkToks
  rw [bigSep_biUnion_eq _ _ _ fun c _ c' _ h => payToks_apart c c' h]
  refine bigSep_congr fun c _ => ?_
  unfold payToks
  rw [BI.bigSep_image_of_injOn (payTok_inj c).injOn]
  rw [bigSep_eq_bigSepL_of_eq (pays c) rfl (pays_nodup c)]
  unfold pays
  rw [append_eq, append_eq, assoc_eq]
  rfl

/-! ## The units -/

theorem owe_at (l : List (Dev nD × Option Own)) (p : Dev nD × Option Own) : owe l (kcell p) () = l.count p * amt p.1 p.2 := by
  induction l with
  | nil => rw [List.count_nil, Nat.zero_mul]; rfl
  | cons a l ih =>
    unfold owe
    rw [Pi.add_apply, Finsupp.add_apply, tallyAt_apply, ih, List.count_cons]
    by_cases h : a = p
    · subst h; rw [if_pos ⟨rfl, rfl⟩, beq_self_eq_true, if_pos rfl, Nat.add_mul, Nat.one_mul]
    · rw [if_neg fun e => h (kcell_inj e.1).symm, beq_eq_false_iff_ne.mpr h, if_neg (by decide), Nat.add_zero, Nat.add_zero]

abbrev O₀ (c : Dev nD) : CellTallies nD τ sig Unit := owe (dAll c)
/-- How many payments a cell gets from all the devices. -/
def total (p : Dev nD × Option Own) : ℕ := ∑ d : Dev nD, (dAll d).count p

theorem launch_at (p : Dev nD × Option Own) :
    tallyOn (kcell p) (launchCredit (Pipeline.owing O₀) 0 (kcell p)) = (tallyAt (kcell p) () (total p * amt p.1 p.2) : CellTallies nD τ sig Unit) := by
  unfold tallyAt; refine congrArg _ (Finsupp.ext fun u => ?_); cases u
  rw [Pipeline.launchCredit_owing, Finsupp.single_eq_same, Finset.sum_congr rfl fun d _ => owe_at (dAll d) p, ← Finset.sum_mul]
  rfl

def unit (c : Dev nD) (k : Option Own) : sProp 𝕄 := cred (tallyAt (kcell (c, k)) () (total (c, k) * amt c k))
theorem units (c : Dev nD) : (Pipeline.launchCred O₀ c : sProp 𝕄) ⊢ bigSep Finset.univ (unit c) := by
  unfold Pipeline.launchCred
  refine (bigSep_subset (Finset.subset_univ (Finset.univ.image csem))).trans ?_
  rw [BI.bigSep_image_of_injOn csem_inj.injOn, bigSep_congr (Ψ := unit c) fun k _ => congrArg cred (launch_at (c, k))]
  exact BI.Entails.refl _
theorem unit_own (c : Dev nD) (k : Own) (h : total (c, some k) = 1) : (unit c (some k) : sProp 𝕄) ⊢ crd c k := by
  unfold unit crd; rw [h, Nat.one_mul]
theorem unit_bar (c : Dev nD) (h : total (c, none) = 7) : (unit c none : sProp 𝕄) ⊢ cred (tallyAt (kcell (c, none)) () 7) := by
  unfold unit; rw [h]; exact BI.Entails.refl _

theorem total_bar : ∀ c : Dev nD, total (c, none) = 7 := by decide +kernel
theorem total_rsr : ∀ (c : Dev nD) (s : Fin 3), total (c, some (.rsr s)) = 1 := by decide +kernel
theorem total_agr : ∀ (c : Dev nD) (s : Fin 3), total (c, some (.agr s)) = 1 := by decide +kernel
theorem total_kr : ∀ (c : Dev nD) (r ci : Fin 2), c.val ≠ r.val → total (c, some (.kr r ci)) = 1 := by decide +kernel

theorem bigSep_opt (Φ : Option Own → sProp 𝕄) : bigSep Finset.univ Φ = iprop(Φ none ∗ bigSep Finset.univ fun k : Own => Φ (some k)) := by
  rw [bigSep_univ_at _ none]
  rw [show (Finset.univ.erase none : Finset (Option Own)) = Finset.univ.map Function.Embedding.some from by decide, bigSep_map]
  rfl

def extCrd (c : Dev nD) : sProp 𝕄 :=
  if c = 0 then iprop(crd 0 (.kr 1 0) ∗ crd 0 (.kr 1 1)) else if c = 1 then iprop(crd 1 (.kr 0 0) ∗ crd 1 (.kr 0 1)) else ext_n c

theorem cons_eq {I : Type} (a b : I) (l : List I) (Φ : I → sProp 𝕄) : bigSepL (a :: b :: l) Φ = iprop(Φ a ∗ bigSepL (b :: l) Φ) := rfl
theorem one_eq {I : Type} (a : I) (Φ : I → sProp 𝕄) : bigSepL [a] Φ = Φ a := rfl

theorem ext_of (c : Dev nD) : iprop(extTok c ∗ extCrd c) ⊢ (ext c : sProp 𝕄) := by
  by_cases h0 : c = 0
  · subst h0
    unfold extTok extL extCrd
    rw [ext_z, if_pos rfl, if_pos rfl]
    unfold ext_0 all0
    refine Entails.of_eq ?_
    simp only [assoc_eq, cons_eq, one_eq]
  by_cases h1 : c = 1
  · subst h1
    unfold extTok extL extCrd
    rw [ext_o, if_neg h0, if_pos rfl, if_neg h0, if_pos rfl]
    unfold ext_1 all1
    refine Entails.of_eq ?_
    simp only [assoc_eq, cons_eq, one_eq]
  unfold extTok extL extCrd
  rw [ext_r h0 h1, if_neg h0, if_neg h1, if_neg h0, if_neg h1]
  iintro ⟨-, H⟩
  iexact H

theorem creds (c : Dev nD) : (Pipeline.launchCred O₀ c : sProp 𝕄)
    ⊢ iprop(cred (tallyAt (kcell (c, none)) () 7) ∗ extCrd c ∗ tailCrd c) := by
  refine (units c).trans ?_
  rw [bigSep_opt, bigSep_own]
  unfold tailCrd
  iintro ⟨H, -, -, -, -, -, -, -, -, -, -, -, -, -, -, -, -, kr00, kr01, kr10, kr11, -, -, -, rsr0, rsr1, rsr2, -, -, -, agr0, agr1, agr2⟩
  isplitl [H]; · iapply (unit_bar c (total_bar c)) $$ H
  isplitl [kr00 kr01 kr10 kr11]
  · by_cases h0 : c = 0
    · subst h0
      rw [show extCrd (F := F) 0 = iprop(crd 0 (.kr 1 0) ∗ crd 0 (.kr 1 1)) from if_pos rfl]
      isplitl [kr10]; · iapply (unit_own 0 (.kr 1 0) (total_kr 0 1 0 (by decide))) $$ kr10
      iapply (unit_own 0 (.kr 1 1) (total_kr 0 1 1 (by decide))) $$ kr11
    by_cases h1 : c = 1
    · subst h1
      rw [show extCrd (F := F) 1 = iprop(crd 1 (.kr 0 0) ∗ crd 1 (.kr 0 1)) from (if_neg h0).trans (if_pos rfl)]
      isplitl [kr00]; · iapply (unit_own 1 (.kr 0 0) (total_kr 1 0 0 (by decide))) $$ kr00
      iapply (unit_own 1 (.kr 0 1) (total_kr 1 0 1 (by decide))) $$ kr01
    have e0 : c.val ≠ 0 := fun e => h0 (Fin.ext e)
    have e1 : c.val ≠ 1 := fun e => h1 (Fin.ext e)
    rw [show extCrd (F := F) c = ext_n c from (if_neg h0).trans (if_neg h1)]
    unfold ext_n
    isplitl [kr00]; · iapply (unit_own c (.kr 0 0) (total_kr c 0 0 e0)) $$ kr00
    isplitl [kr01]; · iapply (unit_own c (.kr 0 1) (total_kr c 0 1 e0)) $$ kr01
    isplitl [kr10]; · iapply (unit_own c (.kr 1 0) (total_kr c 1 0 e1)) $$ kr10
    iapply (unit_own c (.kr 1 1) (total_kr c 1 1 e1)) $$ kr11
  isplitl [rsr0]; · iapply (unit_own c (.rsr 0) (total_rsr c 0)) $$ rsr0
  isplitl [rsr1]; · iapply (unit_own c (.rsr 1) (total_rsr c 1)) $$ rsr1
  isplitl [rsr2]; · iapply (unit_own c (.rsr 2) (total_rsr c 2)) $$ rsr2
  isplitl [agr0]; · iapply (unit_own c (.agr 0) (total_agr c 0)) $$ agr0
  isplitl [agr1]; · iapply (unit_own c (.agr 1) (total_agr c 1)) $$ agr1
  iapply (unit_own c (.agr 2) (total_agr c 2)) $$ agr2

/-! ## The cells -/

def barEmb : Dev nD ↪ GSem nD τ sig := ⟨fun c => kcell (c, none), fun _ _ h => congrArg Prod.fst (kcell_inj h)⟩
def ownEmb : Dev nD × Own ↪ GSem nD τ sig := ⟨fun p => kcell (p.1, some p.2), fun _ _ h => by
  have e := kcell_inj h
  exact Prod.ext (congrArg (fun x : Dev nD × Option Own => x.1) e) (Option.some.inj (congrArg (fun x : Dev nD × Option Own => x.2) e))⟩
def allEmb : Dev nD × Option Own ↪ GSem nD τ sig := ⟨kcell, kcell_inj⟩
def barCells : Finset (GSem nD τ sig) := Finset.univ.map barEmb
def ownCells : Finset (GSem nD τ sig) := Finset.univ.map ownEmb

theorem cells_apart : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact Option.some_ne_none _ (congrArg Prod.snd (kcell_inj h))
theorem cells_eq : (barCells ∪ ownCells : Finset (GSem nD τ sig)) = Finset.univ.map allEmb := by
  ext g
  rw [Finset.mem_union]
  constructor
  · rintro (h | h)
    · obtain ⟨c, -, rfl⟩ := Finset.mem_map.mp h
      exact Finset.mem_map_of_mem allEmb (Finset.mem_univ (c, none))
    · obtain ⟨p, -, rfl⟩ := Finset.mem_map.mp h
      exact Finset.mem_map_of_mem allEmb (Finset.mem_univ (p.1, some p.2))
  · intro h
    obtain ⟨⟨c, k⟩, -, rfl⟩ := Finset.mem_map.mp h
    cases k with
    | none => exact Or.inl (Finset.mem_map_of_mem barEmb (Finset.mem_univ c))
    | some k => exact Or.inr (Finset.mem_map_of_mem ownEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells ownCells talkToks)

/-- A resource of the first device alone. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp
def G : Dev nD → sProp 𝕄 := first (BI.own (ER (launchOf barCells ownCells talkToks)))

/-- What a device gets of the launch's ghost state, and what else it starts with. -/
def linear (c : Dev nD) : sProp 𝕄 :=
  iprop(atPos ER (kcell (c, none)) 0 ∅ 0 ∗ (bigSep Finset.univ fun k : Own => openTok ER (kcell (c, some k))) ∗ (barTok c ∗ extTok c ∗ tailTok c))
def bundle (c : Dev nD) : sProp 𝕄 :=
  iprop(StableHlo.held (c : Thread nD τ) bufs (C₀ m c) ∗ (cred (tallyAt (kcell (c, none)) () 7) ∗ extCrd c ∗ tailCrd c)
    ∗ owes (c : Thread nD τ) (O₀ c) ∅ ∗ ∃ r, prngReg c r)

def T₀ (c : Dev nD) : sProp 𝕄 := iprop(StableHlo.held (c : Thread nD τ) bufs (C₀ m c) ∗ R m c)
def Tₙ (c : Dev nD) : sProp 𝕄 := iprop(StableHlo.held (c : Thread nD τ) bufs (C₂ m c) ∗ semVal (kcell (c, none)) 0)

theorem T₀_of (c : Dev nD) : iprop((recs m K ∗ bars) ∗ (linear c ∗ bundle m c)) ⊢ T₀ m c := by
  unfold linear bundle T₀ R Tk deal
  iintro ⟨⟨#HI, #HB⟩, ⟨Ha, Ho, tB, tE, tT⟩, Hh, ⟨cB, cE, cT⟩, HO, Hp⟩
  isplitl [Hh]; · iexact Hh
  isplitr [HO]
  · isplitr [Hp]
    · isplitr; · iexists K; iexact HI
      isplitl [Ho]; · iexact Ho
      isplitr; · iexact HB
      isplitl [tB]; · iexact tB
      isplitl [cB]; · iexact cB
      isplitl [Ha]; · iexact Ha
      isplitl [tE cE]
      · iapply (ext_of c)
        isplitl [tE]; · iexact tE
        iexact cE
      isplitl [tT]; · iexact tT
      iexact cT
    iexact Hp
  iexists ∅; iexact HO

theorem unscopedSems0_eq (c : Dev nD) : (unscopedSems0 c : sProp 𝕄) = semVal (kcell (c, none)) 0 := by
  unfold unscopedSems0
  rw [show (Finset.univ.filter fun sm : SemLoc sig => ¬ sm.isScoped .tc) = {SemLoc.reg barS} from by decide, BI.bigSep_singleton]
  rfl

variable (ρ : Dev nD → PrngReg)

theorem start_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (kcell (c, none)) 0 ∗ G c)) : sProp 𝕄) := by
  rw [show unscopedBufs c (fun b => m ((c : Thread nD τ).loc b)) = StableHlo.held (c : Thread nD τ) bufs (C₀ m c) from Pipeline.unscopedBufs_held c (C₀ m c),
    unscopedSems0_eq]
  unfold bundle
  iintro ⟨Hh, Hus, HO, Hcr, Hp, HG⟩
  ihave Hc := (creds c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

/-- The launch. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (kcell (c, none)) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (kcell (c, none)) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bars :=
    Entails.of_eq (bigSep_map (s := Finset.univ) barEmb (Φ := fun g : GSem nD τ sig => (reached ER g 0 : sProp 𝕄)))
  have hop : bigSep ownCells (fun g => (openTok ER g : sProp 𝕄))
      ⊢ bigSep Finset.univ (fun c : Dev nD => bigSep Finset.univ fun k : Own => (openTok ER (kcell (c, some k)) : sProp 𝕄)) :=
    Entails.of_eq (by unfold ownCells; rw [bigSep_map, bigSep_univ_prod]; rfl)
  have hin (κ : GSem nD τ sig → ℕ) : bigSep (barCells ∪ ownCells) (fun g => (cellInv ER (Rd m) (κ g) g : sProp 𝕄)) ⊢ recs m fun p => κ (kcell p) :=
    Entails.of_eq (by rw [cells_eq, bigSep_map]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (kcell (c, none)) 0 ∗ G c)) : sProp 𝕄) from bigSep_mono fun c _ => start_of m ρ c) $$ H
  ihave H2 := (pair_split _ _ _) $$ H'; icases H2 with ⟨HB, H3⟩
  ihave H4 := (pair_split _ _ _) $$ H3; icases H4 with ⟨Hv, HG⟩
  ihave Hu := (show bigSep Finset.univ (G (F := F)) ⊢ BI.own (ER (launchOf barCells ownCells talkToks)) from Entails.of_eq (bigSep_first _)) $$ HG
  imod (Rounds.fund_launch ER (Rd m) cells_apart (fun g _ h => h) talkToks) $$ [Hv Hu] with ⟨%κ, -, #Hinv, #Hr, Hat, Hopen, Htok⟩
  · isplitl [Hv]
    · iapply hv $$ Hv
    · iexact Hu
  imodintro
  iapply (bigSep_with_persistent (R := iprop(recs m (fun p => κ (kcell p)) ∗ bars)) (Φ := fun c => iprop(linear c ∗ bundle m c)) fun c _ => T₀_of m (fun p => κ (kcell p)) c)
  isplitr
  · isplitr; · iapply (hin κ) $$ Hinv
    iapply hre $$ Hr
  iapply (pair_join Finset.univ (fun c => linear c) (fun c => bundle m c))
  isplitr [HB]
  · unfold linear
    iapply (pair_join _ _ _); isplitl [Hat]; · iapply hat $$ Hat
    iapply (pair_join _ _ _); isplitl [Hopen]; · iapply hop $$ Hopen
    iapply (Entails.of_eq (toks_eq (F := F))) $$ Htok
  · iexact HB

theorem unscoped_eq : ∀ sm : SemLoc sig, sm.isScoped .tc = false → sm = .reg barS := by decide

theorem bufs_eq (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1)) ∗ ((c : Thread nD τ).loc main_arg2 ↦{fullShare} W (Proc.devRef .tc main_arg2)) ∗ ((c : Thread nD τ).loc main_arg3 ↦{fullShare} W (Proc.devRef .tc main_arg3)) ∗ ((c : Thread nD τ).loc main_arg4 ↦{fullShare} W (Proc.devRef .tc main_arg4)) ∗ ((c : Thread nD τ).loc main_v1 ↦{fullShare} W (Proc.devRef .tc main_v1)) ∗ ((c : Thread nD τ).loc main_v2 ↦{fullShare} W (Proc.devRef .tc main_v2)) ∗ ((c : Thread nD τ).loc main_v3 ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v1, Proc.devRef .tc main_v2, Proc.devRef .tc main_v3] (by decide) (by decide)]
  rfl

set_option backward.isDefEq.respectTransparency.types false in
/-- The run of the program from any memory with every counter at zero: it terminates, the arguments are unchanged, every
device's result is the same `OUT m`, and every counter is back at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)
        ∧ r.2.mem ((c : Thread nD τ).loc main_v3) = OUT m) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_first]; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = C₂ m c (Proc.devRef .tc main_arg0) ∧ s.mem ((Memref.whole main_arg1).view.loc (c : Thread nD τ)) = C₂ m c (Proc.devRef .tc main_arg1) ∧ s.mem ((Memref.whole main_arg2).view.loc (c : Thread nD τ)) = C₂ m c (Proc.devRef .tc main_arg2) ∧ s.mem ((Memref.whole main_arg3).view.loc (c : Thread nD τ)) = C₂ m c (Proc.devRef .tc main_arg3) ∧ s.mem ((Memref.whole main_arg4).view.loc (c : Thread nD τ)) = C₂ m c (Proc.devRef .tc main_arg4) ∧ s.mem ((Memref.whole main_v3).view.loc (c : Thread nD τ)) = C₂ m c (Proc.devRef .tc main_v3))
      ∧ s.sem (kcell (c, none)) = 0)
    (hfin := fun c s' => by
      unfold Tₙ; rw [bufs_eq]
      iintro ⟨⟨⟨H0, H1, H2, H3, H4, -, -, H7⟩, Hb0⟩, HSI⟩
      icombine HSI H0 gives %h0
      icombine HSI H1 gives %h1
      icombine HSI H2 gives %h2
      icombine HSI H3 gives %h3
      icombine HSI H4 gives %h4
      icombine HSI H7 gives %h7
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4, Buf.eq_of_forall_mem_univ h7⟩, by simpa using hb⟩
      iexact HSI)
    (hQ := fun s h hs => ⟨fun c => by
        obtain ⟨⟨h0, h1, h2, h3, h4, h7⟩, -⟩ := h c
        rw [C₂_ne m c (by decide)] at h0
        rw [C₂_ne m c (by decide)] at h1
        rw [C₂_ne m c (by decide)] at h2
        rw [C₂_ne m c (by decide)] at h3
        rw [C₂_ne m c (by decide)] at h4
        rw [C₂_out] at h7
        exact ⟨h0.trans (V_main_arg0 m c), h1.trans (V_main_arg1 m c), h2.trans (V_main_arg2 m c), h3.trans (V_main_arg3 m c), h4.trans (V_main_arg4 m c), h7⟩,
      sem_eq_zero hs fun c sm hsm => by
        obtain rfl := unscoped_eq sm hsm
        exact (h c).2⟩)

end Cert.KernelIdeal.Proto
-- ==== Proof.Same.lean ====
module
public import proofs.«01_k».proof.Defs
public import proofs.«01_k».proof.Proof.KernelIdeal.Launch
public import proofs.«01_k».proof.Proof.Gen.Kernel
@[expose] public section

/-!
# The kernel as written and the kernel with its named constant

The two programs differ in one constant. Read with the constant the kernel writes, the second is the first, term for term,
so what is proved of the second at any reading of the name holds of the first.
-/

set_option maxRecDepth 16384

noncomputable section

namespace Cert.Proof

open Idealize.ShloMosaic Idealize.SL.Sem

variable {F : FTy → Type} [FloatOps F]

/-- Every named constant read as the number the kernel writes. -/
abbrev plain : Named F := ⟨fun _ _ _ b => Scalar.ofBits _ b⟩

theorem main_same : @Cert.Kernel.main F Cert.Kernel.Gen.facts = @Cert.KernelIdeal.main F Cert.KernelIdeal.Gen.facts := rfl

theorem body_same : @Cert.Kernel.cc0_body F _ Cert.Kernel.Gen.facts = @Cert.KernelIdeal.cc0_body F _ plain Cert.KernelIdeal.Gen.facts := rfl

theorem table_same : @Cert.Kernel.defs₀ F _ Cert.Kernel.Gen.facts = @Cert.KernelIdeal.defs₀ F _ plain Cert.KernelIdeal.Gen.facts :=
  congrArg Defs.onTc (funext fun i => by
    match i with
    | 0 => rfl)

theorem defs_same : @Cert.Kernel.defs F _ Cert.Kernel.Gen.facts = @Cert.KernelIdeal.defs F _ plain Cert.KernelIdeal.Gen.facts :=
  congrArg (Pipeline.defs Cert.KernelIdeal.pcfgs) table_same

end Cert.Proof

end
-- ==== Proof.Frames.lean ====
module
public import proofs.«01_k».proof.Defs
public import proofs.«01_k».proof.Proof.Same
public import proofs.«01_k».proof.Proof.Gen.ReferenceIdeal.Run
@[expose] public section

/-!
# The frames

Every program runs, leaves its arguments unchanged and leaves every counter at zero: the kernel's two programs by one run,
read at the machine's floats and at the extended reals, the reference by its own, which has no counter. The one rewrite is the
mask's named constant.
-/

noncomputable section

namespace Cert.Proof

open Idealize.ShloMosaic Idealize.SL.Sem

theorem frame_kernel : Cert.quiescent_Kernel := fun m g _ => by
  have h := @Cert.KernelIdeal.Proto.run_main Bits _ plain m g
  rw [← defs_same, ← main_same] at h
  exact (θ_run Cert.Kernel.defs _ _).mono (fun _ h => ⟨fun c => ⟨(h.1 c).1, (h.1 c).2.1, (h.1 c).2.2.1, (h.1 c).2.2.2.1, (h.1 c).2.2.2.2.1⟩, h.2⟩) h

theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Proto.run_main (F := Ideal) m g)

theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem rewrites : Cert.preserves_Kernel_KernelIdeal := IdealRules.named_const.statement Cert.KernelIdeal.κ "mask" .f32 0xCE6E6B28#32 ⊥ rfl

end Cert.Proof
-- ==== Proof.Value.Spec.lean ====
module
public import Idealize.ShloMosaic.Lib.Pointwise
@[expose] public section

/-!
# Windowed attention over the extended reals

One row of attention with masked scores `⊥`, and what is true of it: keys whose scores are all `⊥` can be left out of
the maximum, of the denominator and of the weighted sum, provided that the row has a score that is a real number and
none that is `⊤`.
-/

noncomputable section

namespace Cert.Val

open Idealize.ShloMosaic

/-- The greatest score of a row, its denominator, its weights and the weighted sum of values. -/
def mx {n : ℕ} (t : Fin n → EReal) : EReal := Finset.univ.fold max ⊥ t
def den {n : ℕ} (t : Fin n → EReal) : EReal := ∑ j, Ideal.exp (t j - mx t)
def wt {n : ℕ} (t : Fin n → EReal) (j : Fin n) : EReal := Ideal.div (Ideal.exp (t j - mx t)) (den t)
def att {n : ℕ} (t v : Fin n → EReal) : EReal := ∑ j, wt t j * v j

theorem mx_eq_sup {n : ℕ} (t : Fin n → EReal) : mx t = Finset.univ.sup t := rfl

theorem exp_nonneg (x : EReal) : 0 ≤ Ideal.exp x := by
  induction x with
  | bot => exact le_refl _
  | top => exact le_top
  | coe r => show (0 : EReal) ≤ ((Real.exp r : ℝ) : EReal); exact EReal.coe_nonneg.mpr (Real.exp_pos r).le

theorem sub_bot_exp (x : EReal) : Ideal.exp (⊥ - x) = 0 := by
  rw [sub_eq_add_neg, EReal.bot_add]; rfl

theorem den_pos {n : ℕ} (t : Fin n → EReal) (ht : ∀ j, t j ≠ ⊤) (he : ∃ j, t j ≠ ⊥) : 0 < den t := by
  obtain ⟨j, hj⟩ := he
  obtain ⟨i, -, hi⟩ := Finset.exists_mem_eq_sup Finset.univ ⟨j, Finset.mem_univ _⟩ t
  have hb : t i ≠ ⊥ := fun e => hj (le_bot_iff.mp ((Finset.le_sup (f := t) (Finset.mem_univ j)).trans (hi.trans e).le))
  have h1 : Ideal.exp (t i - mx t) = 1 := by
    rw [mx_eq_sup, hi]
    lift t i to ℝ using ⟨ht i, hb⟩ with r
    rw [← EReal.coe_sub, sub_self]
    show ((Real.exp 0 : ℝ) : EReal) = 1
    rw [Real.exp_zero]; rfl
  have h2 : Ideal.exp (t i - mx t) ≤ den t :=
    Finset.single_le_sum (f := fun j => Ideal.exp (t j - mx t)) (fun k _ => exp_nonneg _) (Finset.mem_univ i)
  exact lt_of_lt_of_le (by rw [h1]; exact zero_lt_one) h2

variable {a b : ℕ}

/-- A sum whose terms vanish from `a` on is the sum of the first `a`. -/
theorem sum_first (h : a ≤ b) (f : Fin b → EReal) (hf : ∀ j : Fin b, a ≤ j.val → f j = 0) : ∑ j, f j = ∑ j : Fin a, f (j.castLE h) := by
  rw [← Finset.sum_subset (Finset.subset_univ (Finset.univ.map (Fin.castLEEmb h))) (fun j _ hj => hf j ?_), Finset.sum_map]
  · rfl
  · by_contra hlt
    exact hj (Finset.mem_map.mpr ⟨⟨j.val, by omega⟩, Finset.mem_univ _, Fin.ext rfl⟩)

theorem mx_first (h : a ≤ b) (t : Fin b → EReal) (ht : ∀ j : Fin b, a ≤ j.val → t j = ⊥) : mx t = mx fun j : Fin a => t (j.castLE h) := by
  rw [mx_eq_sup, mx_eq_sup]
  refine le_antisymm (Finset.sup_le fun j _ => ?_) (Finset.sup_le fun j _ => Finset.le_sup (f := t) (Finset.mem_univ (j.castLE h)))
  by_cases hj : a ≤ j.val
  · rw [ht j hj]; exact bot_le
  · exact Finset.le_sup (f := fun j : Fin a => t (j.castLE h)) (Finset.mem_univ (⟨j.val, by omega⟩ : Fin a))

theorem den_first (h : a ≤ b) (t : Fin b → EReal) (ht : ∀ j : Fin b, a ≤ j.val → t j = ⊥) : den t = den fun j : Fin a => t (j.castLE h) := by
  unfold den
  rw [sum_first h _ fun j hj => by rw [ht j hj, sub_bot_exp], mx_first h t ht]

/-- The weighted sum over all keys is the one over the keys of the window. -/
theorem att_first (h : a ≤ b) (t v : Fin b → EReal) (ht : ∀ j : Fin b, a ≤ j.val → t j = ⊥) (hp : 0 < den t) :
    att t v = att (fun j : Fin a => t (j.castLE h)) (fun j => v (j.castLE h)) := by
  unfold att wt
  rw [sum_first h _ fun j hj => by
    rw [ht j hj, sub_bot_exp, Ideal.div, if_neg hp.ne', zero_mul, zero_mul], den_first h t ht, mx_first h t ht]

/-- A finite sum of products of real numbers is a real number. -/
theorem sum_real {n : ℕ} (f : Fin n → EReal) (hf : ∀ k, f k ≠ ⊤ ∧ f k ≠ ⊥) : (∑ k, f k) ≠ ⊤ ∧ (∑ k, f k) ≠ ⊥ := by
  refine Finset.sum_induction f (fun x => x ≠ ⊤ ∧ x ≠ ⊥) (fun x y hx hy => ?_) ⟨EReal.zero_ne_top, EReal.zero_ne_bot⟩ fun k _ => hf k
  lift x to ℝ using hx
  lift y to ℝ using hy
  rw [← EReal.coe_add]
  exact ⟨EReal.coe_ne_top _, EReal.coe_ne_bot _⟩

theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-! ## The whole arrays -/

/-- `|i - j| ≤ 128`. -/
def near (i j : ℕ) : Prop := i ≤ j + 128 ∧ j ≤ i + 128
instance (i j : ℕ) : Decidable (near i j) := by unfold near; infer_instance

/-- The scale of the scores. -/
def scale : EReal := Ideal.ofBits .f32 0x3E000000#32

/-- A masked row of scores: `q` is the query, `k j` key `j`. -/
def row {n : ℕ} (i : ℕ) (q : Fin 64 → EReal) (k : Fin n → Fin 64 → EReal) (j : Fin n) : EReal :=
  if near i j.val then (∑ d, q d * k j d) * scale else ⊥

variable (X : Fin 2 → Fin 512 → Fin 768 → EReal) (Wq : Fin 768 → Fin 4096 → EReal) (K V : Fin 2 → Fin 4096 → Fin 64 → Fin 64 → EReal)
  (Wo : Fin 4096 → Fin 768 → EReal)

/-- Column `64 h + d`. -/
def hd (h d : Fin 64) : Fin 4096 := ⟨64 * h.val + d.val, by omega⟩
def hOf (n : Fin 4096) : Fin 64 := ⟨n.val / 64, by omega⟩
def dOf (n : Fin 4096) : Fin 64 := ⟨n.val % 64, by omega⟩

def qry (b : Fin 2) (i : Fin 512) (n : Fin 4096) : EReal := ∑ k, X b i k * Wq k n
/-- Column `n` of row `i` of batch `b` of the attention's result, over the first `N` keys. -/
def ctx (N : ℕ) (hN : N ≤ 4096) (b : Fin 2) (i : Fin 512) (n : Fin 4096) : EReal :=
  att (row i.val (fun d => qry X Wq b i (hd (hOf n) d)) fun j : Fin N => K b (j.castLE hN) (hOf n)) fun j => V b (j.castLE hN) (hOf n) (dOf n)
/-- The reference's result. -/
def res (b : Fin 2) (i : Fin 512) (o : Fin 768) : EReal := ∑ n, ctx X Wq K V 4096 le_rfl b i n * Wo n o
/-- Device `c`'s part of it, over the window's 640 keys and its own 512 columns. -/
def part (c : Fin 8) (b : Fin 2) (i : Fin 512) (o : Fin 768) : EReal :=
  ∑ k : Fin 512, ctx X Wq K V 640 (by decide) b i ⟨512 * c.val + k.val, by omega⟩ * Wo ⟨512 * c.val + k.val, by omega⟩ o

theorem scale_real : scale ≠ ⊤ ∧ scale ≠ ⊥ := by
  have h : scale = ((1 / 8 : ℝ) : EReal) := by
    unfold scale; simp [Ideal.ofBits, Ideal.ieee, -EReal.coe_mul]; norm_num
  rw [h]; exact ⟨EReal.coe_ne_top _, EReal.coe_ne_bot _⟩

variable {X Wq K}

theorem ctx_window (hX : ∀ b i k, X b i k ≠ ⊤ ∧ X b i k ≠ ⊥) (hW : ∀ k n, Wq k n ≠ ⊤ ∧ Wq k n ≠ ⊥)
    (hK : ∀ b j h d, K b j h d ≠ ⊤ ∧ K b j h d ≠ ⊥) (b : Fin 2) (i : Fin 512) (n : Fin 4096) :
    ctx X Wq K V 4096 le_rfl b i n = ctx X Wq K V 640 (by decide) b i n := by
  have hr : ∀ j : Fin 4096, (∑ d, qry X Wq b i (hd (hOf n) d) * K b j (hOf n) d) * scale ≠ ⊤
      ∧ (∑ d, qry X Wq b i (hd (hOf n) d) * K b j (hOf n) d) * scale ≠ ⊥ := fun j =>
    mul_real (sum_real _ fun d => mul_real (sum_real _ fun k => mul_real (hX _ _ _) (hW _ _)) (hK _ _ _ _)) scale_real
  unfold ctx
  rw [att_first (a := 640) (b := 4096) (by decide) _ _ ?_ ?_]
  · rfl
  · intro j hj
    exact if_neg fun h => absurd h.2 (by omega)
  · refine den_pos _ (fun j => ?_) ⟨i.castLE (by decide), ?_⟩
    · unfold row; split
      · exact (hr j).1
      · exact bot_ne_top
    · unfold row; rw [if_pos ⟨by simp, by simp⟩]; exact (hr _).2

variable (X Wq K)

/-- The devices' parts add up to the reference's result. -/
theorem res_eq (hX : ∀ b i k, X b i k ≠ ⊤ ∧ X b i k ≠ ⊥) (hW : ∀ k n, Wq k n ≠ ⊤ ∧ Wq k n ≠ ⊥)
    (hK : ∀ b j h d, K b j h d ≠ ⊤ ∧ K b j h d ≠ ⊥) (b : Fin 2) (i : Fin 512) (o : Fin 768) :
    res X Wq K V Wo b i o = ∑ c, part X Wq K V Wo c b i o := by
  unfold res part
  rw [Finset.sum_congr rfl fun n _ => by rw [ctx_window V hX hW hK b i n]]
  rw [← Fintype.sum_prod_type' (f := fun (c : Fin 8) (k : Fin 512) =>
    ctx X Wq K V 640 (by decide) b i ⟨512 * c.val + k.val, by omega⟩ * Wo ⟨512 * c.val + k.val, by omega⟩ o)]
  refine (Equiv.sum_comp (finProdFinEquiv (m := 8) (n := 512)) _).symm.trans (Finset.sum_congr rfl fun p _ => ?_)
  have e : (finProdFinEquiv p : Fin 4096) = ⟨512 * p.1.val + p.2.val, by omega⟩ := Fin.ext (by simp [finProdFinEquiv]; omega)
  show ctx X Wq K V 640 _ b i (finProdFinEquiv p : Fin 4096) * Wo (finProdFinEquiv p : Fin 4096) o = _
  rw [e]

end Cert.Val
-- ==== Proof.Value.Weights.lean ====
module
public import Idealize.ShloMosaic.Lib.Pointwise
public import proofs.«01_k».proof.Proof.KernelIdeal.Contents
public import proofs.«01_k».proof.Proof.Value.Spec
@[expose] public section

/-!
# One device's partial product

The sixteen heads' weights, their contexts and the product with the output weights, each read at an index as the
row arithmetic of `Spec`.
-/

noncomputable section

namespace Cert.Val

open Cert.KernelIdeal Cert.KernelIdeal.Gen Cert.KernelIdeal.Proto
open Idealize.ShloMosaic

theorem mask_const : (Named.named (F := Ideal) κ "mask" 0xCE6E6B28#32 : Ideal .f32) = ⊥ :=
  IdealRules.named_const.ideal_named_scalar _ _ _ _ rfl

theorem ninf : Ideal.ofBits .f32 0xFF800000#32 = ⊥ := by simp [Ideal.ofBits, Ideal.ieee]

/-- The two masks' comparison. -/
theorem near_iff {i j : ℕ} (hi : i < 4096) (hj : j < 4096) :
    IntOp.cmpi CmpIPredicate.sle (IntOp.absi (IntOp.subi (BitVec.ofNat 32 i) (BitVec.ofNat 32 j))) 128#32 = BitVec.ofBool (decide (near i j)) := by
  have e1 : (BitVec.ofNat 32 i).toNat = i := by rw [BitVec.toNat_ofNat]; omega
  have e2 : (BitVec.ofNat 32 j).toNat = j := by rw [BitVec.toNat_ofNat]; omega
  have e : (BitVec.ofNat 32 i - BitVec.ofNat 32 j).toNat = (4294967296 - j + i) % 4294967296 := by rw [BitVec.toNat_sub, e1, e2]
  refine congrArg BitVec.ofBool (decide_eq_decide.mpr ?_)
  unfold IntOp.absi IntOp.subi near
  rw [BitVec.msb_eq_decide, e]
  split
  all_goals rename_i h; simp only [decide_eq_true_eq] at h
  · rw [BitVec.toInt_eq_toNat_cond, BitVec.toNat_neg, e]
    show _ ≤ (128 : Int) ↔ _
    omega
  · rw [BitVec.toInt_eq_toNat_cond, e]
    show _ ≤ (128 : Int) ↔ _
    omega

theorem bias_apply (i : Fin 512) (j : Fin 640) : k0_pay4 (F := Ideal) (ix2 i j) = if near i.val j.val then 0 else ⊥ := by
  pointwise [k0_pay4]
  rw [near_iff (by omega) (by omega), mask_const]
  by_cases h : near i.val j.val <;> simp [h, Scalar.select]

/-- A masked score, written with a bias. -/
theorem score_eq (p : Prop) [Decidable p] (x : EReal) : x + (if p then 0 else ⊥) = if p then x else ⊥ := by
  split
  · exact add_zero x
  · exact EReal.add_bot x

/-- Column `64 h + d` of a device's 512. -/
def lc (h : Fin 8) (d : Fin 64) : Fin 512 := ⟨64 * h.val + d.val, by omega⟩

/-- One head's row of scores on a device. -/
def lrow (q : FVec Ideal S512x512 .bf16) (k : Vec Ideal S1x640x64 .bf16) (h : Fin 8) (i : Fin 512) : Fin 640 → EReal :=
  row i.val (fun d => q (ix2 i (lc h d))) fun j d => k (ix3 0 j d)

variable (m : (ℓ : Loc nD τ sig) → Buf (Elt Ideal) ℓ) (c : Dev nD)

/-- The weights of the heads of batch 0 and of batch 1. -/
def W0 (h : Fin 8) : FVec Ideal S512x640 .bf16 :=
  match h with | 0 => p00 m c | 1 => p01 m c | 2 => p02 m c | 3 => p03 m c | 4 => p04 m c | 5 => p05 m c | 6 => p06 m c | 7 => p07 m c
def W1 (h : Fin 8) : FVec Ideal S512x640 .bf16 :=
  match h with | 0 => p10 m c | 1 => p11 m c | 2 => p12 m c | 3 => p13 m c | 4 => p14 m c | 5 => p15 m c | 6 => p16 m c | 7 => p17 m c

theorem W0_apply (h : Fin 8) (i : Fin 512) (j : Fin 640) : W0 m c h (ix2 i j) = wt (lrow (q0 m c) (kH m c 0 h) h i) j := by
  match h with
  | 0 => show p00 m c (ix2 i j) = _; unfold p00 wt den mx lrow row lc; generalize q0 m c = q; generalize kH m c 0 0 = k; pointwise [k0_pay8]; simp only [bias_apply, score_eq, ninf, mul_zero, zero_add, Fin.val_zero]; rfl
  | 1 => show p01 m c (ix2 i j) = _; unfold p01 wt den mx lrow row lc; generalize q0 m c = q; generalize kH m c 0 1 = k; pointwise [k0_pay11, k0_pay9, k0_pay10]; simp only [bias_apply, score_eq, ninf]; rfl
  | 2 => show p02 m c (ix2 i j) = _; unfold p02 wt den mx lrow row lc; generalize q0 m c = q; generalize kH m c 0 2 = k; pointwise [k0_pay12]; simp only [bias_apply, score_eq, ninf]; rfl
  | 3 => show p03 m c (ix2 i j) = _; unfold p03 wt den mx lrow row lc; generalize q0 m c = q; generalize kH m c 0 3 = k; pointwise [k0_pay15, k0_pay13, k0_pay14]; simp only [bias_apply, score_eq, ninf]; rfl
  | 4 => show p04 m c (ix2 i j) = _; unfold p04 wt den mx lrow row lc; generalize q0 m c = q; generalize kH m c 0 4 = k; pointwise [k0_pay16]; simp only [bias_apply, score_eq, ninf]; rfl
  | 5 => show p05 m c (ix2 i j) = _; unfold p05 wt den mx lrow row lc; generalize q0 m c = q; generalize kH m c 0 5 = k; pointwise [k0_pay17]; simp only [bias_apply, score_eq, ninf]; rfl
  | 6 => show p06 m c (ix2 i j) = _; unfold p06 wt den mx lrow row lc; generalize q0 m c = q; generalize kH m c 0 6 = k; pointwise [k0_pay20, k0_pay18, k0_pay19]; simp only [bias_apply, score_eq, ninf]; rfl
  | 7 => show p07 m c (ix2 i j) = _; unfold p07 wt den mx lrow row lc; generalize q0 m c = q; generalize kH m c 0 7 = k; pointwise [k0_pay21]; simp only [bias_apply, score_eq, ninf]; rfl

theorem W1_apply (h : Fin 8) (i : Fin 512) (j : Fin 640) : W1 m c h (ix2 i j) = wt (lrow (q1 m c) (kH m c 1 h) h i) j := by
  match h with
  | 0 => show p10 m c (ix2 i j) = _; unfold p10 wt den mx lrow row lc; generalize q1 m c = q; generalize kH m c 1 0 = k; pointwise [k0_pay24, k0_pay22, k0_pay23]; simp only [bias_apply, score_eq, ninf, mul_zero, zero_add, Fin.val_zero]; rfl
  | 1 => show p11 m c (ix2 i j) = _; unfold p11 wt den mx lrow row lc; generalize q1 m c = q; generalize kH m c 1 1 = k; pointwise [k0_pay25]; simp only [bias_apply, score_eq, ninf]; rfl
  | 2 => show p12 m c (ix2 i j) = _; unfold p12 wt den mx lrow row lc; generalize q1 m c = q; generalize kH m c 1 2 = k; pointwise [k0_pay26]; simp only [bias_apply, score_eq, ninf]; rfl
  | 3 => show p13 m c (ix2 i j) = _; unfold p13 wt den mx lrow row lc; generalize q1 m c = q; generalize kH m c 1 3 = k; pointwise [k0_pay29, k0_pay27, k0_pay28]; simp only [bias_apply, score_eq, ninf]; rfl
  | 4 => show p14 m c (ix2 i j) = _; unfold p14 wt den mx lrow row lc; generalize q1 m c = q; generalize kH m c 1 4 = k; pointwise [k0_pay30]; simp only [bias_apply, score_eq, ninf]; rfl
  | 5 => show p15 m c (ix2 i j) = _; unfold p15 wt den mx lrow row lc; generalize q1 m c = q; generalize kH m c 1 5 = k; pointwise [k0_pay33, k0_pay31, k0_pay32]; simp only [bias_apply, score_eq, ninf]; rfl
  | 6 => show p16 m c (ix2 i j) = _; unfold p16 wt den mx lrow row lc; generalize q1 m c = q; generalize kH m c 1 6 = k; pointwise [k0_pay34]; simp only [bias_apply, score_eq, ninf]; rfl
  | 7 => show p17 m c (ix2 i j) = _; unfold p17 wt den mx lrow row lc; generalize q1 m c = q; generalize kH m c 1 7 = k; pointwise [k0_pay35]; simp only [bias_apply, score_eq, ninf]; rfl

theorem dite_eq {α : Type} {p : Prop} [Decidable p] {a : p → α} {b : ¬ p → α} {y : α} (h₁ : ∀ h, a h = y) (h₂ : ∀ h, b h = y) : dite p a b = y := by
  by_cases h : p
  · rw [dif_pos h, h₁]
  · rw [dif_neg h, h₂]

/-- Eight pieces of 64 columns side by side. -/
theorem cat_apply (x : Fin 8 → FVec Ideal S512x64 .bf16) (i k : Fin 512)
    (hc : Shape.Concatenates [S512x64, S512x64, S512x64, S512x64, S512x64, S512x64, S512x64, S512x64] S512x512 1) :
    concatenate S512x512 1 [⟨S512x64, x 0⟩, ⟨S512x64, x 1⟩, ⟨S512x64, x 2⟩, ⟨S512x64, x 3⟩, ⟨S512x64, x 4⟩, ⟨S512x64, x 5⟩, ⟨S512x64, x 6⟩, ⟨S512x64, x 7⟩] hc (ix2 i k)
      = x ⟨k.val / 64, by omega⟩ (ix2 i ⟨k.val % 64, by omega⟩) := by
  have key : ∀ (h : Fin 8) (e : Fin 64), h.val = k.val / 64 → e.val = k.val % 64 → x h (ix2 i e) = x ⟨k.val / 64, by omega⟩ (ix2 i ⟨k.val % 64, by omega⟩) := by
    intro h e hh he
    rw [show h = ⟨k.val / 64, by omega⟩ from Fin.ext hh, show e = ⟨k.val % 64, by omega⟩ from Fin.ext he]
  have hk := k.isLt
  pointwise
  refine dite_eq (fun _ => key 0 _ (by show 0 = _; omega) (by show k.val = _; omega)) fun _ => ?_
  refine dite_eq (fun _ => key 1 _ (by show 1 = _; omega) (by show k.val - 64 = _; omega)) fun _ => ?_
  refine dite_eq (fun _ => key 2 _ (by show 2 = _; omega) (by show k.val - 64 - 64 = _; omega)) fun _ => ?_
  refine dite_eq (fun _ => key 3 _ (by show 3 = _; omega) (by show k.val - 64 - 64 - 64 = _; omega)) fun _ => ?_
  refine dite_eq (fun _ => key 4 _ (by show 4 = _; omega) (by show k.val - 64 - 64 - 64 - 64 = _; omega)) fun _ => ?_
  refine dite_eq (fun _ => key 5 _ (by show 5 = _; omega) (by show k.val - 64 - 64 - 64 - 64 - 64 = _; omega)) fun _ => ?_
  refine dite_eq (fun _ => key 6 _ (by show 6 = _; omega) (by show k.val - 64 - 64 - 64 - 64 - 64 - 64 = _; omega)) fun _ => ?_
  exact key 7 _ (by show 7 = _; omega) (by show k.val - 64 - 64 - 64 - 64 - 64 - 64 - 64 = _; omega)

/-- The output product of a device. -/
theorem prod_apply (x : FVec Ideal S512x512 .bf16) (w : Vec Ideal S512x768 .bf16) (i : Fin 512) (o : Fin 768) :
    shapeCast S1x512x768 (matmul dot_S512x512_S512x768_S512x768_1_0_0_1_n_n none x (shapeCast S512x768 w shapeCasts_S512x768_S512x768 : FVec Ideal S512x768 .bf16)
      (constant S512x768 .f32 0x00000000#32 : FVec Ideal S512x768 .f32)) shapeCasts_S512x768_S1x512x768 (ix3 0 i o) = ∑ k : Fin 512, x (ix2 i k) * w (ix2 k o) := by
  pointwise

/-- One head's context. -/
def hctx (p : FVec Ideal S512x640 .bf16) (v : Vec Ideal S1x640x64 .bf16) : FVec Ideal S512x64 .bf16 := k0_pay36 p v
theorem hctx_apply (p : FVec Ideal S512x640 .bf16) (v : Vec Ideal S1x640x64 .bf16) (i : Fin 512) (d : Fin 64) :
    hctx p v (ix2 i d) = ∑ j : Fin 640, p (ix2 i j) * v (ix3 0 j d) := by
  pointwise [hctx, k0_pay36]

/-- Column `k` of row `i` of a device's context. -/
def lctx (q : FVec Ideal S512x512 .bf16) (K V : Fin 8 → Vec Ideal S1x640x64 .bf16) (i k : Fin 512) : EReal :=
  att (lrow q (K ⟨k.val / 64, by omega⟩) ⟨k.val / 64, by omega⟩ i) fun j => V ⟨k.val / 64, by omega⟩ (ix3 0 j ⟨k.val % 64, by omega⟩)

theorem s0_apply (i : Fin 512) (o : Fin 768) :
    s0 m c (ix3 0 i o) = ∑ k : Fin 512, lctx (q0 m c) (kH m c 0) (vH m c 0) i k * wo m c (ix2 k o) := by
  refine (prod_apply (concatenate S512x512 1 [⟨S512x64, hctx (W0 m c 0) (vH m c 0 0)⟩, ⟨S512x64, hctx (W0 m c 1) (vH m c 0 1)⟩, ⟨S512x64, hctx (W0 m c 2) (vH m c 0 2)⟩,
    ⟨S512x64, hctx (W0 m c 3) (vH m c 0 3)⟩, ⟨S512x64, hctx (W0 m c 4) (vH m c 0 4)⟩, ⟨S512x64, hctx (W0 m c 5) (vH m c 0 5)⟩, ⟨S512x64, hctx (W0 m c 6) (vH m c 0 6)⟩,
    ⟨S512x64, hctx (W0 m c 7) (vH m c 0 7)⟩] concatenates_S512x64_S512x64_S512x64_S512x64_S512x64_S512x64_S512x64_S512x64_S512x512_d1) (wo m c) i o).trans
    (Finset.sum_congr rfl fun k _ => ?_)
  rw [cat_apply (fun h => hctx (W0 m c h) (vH m c 0 h)), hctx_apply]
  unfold lctx att
  rw [Finset.sum_congr rfl fun j _ => by rw [W0_apply]]

theorem s1_apply (i : Fin 512) (o : Fin 768) :
    s1 m c (ix3 0 i o) = ∑ k : Fin 512, lctx (q1 m c) (kH m c 1) (vH m c 1) i k * wo m c (ix2 k o) := by
  refine (prod_apply (concatenate S512x512 1 [⟨S512x64, hctx (W1 m c 0) (vH m c 1 0)⟩, ⟨S512x64, hctx (W1 m c 1) (vH m c 1 1)⟩, ⟨S512x64, hctx (W1 m c 2) (vH m c 1 2)⟩,
    ⟨S512x64, hctx (W1 m c 3) (vH m c 1 3)⟩, ⟨S512x64, hctx (W1 m c 4) (vH m c 1 4)⟩, ⟨S512x64, hctx (W1 m c 5) (vH m c 1 5)⟩, ⟨S512x64, hctx (W1 m c 6) (vH m c 1 6)⟩,
    ⟨S512x64, hctx (W1 m c 7) (vH m c 1 7)⟩] concatenates_S512x64_S512x64_S512x64_S512x64_S512x64_S512x64_S512x64_S512x64_S512x512_d1) (wo m c) i o).trans
    (Finset.sum_congr rfl fun k _ => ?_)
  rw [cat_apply (fun h => hctx (W1 m c h) (vH m c 1 h)), hctx_apply]
  unfold lctx att
  rw [Finset.sum_congr rfl fun j _ => by rw [W1_apply]]

end Cert.Val
-- ==== Proof.Value.Loads.lean ====
module
public import Idealize.ShloMosaic.Lib.Pipeline.ValueKit.Point
public import Idealize.ShloMosaic.Lib.Pipeline.Value
public import proofs.«01_k».proof.Proof.Value.Weights
@[expose] public section

/-!
# What the buffers hold at an index

The staged blocks, the key and value windows and the loads from them, each read at an index as an element of an
argument array.
-/

set_option maxRecDepth 16384

noncomputable section

namespace Cert.Val

open Cert.KernelIdeal Cert.KernelIdeal.Gen Cert.KernelIdeal.Proto
open Idealize.ShloMosaic Idealize.ShloMosaic.TcCoe

theorem emb_val {s : Shape} (off size : Fin s.rank → ℕ) (inb : ∀ a, off a + size a ≤ s.size a) (y : (Rect.unit off size inb).shape.Idx) (a) :
    ((Rect.unit off size inb).emb y a).val = off a + (y a).val := by
  show off a + 1 * (y a).val = _; rw [one_mul]

/-- A store over a rectangle of a whole buffer, read inside it and outside it. -/
theorem wr_in (b : Ref sig .tc) (off size : Fin b.ty.shape.rank → ℕ) (inb : ∀ a, off a + size a ≤ b.ty.shape.size a)
    (f : b.ty.Contents (Elt Ideal)) (w : (Rect.unit off size inb).shape.Idx → Elt Ideal b.ty.elt)
    (y : (Rect.unit off size inb).shape.Idx) (i : b.ty.Idx) (h : ∀ a, (i a).val = off a + (y a).val) :
    ((View.whole b).slice (Rect.unit off size inb)).write (Elt Ideal) f w Finset.univ i = w y := by
  rw [View.write_whole_slice_unit]
  unfold updateSlice
  rw [dif_pos fun a => ⟨by rw [h]; omega, by rw [h]; exact Nat.add_lt_add_left (y a).isLt _⟩]
  exact congrArg w (funext fun a => Fin.ext (by show (i a).val - off a = _; rw [h]; omega))

/-- The same with the rectangle's start named by an equation. -/
theorem wr_at (b : Ref sig .tc) (off size : Fin b.ty.shape.rank → ℕ) (inb : ∀ a, off a + size a ≤ b.ty.shape.size a)
    (f : b.ty.Contents (Elt Ideal)) (w : (Rect.unit off size inb).shape.Idx → Elt Ideal b.ty.elt)
    (y : (Rect.unit off size inb).shape.Idx) (i : b.ty.Idx) (o : Fin b.ty.shape.rank → ℕ) (ho : off = o) (h : ∀ a, (i a).val = o a + (y a).val) :
    ((View.whole b).slice (Rect.unit off size inb)).write (Elt Ideal) f w Finset.univ i = w y :=
  wr_in b off size inb f w y i fun a => (h a).trans (congrArg (· + (y a).val) (congrFun ho a).symm)

theorem wr_out (b : Ref sig .tc) (off size : Fin b.ty.shape.rank → ℕ) (inb : ∀ a, off a + size a ≤ b.ty.shape.size a)
    (f : b.ty.Contents (Elt Ideal)) (w : (Rect.unit off size inb).shape.Idx → Elt Ideal b.ty.elt)
    (i : b.ty.Idx) (a) (h : ¬ (off a ≤ (i a).val ∧ (i a).val < off a + size a)) :
    ((View.whole b).slice (Rect.unit off size inb)).write (Elt Ideal) f w Finset.univ i = f i := by
  rw [View.write_whole_slice_unit]
  unfold updateSlice
  rw [dif_neg fun hh => h (hh a)]

variable (m : (ℓ : Loc nD τ sig) → Buf (Elt Ideal) ℓ) (c : Dev nD)

/-- Every window's block index at the one point (decided). -/
theorem idx : ∀ t : Fin cfg0.N, win0_0.index t = ![0, 0, 0] ∧ win0_1.index t = ![0, 0] ∧ win0_2.index t = ![0, 0, 0]
    ∧ win0_3.index t = ![0, 0, 0] ∧ win0_4.index t = ![0, 0] :=
  (by decide +kernel : ∀ t : Fin grid0.N, _)

theorem x_eq : xC m c = m ((c : Thread nD τ).loc main_arg0) := by
  unfold xC; blk_ext! [iblk, V, idx t0_0]
theorem wq_eq : qC m c = m ((c : Thread nD τ).loc main_arg1) := by
  unfold qC; blk_ext! [iblk, V, idx t0_0]
theorem wo_eq : wC m c = m ((c : Thread nD τ).loc main_arg4) := by
  unfold wC; blk_ext! [iblk, V, idx t0_0]
theorem k_eq : kC m c = shapeCast S2x512x4096 (m ((c : Thread nD τ).loc main_arg2)) shapeCasts_S2x512x64x64_S2x512x4096 := by
  unfold kC; blk_ext! [iblk, V, idx t0_0]
theorem v_eq : vC m c = shapeCast S2x512x4096 (m ((c : Thread nD τ).loc main_arg3)) shapeCasts_S2x512x64x64_S2x512x4096 := by
  unfold vC; blk_ext! [iblk, V, idx t0_0]

/-- The host's reshape, at an index. -/
theorem cast_apply (f : S2x512x64x64.Idx → EReal) (b : Fin 2) (j : Fin 512) (n : Fin 4096) :
    shapeCast S2x512x4096 f shapeCasts_S2x512x64x64_S2x512x4096 (ix3 b j n) = f (ix4 b j (hOf n) (dOf n)) := by
  pointwise
  refine congrArg f (funext fun a => Fin.ext ?_)
  fin_cases a <;> simp [hOf, dOf] <;> omega

/-! ## The windows -/

theorem KB_lo (t : Dev nD) (b : Fin 2) (j : Fin 640) (n : Fin 512) (h : j.val < 512) :
    KB m t (ix3 b j n) = kC m 0 (ix3 b ⟨j.val, h⟩ ⟨512 * t.val + n.val, by have := t.isLt; have := n.isLt; simp only [nD] at *; omega⟩) := by
  unfold KB
  refine (wr_in cc0_scratch0 _ _ _ _ _ (ix3 b ⟨j.val, h⟩ n) _ ?_).trans ?_
  · intro a; fin_cases a <;> simp
  · refine congrArg (kC m 0) (funext fun a => Fin.ext ((emb_val _ _ _ _ _).trans ?_))
    fin_cases a <;> simp

theorem KB_hi (t : Dev nD) (b : Fin 2) (j : Fin 640) (n : Fin 512) (h : ¬ j.val < 512) :
    KB m t (ix3 b j n) = kC m 1 (ix3 b ⟨j.val - 512, by omega⟩ ⟨512 * t.val + n.val, by have := t.isLt; have := n.isLt; simp only [nD] at *; omega⟩) := by
  unfold KB
  refine (wr_out cc0_scratch0 _ _ _ _ _ _ 1 (by simp; omega)).trans ?_
  refine (wr_in cc0_scratch0 _ _ _ _ _ (ix3 b ⟨j.val - 512, by omega⟩ n) _ ?_).trans ?_
  · intro a; fin_cases a <;> simp; omega
  · refine congrArg (kC m 1) (funext fun a => Fin.ext ((emb_val _ _ _ _ _).trans ?_))
    fin_cases a <;> simp

theorem kH_read (b : Fin 2) (h : Fin 8) (j : Fin 640) (d : Fin 64) :
    kH m c b h (ix3 0 j d) = KB m c (ix3 b j (lc h d)) := by
  unfold kH
  refine congrArg (KB m c) (funext fun a => Fin.ext ?_)
  fin_cases a <;> simp [lc] <;> rfl

theorem VB_lo (t : Dev nD) (b : Fin 2) (j : Fin 640) (n : Fin 512) (h : j.val < 512) :
    VB m t (ix3 b j n) = vC m 0 (ix3 b ⟨j.val, h⟩ ⟨512 * t.val + n.val, by have := t.isLt; have := n.isLt; simp only [nD] at *; omega⟩) := by
  unfold VB
  refine (wr_in cc0_scratch1 _ _ _ _ _ (ix3 b ⟨j.val, h⟩ n) _ ?_).trans ?_
  · intro a; fin_cases a <;> simp
  · refine congrArg (vC m 0) (funext fun a => Fin.ext ((emb_val _ _ _ _ _).trans ?_))
    fin_cases a <;> simp

theorem VB_hi (t : Dev nD) (b : Fin 2) (j : Fin 640) (n : Fin 512) (h : ¬ j.val < 512) :
    VB m t (ix3 b j n) = vC m 1 (ix3 b ⟨j.val - 512, by omega⟩ ⟨512 * t.val + n.val, by have := t.isLt; have := n.isLt; simp only [nD] at *; omega⟩) := by
  unfold VB
  refine (wr_out cc0_scratch1 _ _ _ _ _ _ 1 (by simp; omega)).trans ?_
  refine (wr_in cc0_scratch1 _ _ _ _ _ (ix3 b ⟨j.val - 512, by omega⟩ n) _ ?_).trans ?_
  · intro a; fin_cases a <;> simp; omega
  · refine congrArg (vC m 1) (funext fun a => Fin.ext ((emb_val _ _ _ _ _).trans ?_))
    fin_cases a <;> simp

theorem vH_read (b : Fin 2) (h : Fin 8) (j : Fin 640) (d : Fin 64) :
    vH m c b h (ix3 0 j d) = VB m c (ix3 b j (lc h d)) := by
  unfold vH
  refine congrArg (VB m c) (funext fun a => Fin.ext ?_)
  fin_cases a <;> simp [lc] <;> rfl

/-! ## Over the whole arrays -/

variable (X : Fin 2 → Fin 512 → Fin 768 → EReal) (Wq : Fin 768 → Fin 4096 → EReal) (K V : Fin 2 → Fin 4096 → Fin 64 → Fin 64 → EReal)
  (Wo : Fin 4096 → Fin 768 → EReal)

/-- Position `n` of block `c` of an axis of 4096. -/
def gl (c : Fin 8) (n : Fin 512) : Fin 4096 := ⟨512 * c.val + n.val, by omega⟩

/-- What the devices hold at launch: the tokens, and each its block of the other four arrays. -/
structure Placed : Prop where
  x : ∀ (c : Fin 8) b i k, (m (((c : Dev nD) : Thread nD τ).loc main_arg0) : S2x512x768.Idx → EReal) (ix3 b i k) = X b i k
  wq : ∀ (c : Fin 8) k n, (m (((c : Dev nD) : Thread nD τ).loc main_arg1) : S768x512.Idx → EReal) (ix2 k n) = Wq k (gl c n)
  k : ∀ (c : Fin 8) b j h d, (m (((c : Dev nD) : Thread nD τ).loc main_arg2) : S2x512x64x64.Idx → EReal) (ix4 b j h d) = K b (gl c j) h d
  v : ∀ (c : Fin 8) b j h d, (m (((c : Dev nD) : Thread nD τ).loc main_arg3) : S2x512x64x64.Idx → EReal) (ix4 b j h d) = V b (gl c j) h d
  wo : ∀ (c : Fin 8) n o, (m (((c : Dev nD) : Thread nD τ).loc main_arg4) : S512x768.Idx → EReal) (ix2 n o) = Wo (gl c n) o

variable {m X Wq K V Wo} (H : Placed m X Wq K V Wo)
include H

theorem kH_apply (c : Fin 8) (b : Fin 2) (h : Fin 8) (j : Fin 640) (d : Fin 64) :
    kH m c b h (ix3 0 j d) = K b (j.castLE (by decide)) (hOf (gl c (lc h d))) (dOf (gl c (lc h d))) := by
  rw [kH_read]
  by_cases hj : j.val < 512
  · rw [KB_lo m c b j _ hj, k_eq]
    exact (cast_apply _ _ _ _).trans ((H.k 0 _ _ _ _).trans (congrArg (fun z => K b z _ _) (Fin.ext (by simp [gl]))))
  · rw [KB_hi m c b j _ hj, k_eq]
    exact (cast_apply _ _ _ _).trans ((H.k 1 _ _ _ _).trans (congrArg (fun z => K b z _ _) (Fin.ext (by simp [gl]; omega))))

theorem vH_apply (c : Fin 8) (b : Fin 2) (h : Fin 8) (j : Fin 640) (d : Fin 64) :
    vH m c b h (ix3 0 j d) = V b (j.castLE (by decide)) (hOf (gl c (lc h d))) (dOf (gl c (lc h d))) := by
  rw [vH_read]
  by_cases hj : j.val < 512
  · rw [VB_lo m c b j _ hj, v_eq]
    exact (cast_apply _ _ _ _).trans ((H.v 0 _ _ _ _).trans (congrArg (fun z => V b z _ _) (Fin.ext (by simp [gl]))))
  · rw [VB_hi m c b j _ hj, v_eq]
    exact (cast_apply _ _ _ _).trans ((H.v 1 _ _ _ _).trans (congrArg (fun z => V b z _ _) (Fin.ext (by simp [gl]; omega))))

theorem x0_apply (c : Fin 8) (i : Fin 512) (k : Fin 768) : x0 m c (ix3 0 i k) = X 0 i k := by
  unfold x0; rw [x_eq]
  refine (congrArg (m _) (funext fun a => Fin.ext ?_)).trans (H.x c 0 i k)
  fin_cases a <;> simp <;> rfl
theorem x1_apply (c : Fin 8) (i : Fin 512) (k : Fin 768) : x1 m c (ix3 0 i k) = X 1 i k := by
  unfold x1; rw [x_eq]
  refine (congrArg (m _) (funext fun a => Fin.ext ?_)).trans (H.x c 1 i k)
  fin_cases a <;> simp <;> rfl
theorem wq_apply (c : Fin 8) (k : Fin 768) (n : Fin 512) : wq m c (ix2 k n) = Wq k (gl c n) := by
  unfold wq; rw [wq_eq]
  refine (congrArg (m _) (funext fun a => Fin.ext ?_)).trans (H.wq c k n)
  fin_cases a <;> simp <;> rfl
theorem wo_apply (c : Fin 8) (n : Fin 512) (o : Fin 768) : wo m c (ix2 n o) = Wo (gl c n) o := by
  unfold wo; rw [wo_eq]
  refine (congrArg (m _) (funext fun a => Fin.ext ?_)).trans (H.wo c n o)
  fin_cases a <;> simp <;> rfl

theorem q0_apply (c : Fin 8) (i n : Fin 512) : q0 m c (ix2 i n) = qry X Wq 0 i (gl c n) := by
  unfold q0
  pointwise [k0_pay5]
  exact Finset.sum_congr rfl fun k _ => by rw [x0_apply H, wq_apply H]
theorem q1_apply (c : Fin 8) (i n : Fin 512) : q1 m c (ix2 i n) = qry X Wq 1 i (gl c n) := by
  unfold q1
  pointwise [k0_pay6]
  exact Finset.sum_congr rfl fun k _ => by rw [x1_apply H, wq_apply H]

/-- Column `k` of a device's context is the window's column `512 * c + k`. -/
theorem lctx_eq (c : Fin 8) (b : Fin 2) (q : FVec Ideal S512x512 .bf16) (hq : ∀ i n, q (ix2 i n) = qry X Wq b i (gl c n)) (i k : Fin 512) :
    lctx q (kH m c b) (vH m c b) i k = ctx X Wq K V 640 (by decide) b i (gl c k) := by
  have e : hOf (gl c k) = ⟨8 * c.val + k.val / 64, by omega⟩ := Fin.ext (by simp [hOf, gl]; omega)
  have ed : ∀ d : Fin 64, hOf (gl c (lc ⟨k.val / 64, by omega⟩ d)) = hOf (gl c k) := fun d => Fin.ext (by simp [hOf, gl, lc]; omega)
  have ee : ∀ d : Fin 64, dOf (gl c (lc ⟨k.val / 64, by omega⟩ d)) = d := fun d => Fin.ext (by simp [dOf, gl, lc]; omega)
  have eg : ∀ d : Fin 64, gl c (lc ⟨k.val / 64, by omega⟩ d) = hd (hOf (gl c k)) d := fun d => Fin.ext (by simp [hd, hOf, gl, lc]; omega)
  have el : dOf (gl c k) = ⟨k.val % 64, by omega⟩ := Fin.ext (by simp [dOf, gl]; omega)
  unfold lctx ctx lrow
  congr 1
  · congr 1
    · funext d; rw [hq, eg]
    · funext j d; rw [kH_apply H, ed, ee]
  · funext j; rw [vH_apply H, ed, ee, el]

theorem s0_part (c : Fin 8) (i : Fin 512) (o : Fin 768) : s0 m c (ix3 0 i o) = part X Wq K V Wo c 0 i o := by
  rw [s0_apply]
  exact Finset.sum_congr rfl fun k _ => by rw [lctx_eq H c 0 _ (q0_apply H c), wo_apply H]; rfl
theorem s1_part (c : Fin 8) (i : Fin 512) (o : Fin 768) : s1 m c (ix3 0 i o) = part X Wq K V Wo c 1 i o := by
  rw [s1_apply]
  exact Finset.sum_congr rfl fun k _ => by rw [lctx_eq H c 1 _ (q1_apply H c), wo_apply H]; rfl

end Cert.Val
-- ==== Proof.Value.Butterfly.lean ====
module
public import proofs.«01_k».proof.Proof.Value.Loads
@[expose] public section

/-!
# The exchange of partial products

Three halvings leave each device with 64 rows of the eight devices' sum, and the gathering puts each row where its owner
says: every device's result is the sum of the eight partial products.
-/

set_option maxRecDepth 16384

noncomputable section

namespace Cert.Val

open Cert.KernelIdeal Cert.KernelIdeal.Gen Cert.KernelIdeal.Proto
open Idealize.ShloMosaic Idealize.ShloMosaic.TcCoe

variable (m : (ℓ : Loc nD τ sig) → Buf (Elt Ideal) ℓ) (c : Dev nD) (b : Fin 2) (i : Fin 512) (o : Fin 768)

/-- The output buffer's contents at an index: the partial product and the three halvings. -/
def a0 : EReal := A0 m c (ix3 b i o)
def a1 : EReal := A1 m c (ix3 b i o)
def a2 : EReal := A2 m c (ix3 b i o)
def a3 : EReal := A3 m c (ix3 b i o)

theorem pay55_apply (f : Vec Ideal S2x512x768 .bf16) (j) : k0_pay55 f j = f j := rfl

theorem whole_apply (f : Cn Ideal cc0_scratch4) (j) : bA.view.readAt (Elt Ideal) (Rect.unit (s := S2x512x768) ![0, 0, 0] S2x512x768.size
    inb_S2x512x768_S2x512x768_0_0_0).toLoadRect f j = f j := by
  refine congrArg f (funext fun a => Fin.ext ((emb_val _ _ _ _ _).trans ?_))
  fin_cases a <;> simp

/-- A load of whole rows, at an index. -/
theorem rows_apply (off : Fin 3 → ℕ) (n : ℕ) (inb) (f : Cn Ideal cc0_stg5_0) (y : Fin n) (h : off = ![0, off 1, 0]) (hi : off 1 + y.val = i.val) :
    aO.view.readAt (Elt Ideal) (Rect.unit (s := S2x512x768) off ![2, n, 768] inb).toLoadRect f (ix3 b y o) = f (ix3 b i o) := by
  have h0 : off 0 = 0 := by rw [h]; rfl
  have h2 : off 2 = 0 := by rw [h]; rfl
  refine congrArg f (funext fun a => Fin.ext ?_)
  show off a + 1 * _ = _
  fin_cases a
  · simp [h0]
  · simpa using hi
  · simp [h2]

theorem lin_own : ∀ c : Fin 8, lin ((lin c.val) % 8) = c.val := by decide

theorem A1_apply (h : i.val / 256 = lin c.val / 4) :
    a1 m c b i o = a0 m c b i o + a0 m (q 2 c) b i o := by
  have hq : ∀ c : Dev nD, 256 * (1 - lin (q 2 c).val / 4) = 256 * (lin c.val / 4) := by decide
  have hq := hq c
  have hy : i.val - 256 * (lin c.val / 4) < 256 := by omega
  unfold a1 A1
  refine (wr_at cc0_stg5_0 _ _ _ _ _ (ix3 b (⟨i.val - 256 * (lin c.val / 4), hy⟩ : Fin 256) o) _ _ (off2_eq c) ?_).trans ?_
  · intro a; fin_cases a <;> simp; omega
  · pointwise [k0_pay48, v0, k0_pay47]
    refine congrArg₂ (· + ·) (rows_apply b i o _ 256 _ _ _ (by rw [off2_eq]; rfl) ?_) (rows_apply b i o _ 256 _ _ _ (by rw [off1_eq]; rfl) ?_)
    · rw [off2_eq]; simp; omega
    · rw [off1_eq]; simp; omega

theorem A2_apply (h : i.val / 128 = lin c.val / 2) :
    a2 m c b i o = a1 m c b i o + a1 m (q 1 c) b i o := by
  have hq : ∀ c : Dev nD, 256 * (lin (q 1 c).val / 4) + 128 * (1 - lin (q 1 c).val / 2 % 2) = 128 * (lin c.val / 2) := by decide
  have hq := hq c
  have hy : i.val - 128 * (lin c.val / 2) < 128 := by omega
  unfold a2 A2
  refine (wr_at cc0_stg5_0 _ _ _ _ _ (ix3 b (⟨i.val - 128 * (lin c.val / 2), hy⟩ : Fin 128) o) _ _ (off4_eq c) ?_).trans ?_
  · intro a; fin_cases a <;> simp; omega
  · pointwise [k0_pay50, v1, k0_pay49]
    refine congrArg₂ (· + ·) (rows_apply b i o _ 128 _ _ _ (by rw [off4_eq]; rfl) ?_) (rows_apply b i o _ 128 _ _ _ (by rw [off3_eq]; rfl) ?_)
    · rw [off4_eq]; simp; omega
    · rw [off3_eq]; simp; omega

theorem A3_apply (h : i.val / 64 = lin c.val) :
    a3 m c b i o = a2 m c b i o + a2 m (q 0 c) b i o := by
  have hq : ∀ c : Dev nD, 128 * (lin (q 0 c).val / 2) + 64 * (1 - lin (q 0 c).val % 2) = 64 * lin c.val := by decide
  have hq := hq c
  have hy : i.val - 64 * lin c.val < 64 := by omega
  unfold a3 A3
  refine (wr_at cc0_stg5_0 _ _ _ _ _ (ix3 b (⟨i.val - 64 * lin c.val, hy⟩ : Fin 64) o) _ _ (off6_eq c) ?_).trans ?_
  · intro a; fin_cases a <;> simp; omega
  · pointwise [k0_pay52, v2, k0_pay51]
    refine congrArg₂ (· + ·) (rows_apply b i o _ 64 _ _ _ (by rw [off6_eq]; rfl) ?_) (rows_apply b i o _ 64 _ _ _ (by rw [off5_eq]; rfl) ?_)
    · rw [off6_eq]; simp; omega
    · rw [off5_eq]; simp; omega

theorem A0_apply : a0 m c b i o = if b = 0 then s0 m c (ix3 0 i o) else s1 m c (ix3 0 i o) := by
  unfold a0 A0
  by_cases hb : b = 0
  · subst hb
    rw [if_pos rfl]
    refine (wr_out cc0_stg5_0 _ _ _ _ _ _ 0 (by simp)).trans ?_
    refine wr_in cc0_stg5_0 _ _ _ _ _ (ix3 0 i o) _ ?_
    intro a; fin_cases a <;> simp
  · have h1 : b = 1 := by omega
    subst h1
    rw [if_neg hb]
    refine wr_in cc0_stg5_0 _ _ _ _ _ (ix3 0 i o) _ ?_
    intro a; fin_cases a <;> simp

/-- The eight devices that a device's rows come from are all of them. -/
theorem sum_devices (f : Dev nD → EReal) : ∀ c : Dev nD,
    f c + f (q 2 c) + (f (q 1 c) + f (q 2 (q 1 c))) + (f (q 0 c) + f (q 2 (q 0 c)) + (f (q 1 (q 0 c)) + f (q 2 (q 1 (q 0 c))))) = ∑ d, f d := by
  intro c
  have e : ∀ c : Dev nD, (Finset.univ : Finset (Dev nD)).val = {c, q 2 c, q 1 c, q 2 (q 1 c), q 0 c, q 2 (q 0 c), q 1 (q 0 c), q 2 (q 1 (q 0 c))} := by decide
  unfold Finset.sum
  rw [e c]
  simp [add_assoc]

theorem A3_sum (h : i.val / 64 = lin c.val) : a3 m c b i o = ∑ d, a0 m d b i o := by
  have e : ∀ c : Dev nD, lin (q 0 c).val / 2 = lin c.val / 2 ∧ lin (q 1 c).val / 4 = lin c.val / 4 := by decide
  have e0 := e c
  have e1 := e (q 0 c)
  rw [A3_apply m c b i o h, A2_apply m c b i o (by omega), A2_apply m (q 0 c) b i o (by omega), A1_apply m c b i o (by omega),
    A1_apply m (q 1 c) b i o (by omega), A1_apply m (q 0 c) b i o (by omega), A1_apply m (q 1 (q 0 c)) b i o (by omega)]
  exact sum_devices (fun d => a0 m d b i o) c

theorem OUT_apply : (OUT m (ix3 b i o) : EReal) = ∑ d, a0 m d b i o := by
  have ho : i.val / 64 = lin (own i.val).val := (lin_own ⟨i.val / 64, by omega⟩).symm
  rw [← A3_sum m (own i.val) b i o ho]
  unfold OUT
  rw [pay55_apply]
  refine (whole_apply (AG m) _).trans ?_
  unfold AG
  refine (wr_at cc0_scratch4 _ _ _ _ _ (ix3 b (⟨i.val % 64, by omega⟩ : Fin 64) o) _ _ (off6_eq _) ?_).trans ?_
  · intro a; fin_cases a <;> simp; show i.val = 64 * lin (own i.val).val + _; omega
  · pointwise [v3, k0_pay54, k0_pay53]
    refine rows_apply b i o _ 64 _ _ _ (by rw [off6_eq]; rfl) ?_
    rw [off6_eq]; show 64 * lin (own i.val).val + i.val % 64 = _; omega

variable {m} {X : Fin 2 → Fin 512 → Fin 768 → EReal} {Wq : Fin 768 → Fin 4096 → EReal} {K V : Fin 2 → Fin 4096 → Fin 64 → Fin 64 → EReal}
  {Wo : Fin 4096 → Fin 768 → EReal}

/-- Every device's result is the eight partial products' sum. -/
theorem OUT_sum (H : Placed m X Wq K V Wo) : OUT m (ix3 b i o) = ∑ d : Fin 8, (part X Wq K V Wo d b i o : EReal) := by
  rw [OUT_apply]
  refine Finset.sum_congr (M := EReal) rfl fun d _ => ?_
  rw [A0_apply]
  by_cases hb : b = 0
  · subst hb; rw [if_pos rfl]; exact s0_part H d i o
  · have h1 : b = 1 := by omega
    subst h1; rw [if_neg hb]; exact s1_part H d i o

end Cert.Val
-- ==== Proof.Value.Ref.lean ====
module
public import proofs.«01_k».proof.Proof.Gen.ReferenceIdeal.Read
public import proofs.«01_k».proof.Proof.Value.Weights
@[expose] public section

/-!
# The reference's result at an index
-/

set_option maxRecDepth 16384

noncomputable section

namespace Cert.Val

open Cert.ReferenceIdeal Cert.ReferenceIdeal.Gen Cert.ReferenceIdeal.Read
open Idealize.ShloMosaic

variable (x0 : S2x512x768.Idx → EReal) (x1 : S768x4096.Idx → EReal) (x2 x3 : S2x4096x64x64.Idx → EReal) (x4 : S4096x768.Idx → EReal)

/-- The arrays by coordinates. -/
def fX (b : Fin 2) (i : Fin 512) (k : Fin 768) : EReal := x0 (ix3 b i k)
def fW (k : Fin 768) (n : Fin 4096) : EReal := x1 (ix2 k n)
def fK (b : Fin 2) (j : Fin 4096) (h d : Fin 64) : EReal := x2 (ix4 b j h d)
def fO (n : Fin 4096) (o : Fin 768) : EReal := x4 (ix2 n o)

variable (b : Fin 2) (i : Fin 512) (h : Fin 64) (j : Fin 4096)

theorem v12_apply : val_main_v12 (F := Ideal) (ix2 i j) = BitVec.ofBool (decide (near i.val j.val)) := by
  refine Eq.trans ?_ (near_iff (i := i.val) (j := j.val) (by omega) (by omega))
  pointwise [val_main_v12, val_main_v11, val_main_v10, val_main_v9, val_main_v8, val_main_v7, val_main_v6, val_main_v5, val_main_v4, val_main_v3, val_main_c]

theorem v2_apply (d : Fin 64) : val_main_v2 (F := Ideal) x0 x1 (ix4 b i h d) = qry (fX x0) (fW x1) b i (hd h d) := by
  pointwise [val_main_v2, val_main_v1, val_main_v0]
  refine Finset.sum_congr rfl fun k _ => congrArg (x0 (ix3 b i k) * x1 ·) (congrArg (ix2 k) (Fin.ext ?_))
  show h.val * 64 + d.val = 64 * h.val + d.val
  omega

/-- The row of scores. -/
def rr : Fin 4096 → EReal := row i.val (fun d => qry (fX x0) (fW x1) b i (hd h d)) fun j : Fin 4096 => fK x2 b j h

theorem v13_apply : val_main_v13 (F := Ideal) x0 x1 x2 (ix4 b h i j) = ∑ d, qry (fX x0) (fW x1) b i (hd h d) * fK x2 b j h d := by
  pointwise [val_main_v13]
  exact Finset.sum_congr rfl fun d _ => by rw [v2_apply]; rfl

theorem v17_apply : val_main_v17 (F := Ideal) x0 x1 x2 (ix4 b h i j) = rr x0 x1 x2 b i h j := by
  pointwise [val_main_v17, val_main_v15, val_main_v14, val_main_cst, val_main_call0_v1, val_main_call0_v2, val_main_call0_v0, val_main_cst_0, val_main_v16]
  rw [v12_apply, v13_apply]
  unfold rr row
  by_cases hn : near i.val j.val
  · simp [hn, Scalar.select, scale]
  · simp only [hn, decide_false, if_false]; exact ninf

theorem v18_apply : val_main_v18 (F := Ideal) x0 x1 x2 (ix3 b h i) = mx (rr x0 x1 x2 b i h) := by
  pointwise [val_main_v18, val_main_cst_1]
  rw [ninf]
  unfold mx
  exact congrArg (fun f => Finset.fold max ⊥ f Finset.univ) (funext fun j => v17_apply x0 x1 x2 b i h j)

/-- Every row keeps its own column, so the reference's row test holds of every row. -/
theorem v23_apply : val_main_v23 (F := Ideal) (ix1 i) = 1#1 := by
  pointwise [val_main_v23, val_main_c_2]
  have hj : val_main_v12 (F := Ideal) (ix2 i ⟨i.val, by omega⟩) = 1#1 := by
    rw [v12_apply]; simp [near]
  rw [← Finset.insert_erase (Finset.mem_univ (⟨i.val, by omega⟩ : Fin 4096)), Finset.fold_insert (Finset.notMem_erase _ _), hj]
  generalize Finset.fold IntOp.ori _ _ _ = z
  revert z; decide

theorem v22_apply : val_main_v22 (F := Ideal) x0 x1 x2 (ix4 b h i j) = Ideal.exp (rr x0 x1 x2 b i h j - mx (rr x0 x1 x2 b i h)) := by
  pointwise [val_main_v22, val_main_v21, val_main_v20, val_main_v19]
  rw [v17_apply, v18_apply]

theorem v25_apply : val_main_v25 (F := Ideal) x0 x1 x2 (ix3 b h i) = den (rr x0 x1 x2 b i h) := by
  pointwise [val_main_v25, val_main_cst_3]
  exact Finset.sum_congr rfl fun j _ => v22_apply x0 x1 x2 b i h j

theorem v27_apply : val_main_v27 (F := Ideal) x0 x1 x2 (ix4 b h i 0) = den (rr x0 x1 x2 b i h) := by
  have e : val_main_call1_v1 (F := Ideal) (ix4 b h i 0) = 1#1 := by
    rw [val_main_call1_v1_apply, val_main_v24_apply]
    exact (congrArg _ (funext fun a => Fin.ext (by fin_cases a; rfl))).trans (v23_apply i)
  rw [val_main_v27_apply, e]
  show val_main_v26 (F := Ideal) x0 x1 x2 (ix4 b h i 0) = _
  rw [val_main_v26_apply]
  exact (congrArg _ (funext fun a => Fin.ext (by fin_cases a <;> rfl))).trans (v25_apply x0 x1 x2 b i h)

theorem v31_apply : val_main_v31 (F := Ideal) x0 x1 x2 (ix4 b h i j) = wt (rr x0 x1 x2 b i h) j := by
  have e : val_main_call2_v1 (F := Ideal) (ix4 b h i j) = 1#1 := by
    rw [val_main_call2_v1_apply, val_main_v30_apply]
    exact (congrArg _ (funext fun a => Fin.ext (by fin_cases a; rfl))).trans (v23_apply i)
  rw [val_main_v31_apply, e]
  show val_main_v29 (F := Ideal) x0 x1 x2 (ix4 b h i j) = _
  have e28 : val_main_v28 (F := Ideal) x0 x1 x2 (ix4 b h i j) = den (rr x0 x1 x2 b i h) := by
    rw [val_main_v28_apply]
    exact (congrArg _ (funext fun a => Fin.ext (by fin_cases a <;> rfl))).trans (v27_apply x0 x1 x2 b i h)
  rw [val_main_v29_apply, v22_apply, e28]
  rfl

theorem v35_apply (n : Fin 4096) : val_main_v35 (F := Ideal) x0 x1 x2 x3 (ix3 b i n) = ctx (fX x0) (fW x1) (fK x2) (fK x3) 4096 le_rfl b i n := by
  pointwise [val_main_v35, val_main_v34, val_main_v33, val_main_v32]
  unfold ctx att
  refine Finset.sum_congr rfl fun j _ => ?_
  rw [v31_apply]
  exact mul_comm _ _

/-- The reference's result is `res`. -/
theorem v37_apply (o : Fin 768) : val_main_v37 (F := Ideal) x0 x1 x2 x3 x4 (ix3 b i o) = res (fX x0) (fW x1) (fK x2) (fK x3) (fO x4) b i o := by
  pointwise [val_main_v37, val_main_v36]
  exact Finset.sum_congr rfl fun n _ => by rw [v35_apply]; rfl

end Cert.Val
-- ==== Proof.Value.Algebraic.lean ====
module
public import proofs.«01_k».proof.Defs
public import proofs.«01_k».proof.Proof.Gen.Pre_finite_args_KernelIdeal
public import proofs.«01_k».proof.Proof.KernelIdeal.Launch
public import proofs.«01_k».proof.Proof.Value.Butterfly
public import proofs.«01_k».proof.Proof.Value.Ref
@[expose] public section

/-!
# The kernel's result is the reference's

The precondition makes every token, query weight and key of the whole arrays finite; then each device's result, the sum
of the eight partial products, is the reference's.
-/

noncomputable section

namespace Cert.Val

open Idealize.ShloMosaic Idealize.SL.Sem

theorem pinf : Ideal.ofBits .f32 0x7F800000#32 = ⊤ := by simp [Ideal.ofBits, Ideal.ieee]

/-- What the precondition's comparison says of a value. -/
theorem finite_of (x : EReal) (h : Ideal.cmp .olt (max x (-x)) (Ideal.ofBits .f32 0x7F800000#32) = 1#1) : x ≠ ⊤ ∧ x ≠ ⊥ := by
  rw [pinf] at h
  constructor
  · rintro rfl; simp [Ideal.cmp] at h
  · rintro rfl; simp [Ideal.cmp] at h

/-- Every position of an axis of 4096 is in some block. -/
theorem gl_split (n : Fin 4096) : n = gl ⟨n.val / 512, by omega⟩ ⟨n.val % 512, by omega⟩ := Fin.ext (by simp [gl]; omega)

section
variable {m : (ℓ : Loc Cert.KernelIdeal.nD Cert.KernelIdeal.τ Cert.KernelIdeal.sig) → Buf (Elt Ideal) ℓ}
  {X : Fin 2 → Fin 512 → Fin 768 → EReal} {Wq : Fin 768 → Fin 4096 → EReal} {K V : Fin 2 → Fin 4096 → Fin 64 → Fin 64 → EReal}
  {Wo : Fin 4096 → Fin 768 → EReal}

theorem finite_all (H : Placed m X Wq K V Wo) (hp : Cert.Pre_KernelIdeal_finite_args_KernelIdeal m) :
    (∀ b i k, X b i k ≠ ⊤ ∧ X b i k ≠ ⊥) ∧ (∀ k n, Wq k n ≠ ⊤ ∧ Wq k n ≠ ⊥) ∧ ∀ b j h d, K b j h d ≠ ⊤ ∧ K b j h d ≠ ⊥ := by
  refine ⟨fun b i k => ?_, fun k n => ?_, fun b j h d => ?_⟩
  · have h0 := congrFun (hp 0).1 (ix3 b i k)
    rw [← H.x 0 b i k]
    exact finite_of _ h0
  · have h0 := congrFun (hp (⟨n.val / 512, by omega⟩ : Fin 8)).2.1 (ix2 k (⟨n.val % 512, by omega⟩ : Fin 512))
    rw [gl_split n, ← H.wq _ k _]
    exact finite_of _ h0
  · have h0 := congrFun (hp (⟨j.val / 512, by omega⟩ : Fin 8)).2.2 (ix4 b (⟨j.val % 512, by omega⟩ : Fin 512) h d)
    rw [gl_split j, ← H.k _ b _ h d]
    exact finite_of _ h0

theorem blk_col (c : Fin 8) (v : (⟨2, ![768, 4096]⟩ : Shape).Idx → EReal) (k : Fin 768) (n : Fin 512) :
    Layout.block ⟨2, ![768, 512]⟩ ⟨2, ![768, 4096]⟩ 1 8 c v (by decide) (ix2 k n) = v (ix2 k (gl c n)) := by
  refine congrArg v (funext fun a => Fin.ext ?_)
  rw [Layout.Tiles.idx_val]
  fin_cases a <;> simp [gl]; omega

theorem blk_row (c : Fin 8) (v : (⟨2, ![4096, 768]⟩ : Shape).Idx → EReal) (n : Fin 512) (o : Fin 768) :
    Layout.block ⟨2, ![512, 768]⟩ ⟨2, ![4096, 768]⟩ 0 8 c v (by decide) (ix2 n o) = v (ix2 (gl c n) o) := by
  refine congrArg v (funext fun a => Fin.ext ?_)
  rw [Layout.Tiles.idx_val]
  fin_cases a <;> simp [gl]; omega

theorem blk_key (c : Fin 8) (v : (⟨4, ![2, 4096, 64, 64]⟩ : Shape).Idx → EReal) (b : Fin 2) (j : Fin 512) (h d : Fin 64) :
    Layout.block ⟨4, ![2, 512, 64, 64]⟩ ⟨4, ![2, 4096, 64, 64]⟩ 1 8 c v (by decide) (ix4 b j h d) = v (ix4 b (gl c j) h d) := by
  refine congrArg v (funext fun a => Fin.ext ?_)
  rw [Layout.Tiles.idx_val]
  fin_cases a <;> simp [gl]; omega

end

end Cert.Val

namespace Cert.Proof

open Idealize.ShloMosaic Idealize.SL.Sem Cert.Val

theorem algebraic : Cert.algebraic_KernelIdeal_ReferenceIdeal_pre_finite_args_KernelIdeal := by
  intro m g m' g' hp ha
  let l (b) := m' (((0 : Dev Cert.ReferenceIdeal.nD).tc : Thread Cert.ReferenceIdeal.nD Cert.ReferenceIdeal.τ).loc b)
  have H : Placed m (fX (l Cert.ReferenceIdeal.main_arg0)) (fW (l Cert.ReferenceIdeal.main_arg1)) (fK (l Cert.ReferenceIdeal.main_arg2))
      (fK (l Cert.ReferenceIdeal.main_arg3)) (fO (l Cert.ReferenceIdeal.main_arg4)) :=
    { x := fun c b i k => congrFun (ha c).1 (ix3 b i k)
      wq := fun c k n => (congrFun (ha c).2.1 (ix2 k n)).trans (blk_col c _ k n)
      k := fun c b j h d => (congrFun (ha c).2.2.1 (ix4 b j h d)).trans (blk_key c _ b j h d)
      v := fun c b j h d => (congrFun (ha c).2.2.2.1 (ix4 b j h d)).trans (blk_key c _ b j h d)
      wo := fun c n o => (congrFun (ha c).2.2.2.2 (ix2 n o)).trans (blk_row c _ n o) }
  obtain ⟨hX, hW, hK⟩ := finite_all H hp
  have e : Cert.KernelIdeal.Proto.OUT m = Cert.ReferenceIdeal.Read.val_main_v37 (F := Ideal) (l Cert.ReferenceIdeal.main_arg0)
      (l Cert.ReferenceIdeal.main_arg1) (l Cert.ReferenceIdeal.main_arg2) (l Cert.ReferenceIdeal.main_arg3) (l Cert.ReferenceIdeal.main_arg4) := by
    funext i
    obtain ⟨b, n, o, rfl⟩ : ∃ (b : Fin 2) (n : Fin 512) (o : Fin 768), i = ix3 b n o := ⟨i 0, i 1, i 2, (ix3_eta i).symm⟩
    exact (OUT_sum b n o H).trans ((res_eq _ _ _ _ _ hX hW hK b n o).symm.trans (v37_apply _ _ _ _ _ b n o).symm)
  refine ⟨Cert.KernelIdeal.Proto.OUT m, (θ_run Cert.KernelIdeal.defs _ _).mono (fun _ h c => ?_) (Cert.KernelIdeal.Proto.run_main (F := Ideal) m g),
    (θ_run Cert.ReferenceIdeal.defs _ _).mono (fun _ h => ?_) (Cert.ReferenceIdeal.Value.run (F := Ideal) m' g')⟩
  · obtain ⟨h0, h1, h2, h3, h4, h5⟩ := h.1 c
    exact ⟨h5, h0, h1, h2, h3, h4⟩
  · obtain ⟨h5, hr⟩ := h 0
    exact ⟨(h5.trans (Cert.ReferenceIdeal.Read.val_main_v37_eq m' 0)).trans e.symm, hr⟩

end Cert.Proof
-- ==== Proof.lean ====
/- The proof of the claims of Defs.lean: the frames of the three programs, the named constant, and the value claim. -/
module

public import proofs.«01_k».proof.Defs
public import proofs.«01_k».proof.Proof.Gen.ReferenceIdeal.Run
public import proofs.«01_k».proof.Proof.Gen.ReferenceIdeal.Read
public import proofs.«01_k».proof.Proof.Gen.Pre_finite_args_KernelIdeal
public import proofs.«01_k».proof.Proof.Gen.Pre_finite_args_ReferenceIdeal
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_args_KernelIdeal.Gen.facts,
    Cert.Pre_finite_args_ReferenceIdeal.Gen.facts, frame_kernel, frame_ideal, fun m g _ => frame_ideal m g trivial, frame_reference,
    fun m g _ => frame_reference m g trivial, rewrites, algebraic⟩

end Cert.Proof

end
